-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_weights_of_experts [hPre_weights_of_experts : Cert.Pre_weights_of_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_weights_of_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_weights_of_experts [hPre_weights_of_experts : Cert.Pre_weights_of_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_weights_of_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_queries [hPre_finite_queries : Cert.Pre_finite_queries.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_queries.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).1 = (fun _ => 1#1)
    ∧ (Cert.Pre_finite_queries.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_queries [hPre_finite_queries : Cert.Pre_finite_queries.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_queries.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).1 = (fun _ => 1#1)
    ∧ (Cert.Pre_finite_queries.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_sample_queries [hPre_finite_sample_queries : Cert.Pre_finite_sample_queries.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_sample_queries.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite_sample_queries.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_sample_queries [hPre_finite_sample_queries : Cert.Pre_finite_sample_queries.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_sample_queries.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite_sample_queries.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_weights_of_experts [hKernel2Ideal : Cert.Kernel2Ideal.Facts] [hPre_weights_of_experts : Cert.Pre_weights_of_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_weights_of_experts m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_weights_of_experts [hReference2Ideal : Cert.Reference2Ideal.Facts] [hPre_weights_of_experts : Cert.Pre_weights_of_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_weights_of_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite_queries [hKernel10Ideal : Cert.Kernel10Ideal.Facts] [hPre_finite_queries : Cert.Pre_finite_queries.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_queries m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite_queries [hReference10Ideal : Cert.Reference10Ideal.Facts] [hPre_finite_queries : Cert.Pre_finite_queries.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_queries m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_sample_queries [hKernel11Ideal : Cert.Kernel11Ideal.Facts] [hPre_finite_sample_queries : Cert.Pre_finite_sample_queries.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_sample_queries m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_sample_queries [hReference11Ideal : Cert.Reference11Ideal.Facts] [hPre_finite_sample_queries : Cert.Pre_finite_sample_queries.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_sample_queries m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_weights_of_experts [hKernel2Ideal : Cert.Kernel2Ideal.Facts] [hReference2Ideal : Cert.Reference2Ideal.Facts] [hPre_weights_of_experts : Cert.Pre_weights_of_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_weights_of_experts m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite_queries [hKernel10Ideal : Cert.Kernel10Ideal.Facts] [hReference10Ideal : Cert.Reference10Ideal.Facts] [hPre_finite_queries : Cert.Pre_finite_queries.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_queries m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite_sample_queries [hKernel11Ideal : Cert.Kernel11Ideal.Facts] [hReference11Ideal : Cert.Reference11Ideal.Facts] [hPre_finite_sample_queries : Cert.Pre_finite_sample_queries.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_sample_queries m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_scores : Cert.Pre_finite_scores.Facts) (hPre_weights_of_experts : Cert.Pre_weights_of_experts.Facts) (hPre_finite_queries : Cert.Pre_finite_queries.Facts) (hPre_finite_sample_queries : Cert.Pre_finite_sample_queries.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_weights_of_experts (hKernel2Ideal := hKernel2Ideal) (hPre_weights_of_experts := hPre_weights_of_experts)
    ∧ quiescent_Reference2Ideal (hReference2Ideal := hReference2Ideal)
    ∧ quiescent_Reference2Ideal_pre_weights_of_experts (hReference2Ideal := hReference2Ideal) (hPre_weights_of_experts := hPre_weights_of_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_queries (hKernel10Ideal := hKernel10Ideal) (hPre_finite_queries := hPre_finite_queries)
    ∧ quiescent_Reference10Ideal (hReference10Ideal := hReference10Ideal)
    ∧ quiescent_Reference10Ideal_pre_finite_queries (hReference10Ideal := hReference10Ideal) (hPre_finite_queries := hPre_finite_queries)
    ∧ quiescent_Kernel11 (hKernel11 := hKernel11)
    ∧ quiescent_Kernel11Ideal (hKernel11Ideal := hKernel11Ideal)
    ∧ quiescent_Kernel11Ideal_pre_finite_sample_queries (hKernel11Ideal := hKernel11Ideal) (hPre_finite_sample_queries := hPre_finite_sample_queries)
    ∧ quiescent_Reference11Ideal (hReference11Ideal := hReference11Ideal)
    ∧ quiescent_Reference11Ideal_pre_finite_sample_queries (hReference11Ideal := hReference11Ideal) (hPre_finite_sample_queries := hPre_finite_sample_queries)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_weights_of_experts (hKernel2Ideal := hKernel2Ideal) (hReference2Ideal := hReference2Ideal) (hPre_weights_of_experts := hPre_weights_of_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_queries (hKernel10Ideal := hKernel10Ideal) (hReference10Ideal := hReference10Ideal) (hPre_finite_queries := hPre_finite_queries)
    ∧ preserves_Kernel11_Kernel11Ideal
    ∧ algebraic_Kernel11Ideal_Reference11Ideal_pre_finite_sample_queries (hKernel11Ideal := hKernel11Ideal) (hReference11Ideal := hReference11Ideal) (hPre_finite_sample_queries := hPre_finite_sample_queries)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_queries.lean ====
abbrev S16896x1024 : Shape := ⟨2, ![16896, 1024]⟩
abbrev S1x256x1024 : Shape := ⟨3, ![1, 256, 1024]⟩
abbrev S16384x1024 : Shape := ⟨2, ![16384, 1024]⟩
abbrev S_ : Shape := ⟨0, ![]⟩

class Facts : Prop where
  slices_S16896x1024_S16384x1024_0_0 : S16896x1024.Slices ![0, 0] S16384x1024
  bitsLt_bf16_f32 : FTy.bits .bf16 < FTy.bits .f32
  bcast_S_S16384x1024 : S_.BroadcastsInDim S16384x1024 (![] : Fin 0 → Fin S16384x1024.rank)
  bcast_S_S1x256x1024 : S_.BroadcastsInDim S1x256x1024 (![] : Fin 0 → Fin S1x256x1024.rank)

variable [Facts]

def fn {F : FTy → Type} [FloatOps F] (main_arg0 : FVec F S16896x1024 .bf16) (main_arg1 : FVec F S1x256x1024 .f32) (main_arg2 : FVec F S1x256x1024 .f32) : IVec S16384x1024 1 × IVec S1x256x1024 1 :=
  let main_v0 : FVec F S16384x1024 .bf16 := (extractStridedSlice S16384x1024 ![0, 0] · slices_S16896x1024_S16384x1024_0_0) main_arg0
  let main_v1 : FVec F S16384x1024 .f32 := (extf .f32 · bitsLt_bf16_f32) main_v0
  let main_cst : FVec F S_ .f32 := constant S_ .f32 0xFF800000#32
  let main_v2 : FVec F S16384x1024 .f32 := broadcastInDim S16384x1024 ![] bcast_S_S16384x1024 main_cst
  let main_v3 : IVec S16384x1024 1 := cmpf .ogt main_v1 main_v2
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v1 main_v4
  let main_v6 : IVec S16384x1024 1 := andi main_v3 main_v5
  let main_cst_1 : FVec F S_ .f32 := constant S_ .f32 0xFF800000#32
  let main_v7 : FVec F S1x256x1024 .f32 := broadcastInDim S1x256x1024 ![] bcast_S_S1x256x1024 main_cst_1
  let main_v8 : IVec S1x256x1024 1 := cmpf .ogt main_arg1 main_v7
  let main_cst_2 : FVec F S_ .f32 := constant S_ .f32 0x7F800000#32
  let main_v9 : FVec F S1x256x1024 .f32 := broadcastInDim S1x256x1024 ![] bcast_S_S1x256x1024 main_cst_2
  let main_v10 : IVec S1x256x1024 1 := cmpf .olt main_arg1 main_v9
  let main_v11 : IVec S1x256x1024 1 := andi main_v8 main_v10
  (main_v6, main_v11)
-- ==== Pre_finite_sample_queries.lean ====
abbrev S16896x1024 : Shape := ⟨2, ![16896, 1024]⟩
abbrev S32x256x1024 : Shape := ⟨3, ![32, 256, 1024]⟩
abbrev S512x1024 : Shape := ⟨2, ![512, 1024]⟩
abbrev S_ : Shape := ⟨0, ![]⟩

class Facts : Prop where
  slices_S16896x1024_S512x1024_16384_0 : S16896x1024.Slices ![16384, 0] S512x1024
  bitsLt_bf16_f32 : FTy.bits .bf16 < FTy.bits .f32
  bcast_S_S512x1024 : S_.BroadcastsInDim S512x1024 (![] : Fin 0 → Fin S512x1024.rank)
  bcast_S_S32x256x1024 : S_.BroadcastsInDim S32x256x1024 (![] : Fin 0 → Fin S32x256x1024.rank)

variable [Facts]

def fn {F : FTy → Type} [FloatOps F] (main_arg0 : FVec F S16896x1024 .bf16) (main_arg1 : FVec F S32x256x1024 .f32) (main_arg2 : FVec F S32x256x1024 .f32) : IVec S512x1024 1 × IVec S32x256x1024 1 :=
  let main_v0 : FVec F S512x1024 .bf16 := (extractStridedSlice S512x1024 ![16384, 0] · slices_S16896x1024_S512x1024_16384_0) main_arg0
  let main_v1 : FVec F S512x1024 .f32 := (extf .f32 · bitsLt_bf16_f32) main_v0
  let main_cst : FVec F S_ .f32 := constant S_ .f32 0xFF800000#32
  let main_v2 : FVec F S512x1024 .f32 := broadcastInDim S512x1024 ![] bcast_S_S512x1024 main_cst
  let main_v3 : IVec S512x1024 1 := cmpf .ogt main_v1 main_v2
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v1 main_v4
  let main_v6 : IVec S512x1024 1 := andi main_v3 main_v5
  let main_cst_1 : FVec F S_ .f32 := constant S_ .f32 0xFF800000#32
  let main_v7 : FVec F S32x256x1024 .f32 := broadcastInDim S32x256x1024 ![] bcast_S_S32x256x1024 main_cst_1
  let main_v8 : IVec S32x256x1024 1 := cmpf .ogt main_arg1 main_v7
  let main_cst_2 : FVec F S_ .f32 := constant S_ .f32 0x7F800000#32
  let main_v9 : FVec F S32x256x1024 .f32 := broadcastInDim S32x256x1024 ![] bcast_S_S32x256x1024 main_cst_2
  let main_v10 : IVec S32x256x1024 1 := cmpf .olt main_arg1 main_v9
  let main_v11 : IVec S32x256x1024 1 := andi main_v8 main_v10
  (main_v6, main_v11)
-- ==== Pre_finite_scores.lean ====
abbrev S16896x3072 : Shape := ⟨2, ![16896, 3072]⟩
abbrev S16x1x16384 : Shape := ⟨3, ![16, 1, 16384]⟩
abbrev S16384x2048 : Shape := ⟨2, ![16384, 2048]⟩
abbrev S_ : Shape := ⟨0, ![]⟩

class Facts : Prop where
  slices_S16896x3072_S16384x2048_0_0 : S16896x3072.Slices ![0, 0] S16384x2048
  bitsLt_bf16_f32 : FTy.bits .bf16 < FTy.bits .f32
  bcast_S_S16384x2048 : S_.BroadcastsInDim S16384x2048 (![] : Fin 0 → Fin S16384x2048.rank)
  bcast_S_S16x1x16384 : S_.BroadcastsInDim S16x1x16384 (![] : Fin 0 → Fin S16x1x16384.rank)

variable [Facts]

def fn {F : FTy → Type} [FloatOps F] (main_arg0 : FVec F S16896x3072 .bf16) (main_arg1 : FVec F S16x1x16384 .f32) : IVec S16384x2048 1 × IVec S16x1x16384 1 :=
  let main_v0 : FVec F S16384x2048 .bf16 := (extractStridedSlice S16384x2048 ![0, 0] · slices_S16896x3072_S16384x2048_0_0) main_arg0
  let main_v1 : FVec F S16384x2048 .f32 := (extf .f32 · bitsLt_bf16_f32) main_v0
  let main_cst : FVec F S_ .f32 := constant S_ .f32 0xFF800000#32
  let main_v2 : FVec F S16384x2048 .f32 := broadcastInDim S16384x2048 ![] bcast_S_S16384x2048 main_cst
  let main_v3 : IVec S16384x2048 1 := cmpf .ogt main_v1 main_v2
  let main_cst_0 : FVec F S_ .f32 := constant S_ .f32 0x7F800000#32
  let main_v4 : FVec F S16384x2048 .f32 := broadcastInDim S16384x2048 ![] bcast_S_S16384x2048 main_cst_0
  let main_v5 : IVec S16384x2048 1 := cmpf .olt main_v1 main_v4
  let main_v6 : IVec S16384x2048 1 := andi main_v3 main_v5
  let main_cst_1 : FVec F S_ .f32 := constant S_ .f32 0xFF800000#32
  let main_v7 : FVec F S16x1x16384 .f32 := broadcastInDim S16x1x16384 ![] bcast_S_S16x1x16384 main_cst_1
  let main_v8 : IVec S16x1x16384 1 := cmpf .ogt main_arg1 main_v7
  let main_cst_2 : FVec F S_ .f32 := constant S_ .f32 0x7F800000#32
  let main_v9 : FVec F S16x1x16384 .f32 := broadcastInDim S16x1x16384 ![] bcast_S_S16x1x16384 main_cst_2
  let main_v10 : IVec S16x1x16384 1 := cmpf .olt main_arg1 main_v9
  let main_v11 : IVec S16x1x16384 1 := andi main_v8 main_v10
  (main_v6, main_v11)
-- ==== Pre_weights_of_experts.lean ====
abbrev S16896x1024 : Shape := ⟨2, ![16896, 1024]⟩
abbrev S8x16896x1 : Shape := ⟨3, ![8, 16896, 1]⟩
abbrev S8x1024x2816 : Shape := ⟨3, ![8, 1024, 2816]⟩
abbrev S8x2816x1024 : Shape := ⟨3, ![8, 2816, 1024]⟩
abbrev S1024 : Shape := ⟨1, ![1024]⟩
abbrev S_ : Shape := ⟨0, ![]⟩

class Facts : Prop where
  bcast_S_S8x16896x1 : S_.BroadcastsInDim S8x16896x1 (![] : Fin 0 → Fin S8x16896x1.rank)

variable [Facts]

def fn {F : FTy → Type} [FloatOps F] (main_arg0 : FVec F S16896x1024 .f32) (main_arg1 : FVec F S8x16896x1 .f32) (main_arg2 : FVec F S8x1024x2816 .f32) (main_arg3 : FVec F S8x1024x2816 .f32) (main_arg4 : FVec F S8x2816x1024 .f32) (main_arg5 : FVec F S1024 .f32) (main_arg6 : FVec F S1024 .f32) : IVec S8x16896x1 1 :=
  let main_cst : FVec F S_ .f32 := constant S_ .f32 0x00000000#32
  let main_v0 : FVec F S8x16896x1 .f32 := broadcastInDim S8x16896x1 ![] bcast_S_S8x16896x1 main_cst
  let main_v1 : IVec S8x16896x1 1 := cmpf .oge main_arg1 main_v0
  let main_cst_0 : FVec F S_ .f32 := constant S_ .f32 0x7F800000#32
  let main_v2 : FVec F S8x16896x1 .f32 := broadcastInDim S8x16896x1 ![] bcast_S_S8x16896x1 main_cst_0
  let main_v3 : IVec S8x16896x1 1 := cmpf .olt main_arg1 main_v2
  let main_v4 : IVec S8x16896x1 1 := andi main_v1 main_v3
  main_v4
-- ==== Kernel.lean ====
abbrev S16896x3072 : Shape := ⟨2, ![16896, 3072]⟩
abbrev S16x1x16384 : Shape := ⟨3, ![16, 1, 16384]⟩
abbrev S16384x1024 : Shape := ⟨2, ![16384, 1024]⟩
abbrev S512x128 : Shape := ⟨2, ![512, 128]⟩
abbrev S16384x128 : Shape := ⟨2, ![16384, 128]⟩
abbrev S2x1x16384 : Shape := ⟨3, ![2, 1, 16384]⟩
abbrev S2x1x512 : Shape := ⟨3, ![2, 1, 512]⟩
abbrev S1x128 : Shape := ⟨2, ![1, 128]⟩
abbrev S512x512 : Shape := ⟨2, ![512, 512]⟩
abbrev S1x1x1 : Shape := ⟨3, ![1, 1, 1]⟩
abbrev S1x1 : Shape := ⟨2, ![1, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩

abbrev nBuf : Space → Nat
  | .hbm => 3
  | .vmem => 12
  | .smem => 0
  | _ => 0

abbrev bufTy : (tb : Table) → Fin (tcTables nBuf tb) → BufTy
  | .hbm, ⟨0, _⟩ => ⟨S16896x3072, .bf16⟩
  | .hbm, ⟨1, _⟩ => ⟨S16x1x16384, .f32⟩
  | .hbm, ⟨2, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S2x1x16384, .f32⟩
  | .local _ .vmem, ⟨7, _⟩ => ⟨S2x1x16384, .f32⟩
  | .local _ .vmem, ⟨8, _⟩ => ⟨S2x1x512, .f32⟩
  | .local _ .vmem, ⟨9, _⟩ => ⟨S2x1x512, .f32⟩
  | .local _ .vmem, ⟨10, _⟩ => ⟨S512x128, .bf16⟩
  | .local _ .vmem, ⟨11, _⟩ => ⟨S512x128, .bf16⟩
  | _, _ => ⟨S16896x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_8 : BitVec 32 := 0#32
  let arg1 : BitVec 32 := BitVec.ofNat 32 (i 1).val
  let v24 : BitVec 32 := Scalar.subi arg1 c0_i32_8
  let c1_i32 : BitVec 32 := 1#32
  let v26 : BitVec 32 := Scalar.divsi v24 c1_i32
  let v27 : BitVec 32 := Scalar.muli v26 c1_i32
  let v28 : BitVec 32 := Scalar.addi c0_i32_8 v27
  let c1_i32_9 : BitVec 32 := 1#32
  ⟨c0_i32_8, v28, c1_i32_9⟩
def k0_mult1 (i : grid0.Coords) (k0_t1 : Fin (k0_t1_loop i).trips) : BitVec 32 :=
  let c0_i32_8 : BitVec 32 := 0#32
  let c1_i32_9 : BitVec 32 := 1#32
  let arg8 : BitVec 32 := Scf.iv c0_i32_8 c1_i32_9 k0_t1
  let c512_i32_44 : BitVec 32 := 512#32
  let v126 : BitVec 32 := Scalar.muli arg8 c512_i32_44
  v126
def k0_off1 (i : grid0.Coords) (k0_t1 : Fin (k0_t1_loop i).trips) : Fin 2 → Nat :=
  let c0_i32_8 : BitVec 32 := 0#32
  let c1_i32_9 : BitVec 32 := 1#32
  let arg8 : BitVec 32 := Scf.iv c0_i32_8 c1_i32_9 k0_t1
  let c512_i32_44 : BitVec 32 := 512#32
  let v126 : BitVec 32 := Scalar.muli arg8 c512_i32_44
  let v127 : BitVec 32 := v126
  let v128 : Index := Scalar.indexCast v127
  let c0_45 : Index := 0#32
  ![v128.toNat, 0]
def k0_off2 (i : grid0.Coords) (k0_t1 : Fin (k0_t1_loop i).trips) : Fin 3 → Nat :=
  let c0_47 : Index := 0#32
  let c0_48 : Index := 0#32
  let c0_i32_8 : BitVec 32 := 0#32
  let c1_i32_9 : BitVec 32 := 1#32
  let arg8 : BitVec 32 := Scf.iv c0_i32_8 c1_i32_9 k0_t1
  let c512_i32_44 : BitVec 32 := 512#32
  let v126 : BitVec 32 := Scalar.muli arg8 c512_i32_44
  let v127 : BitVec 32 := v126
  let v132 : Index := Scalar.indexCast v127
  ![0, 0, v132.toNat]
@[reducible] def k0_t2_loop (i : grid0.Coords) : Scf.Loop 32 :=
  let c0_i32_8 : BitVec 32 := 0#32
  let arg1 : BitVec 32 := BitVec.ofNat 32 (i 1).val
  let v24 : BitVec 32 := Scalar.subi arg1 c0_i32_8
  let c1_i32 : BitVec 32 := 1#32
  let v26 : BitVec 32 := Scalar.divsi v24 c1_i32
  let v27 : BitVec 32 := Scalar.muli v26 c1_i32
  let v28 : BitVec 32 := Scalar.addi c0_i32_8 v27
  let v25 : BitVec 32 := Scalar.addi c0_i32_8 v24
  let c1_i32_10 : BitVec 32 := 1#32
  ⟨v28, v25, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let v24 : BitVec 32 := Scalar.subi arg1 c0_i32_8
  let c1_i32 : BitVec 32 := 1#32
  let v26 : BitVec 32 := Scalar.divsi v24 c1_i32
  let v27 : BitVec 32 := Scalar.muli v26 c1_i32
  let v28 : BitVec 32 := Scalar.addi c0_i32_8 v27
  let c1_i32_10 : BitVec 32 := 1#32
  let arg8 : BitVec 32 := Scf.iv v28 c1_i32_10 k0_t2
  let c512_i32_44 : BitVec 32 := 512#32
  let v126 : BitVec 32 := Scalar.muli arg8 c512_i32_44
  v126
def k0_off3 (i : grid0.Coords) (k0_t2 : Fin (k0_t2_loop i).trips) : Fin 2 → Nat :=
  let c0_i32_8 : BitVec 32 := 0#32
  let arg1 : BitVec 32 := BitVec.ofNat 32 (i 1).val
  let v24 : BitVec 32 := Scalar.subi arg1 c0_i32_8
  let c1_i32 : BitVec 32 := 1#32
  let v26 : BitVec 32 := Scalar.divsi v24 c1_i32
  let v27 : BitVec 32 := Scalar.muli v26 c1_i32
  let v28 : BitVec 32 := Scalar.addi c0_i32_8 v27
  let c1_i32_10 : BitVec 32 := 1#32
  let arg8 : BitVec 32 := Scf.iv v28 c1_i32_10 k0_t2
  let c512_i32_44 : BitVec 32 := 512#32
  let v126 : BitVec 32 := Scalar.muli arg8 c512_i32_44
  let v127 : BitVec 32 := v126
  let v128 : Index := Scalar.indexCast v127
  let c0_45 : Index := 0#32
  ![v128.toNat, 0]
def k0_off4 (i : grid0.Coords) (k0_t2 : Fin (k0_t2_loop i).trips) : Fin 3 → Nat :=
  let c0_47 : Index := 0#32
  let c0_48 : Index := 0#32
  let c0_i32_8 : BitVec 32 := 0#32
  let arg1 : BitVec 32 := BitVec.ofNat 32 (i 1).val
  let v24 : BitVec 32 := Scalar.subi arg1 c0_i32_8
  let c1_i32 : BitVec 32 := 1#32
  let v26 : BitVec 32 := Scalar.divsi v24 c1_i32
  let v27 : BitVec 32 := Scalar.muli v26 c1_i32
  let v28 : BitVec 32 := Scalar.addi c0_i32_8 v27
  let c1_i32_10 : BitVec 32 := 1#32
  let arg8 : BitVec 32 := Scf.iv v28 c1_i32_10 k0_t2
  let c512_i32_44 : BitVec 32 := 512#32
  let v126 : BitVec 32 := Scalar.muli arg8 c512_i32_44
  let v127 : BitVec 32 := v126
  let v132 : Index := Scalar.indexCast v127
  ![0, 0, v132.toNat]
def k0_mult3 (i : grid0.Coords) : BitVec 32 :=
  let arg1 : BitVec 32 := BitVec.ofNat 32 (i 1).val
  let c512_i32 : BitVec 32 := 512#32
  let v31 : BitVec 32 := Scalar.muli arg1 c512_i32
  v31
def k0_off5 (i : grid0.Coords) : Fin 2 → Nat :=
  let arg1 : BitVec 32 := BitVec.ofNat 32 (i 1).val
  let c512_i32 : BitVec 32 := 512#32
  let v31 : BitVec 32 := Scalar.muli arg1 c512_i32
  let v32 : BitVec 32 := v31
  let v33 : Index := Scalar.indexCast v32
  let c0_11 : Index := 0#32
  ![v33.toNat, 0]
def k0_off6 (i : grid0.Coords) : Fin 3 → Nat :=
  let c0_13 : Index := 0#32
  let c0_14 : Index := 0#32
  let arg1 : BitVec 32 := BitVec.ofNat 32 (i 1).val
  let c512_i32 : BitVec 32 := 512#32
  let v31 : BitVec 32 := Scalar.muli arg1 c512_i32
  let v32 : BitVec 32 := v31
  let v37 : Index := Scalar.indexCast v32
  ![0, 0, v37.toNat]
@[reducible] def k0_t3_loop (i : grid0.Coords) : Scf.Loop 32 :=
  let c0_i32_27 : BitVec 32 := 0#32
  let arg1 : BitVec 32 := BitVec.ofNat 32 (i 1).val
  let v77 : BitVec 32 := Scalar.subi arg1 c0_i32_27
  let c1_i32_28 : BitVec 32 := 1#32
  let v79 : BitVec 32 := Scalar.divsi v77 c1_i32_28
  let v80 : BitVec 32 := Scalar.muli v79 c1_i32_28
  let v81 : BitVec 32 := Scalar.addi c0_i32_27 v80
  let c1_i32_29 : BitVec 32 := 1#32
  ⟨c0_i32_27, v81, c1_i32_29⟩
def k0_mult4 (i : grid0.Coords) (k0_t3 : Fin (k0_t3_loop i).trips) : BitVec 32 :=
  let c0_i32_27 : BitVec 32 := 0#32
  let c1_i32_29 : BitVec 32 := 1#32
  let arg8 : BitVec 32 := Scf.iv c0_i32_27 c1_i32_29 k0_t3
  let c512_i32_44 : BitVec 32 := 512#32
  let v126 : BitVec 32 := Scalar.muli arg8 c512_i32_44
  v126
def k0_off7 (i : grid0.Coords) (k0_t3 : Fin (k0_t3_loop i).trips) : Fin 2 → Nat :=
  let c0_i32_27 : BitVec 32 := 0#32
  let c1_i32_29 : BitVec 32 := 1#32
  let arg8 : BitVec 32 := Scf.iv c0_i32_27 c1_i32_29 k0_t3
  let c512_i32_44 : BitVec 32 := 512#32
  let v126 : BitVec 32 := Scalar.muli arg8 c512_i32_44
  let v127 : BitVec 32 := v126
  let v128 : Index := Scalar.indexCast v127
  let c0_45 : Index := 0#32
  ![v128.toNat, 0]
def k0_off8 (i : grid0.Coords) (k0_t3 : Fin (k0_t3_loop i).trips) : Fin 3 → Nat :=
  let c1_47 : Index := 1#32
  let c0_48 : Index := 0#32
  let c0_i32_27 : BitVec 32 := 0#32
  let c1_i32_29 : BitVec 32 := 1#32
  let arg8 : BitVec 32 := Scf.iv c0_i32_27 c1_i32_29 k0_t3
  let c512_i32_44 : BitVec 32 := 512#32
  let v126 : BitVec 32 := Scalar.muli arg8 c512_i32_44
  let v127 : BitVec 32 := v126
  let v132 : Index := Scalar.indexCast v127
  ![1, 0, v132.toNat]
@[reducible] def k0_t4_loop (i : grid0.Coords) : Scf.Loop 32 :=
  let c0_i32_27 : BitVec 32 := 0#32
  let arg1 : BitVec 32 := BitVec.ofNat 32 (i 1).val
  let v77 : BitVec 32 := Scalar.subi arg1 c0_i32_27
  let c1_i32_28 : BitVec 32 := 1#32
  let v79 : BitVec 32 := Scalar.divsi v77 c1_i32_28
  let v80 : BitVec 32 := Scalar.muli v79 c1_i32_28
  let v81 : BitVec 32 := Scalar.addi c0_i32_27 v80
  let v78 : BitVec 32 := Scalar.addi c0_i32_27 v77
  let c1_i32_30 : BitVec 32 := 1#32
  ⟨v81, v78, c1_i32_30⟩
def k0_mult5 (i : grid0.Coords) (k0_t4 : Fin (k0_t4_loop i).trips) : BitVec 32 :=
  let c0_i32_27 : BitVec 32 := 0#32
  let arg1 : BitVec 32 := BitVec.ofNat 32 (i 1).val
  let v77 : BitVec 32 := Scalar.subi arg1 c0_i32_27
  let c1_i32_28 : BitVec 32 := 1#32
  let v79 : BitVec 32 := Scalar.divsi v77 c1_i32_28
  let v80 : BitVec 32 := Scalar.muli v79 c1_i32_28
  let v81 : BitVec 32 := Scalar.addi c0_i32_27 v80
  let c1_i32_30 : BitVec 32 := 1#32
  let arg8 : BitVec 32 := Scf.iv v81 c1_i32_30 k0_t4
  let c512_i32_44 : BitVec 32 := 512#32
  let v126 : BitVec 32 := Scalar.muli arg8 c512_i32_44
  v126
def k0_off9 (i : grid0.Coords) (k0_t4 : Fin (k0_t4_loop i).trips) : Fin 2 → Nat :=
  let c0_i32_27 : BitVec 32 := 0#32
  let arg1 : BitVec 32 := BitVec.ofNat 32 (i 1).val
  let v77 : BitVec 32 := Scalar.subi arg1 c0_i32_27
  let c1_i32_28 : BitVec 32 := 1#32
  let v79 : BitVec 32 := Scalar.divsi v77 c1_i32_28
  let v80 : BitVec 32 := Scalar.muli v79 c1_i32_28
  let v81 : BitVec 32 := Scalar.addi c0_i32_27 v80
  let c1_i32_30 : BitVec 32 := 1#32
  let arg8 : BitVec 32 := Scf.iv v81 c1_i32_30 k0_t4
  let c512_i32_44 : BitVec 32 := 512#32
  let v126 : BitVec 32 := Scalar.muli arg8 c512_i32_44
  let v127 : BitVec 32 := v126
  let v128 : Index := Scalar.indexCast v127
  let c0_45 : Index := 0#32
  ![v128.toNat, 0]
def k0_off10 (i : grid0.Coords) (k0_t4 : Fin (k0_t4_loop i).trips) : Fin 3 → Nat :=
  let c1_47 : Index := 1#32
  let c0_48 : Index := 0#32
  let c0_i32_27 : BitVec 32 := 0#32
  let arg1 : BitVec 32 := BitVec.ofNat 32 (i 1).val
  let v77 : BitVec 32 := Scalar.subi arg1 c0_i32_27
  let c1_i32_28 : BitVec 32 := 1#32
  let v79 : BitVec 32 := Scalar.divsi v77 c1_i32_28
  let v80 : BitVec 32 := Scalar.muli v79 c1_i32_28
  let v81 : BitVec 32 := Scalar.addi c0_i32_27 v80
  let c1_i32_30 : BitVec 32 := 1#32
  let arg8 : BitVec 32 := Scf.iv v81 c1_i32_30 k0_t4
  let c512_i32_44 : BitVec 32 := 512#32
  let v126 : BitVec 32 := Scalar.muli arg8 c512_i32_44
  let v127 : BitVec 32 := v126
  let v132 : Index := Scalar.indexCast v127
  ![1, 0, v132.toNat]
def k0_mult6 (i : grid0.Coords) : BitVec 32 :=
  let arg1 : BitVec 32 := BitVec.ofNat 32 (i 1).val
  let c512_i32_31 : BitVec 32 := 512#32
  let v84 : BitVec 32 := Scalar.muli arg1 c512_i32_31
  v84
def k0_off11 (i : grid0.Coords) : Fin 3 → Nat :=
  let c1_34 : Index := 1#32
  let c0_35 : Index := 0#32
  let arg1 : BitVec 32 := BitVec.ofNat 32 (i 1).val
  let c512_i32_31 : BitVec 32 := 512#32
  let v84 : BitVec 32 := Scalar.muli arg1 c512_i32_31
  let v85 : BitVec 32 := v84
  let v90 : Index := Scalar.indexCast v85
  ![1, 0, v90.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16896x3072 : Shape := ⟨2, ![16896, 3072]⟩
abbrev S16x1x16384 : Shape := ⟨3, ![16, 1, 16384]⟩
abbrev S16384x3072 : Shape := ⟨2, ![16384, 3072]⟩
abbrev S16384x1024 : Shape := ⟨2, ![16384, 1024]⟩
abbrev S16384x16x64 : Shape := ⟨3, ![16384, 16, 64]⟩
abbrev S16x16384 : Shape := ⟨2, ![16, 16384]⟩
abbrev S16384 : Shape := ⟨1, ![16384]⟩
abbrev S16x16384x16384 : Shape := ⟨3, ![16, 16384, 16384]⟩
abbrev S_ : Shape := ⟨0, ![]⟩
abbrev S16x16384x1 : Shape := ⟨3, ![16, 16384, 1]⟩
abbrev S1x16384 : Shape := ⟨2, ![1, 16384]⟩
abbrev S16384x1 : Shape := ⟨2, ![16384, 1]⟩
abbrev S16384x16384 : Shape := ⟨2, ![16384, 16384]⟩
abbrev S16x64x16384 : Shape := ⟨3, ![16, 64, 16384]⟩

abbrev nBuf : Space → Nat
  | .hbm => 52
  | .vmem => 0
  | .smem => 0
  | _ => 0

abbrev bufTy : (tb : Table) → Fin (tcTables nBuf tb) → BufTy
  | .hbm, ⟨0, _⟩ => ⟨S16896x3072, .bf16⟩
  | .hbm, ⟨1, _⟩ => ⟨S16x1x16384, .f32⟩
  | .hbm, ⟨2, _⟩ => ⟨S16384x3072, .bf16⟩
  | .hbm, ⟨3, _⟩ => ⟨S16384x3072, .f32⟩
  | .hbm, ⟨4, _⟩ => ⟨S16384x1024, .f32⟩
  | .hbm, ⟨5, _⟩ => ⟨S16384x16x64, .f32⟩
  | .hbm, ⟨6, _⟩ => ⟨S16384x1024, .f32⟩
  | .hbm, ⟨7, _⟩ => ⟨S16384x16x64, .f32⟩
  | .hbm, ⟨8, _⟩ => ⟨S16384x1024, .f32⟩
  | .hbm, ⟨9, _⟩ => ⟨S16384x16x64, .f32⟩
  | .hbm, ⟨10, _⟩ => ⟨S16x16384, .f32⟩
  | .hbm, ⟨11, _⟩ => ⟨S16384, .i32⟩
  | .hbm, ⟨12, _⟩ => ⟨S16x16384x16384, .f32⟩
  | .hbm, ⟨13, _⟩ => ⟨S_, .f32⟩
  | .hbm, ⟨14, _⟩ => ⟨S16x16384x16384, .f32⟩
  | .hbm, ⟨15, _⟩ => ⟨S16x16384x16384, .f32⟩
  | .hbm, ⟨16, _⟩ => ⟨S16x16384x1, .f32⟩
  | .hbm, ⟨17, _⟩ => ⟨S16x16384x16384, .f32⟩
  | .hbm, ⟨18, _⟩ => ⟨S16x16384x16384, .f32⟩
  | .hbm, ⟨19, _⟩ => ⟨S16x1x16384, .f32⟩
  | .hbm, ⟨20, _⟩ => ⟨S16x16384x16384, .f32⟩
  | .hbm, ⟨21, _⟩ => ⟨S16x16384x16384, .f32⟩
  | .hbm, ⟨22, _⟩ => ⟨S1x16384, .i32⟩
  | .hbm, ⟨23, _⟩ => ⟨S16384x1, .i32⟩
  | .hbm, ⟨24, _⟩ => ⟨S16384x16384, .i32⟩
  | .hbm, ⟨25, _⟩ => ⟨S16384x16384, .i32⟩
  | .hbm, ⟨26, _⟩ => ⟨S16384x16384, .i1⟩
  | .hbm, ⟨27, _⟩ => ⟨S_, .f32⟩
  | .hbm, ⟨28, _⟩ => ⟨S_, .f32⟩
  | .hbm, ⟨29, _⟩ => ⟨S16x16384x16384, .i1⟩
  | .hbm, ⟨30, _⟩ => ⟨S16x16384x16384, .f32⟩
  | .hbm, ⟨31, _⟩ => ⟨S16x16384x16384, .f32⟩
  | .hbm, ⟨32, _⟩ => ⟨S_, .f32⟩
  | .hbm, ⟨33, _⟩ => ⟨S16x16384, .f32⟩
  | .hbm, ⟨34, _⟩ => ⟨S_, .f32⟩
  | .hbm, ⟨35, _⟩ => ⟨S16x16384, .f32⟩
  | .hbm, ⟨36, _⟩ => ⟨S16x16384, .f32⟩
  | .hbm, ⟨37, _⟩ => ⟨S16x16384x1, .f32⟩
  | .hbm, ⟨38, _⟩ => ⟨S16x16384x16384, .f32⟩
  | .hbm, ⟨39, _⟩ => ⟨S16x16384x16384, .f32⟩
  | .hbm, ⟨40, _⟩ => ⟨S16x16384x16384, .f32⟩
  | .hbm, ⟨41, _⟩ => ⟨S_, .f32⟩
  | .hbm, ⟨42, _⟩ => ⟨S16x16384, .f32⟩
  | .hbm, ⟨43, _⟩ => ⟨S16x16384x1, .f32⟩
  | .hbm, ⟨44, _⟩ => ⟨S16x16384x16384, .f32⟩
  | .hbm, ⟨45, _⟩ => ⟨S16x16384x16384, .f32⟩
  | .hbm, ⟨46, _⟩ => ⟨S16x16384x16384, .bf16⟩
  | .hbm, ⟨47, _⟩ => ⟨S16x16384x16384, .f32⟩
  | .hbm, ⟨48, _⟩ => ⟨S16x64x16384, .f32⟩
  | .hbm, ⟨49, _⟩ => ⟨S16384x16x64, .f32⟩
  | .hbm, ⟨50, _⟩ => ⟨S16384x1024, .f32⟩
  | .hbm, ⟨51, _⟩ => ⟨S16384x1024, .bf16⟩
  | _, _ => ⟨S16896x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel2.lean ====
abbrev S16896x1024 : Shape := ⟨2, ![16896, 1024]⟩
abbrev S8x16896x1 : Shape := ⟨3, ![8, 16896, 1]⟩
abbrev S8x1024x2816 : Shape := ⟨3, ![8, 1024, 2816]⟩
abbrev S8x2816x1024 : Shape := ⟨3, ![8, 2816, 1024]⟩
abbrev S1024 : Shape := ⟨1, ![1024]⟩
abbrev S1x1024 : Shape := ⟨2, ![1, 1024]⟩
abbrev S512x1024 : Shape := ⟨2, ![512, 1024]⟩
abbrev S1x512x1 : Shape := ⟨3, ![1, 512, 1]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512x1 : Shape := ⟨2, ![512, 1]⟩
abbrev S512 : Shape := ⟨1, ![512]⟩

abbrev nBuf : Space → Nat
  | .hbm => 13
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S8x16896x1, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S1024, .f32⟩
  | .hbm, ⟨6, _⟩ => ⟨S1024, .f32⟩
  | .hbm, ⟨7, _⟩ => ⟨S8x1024x2816, .bf16⟩
  | .hbm, ⟨8, _⟩ => ⟨S8x1024x2816, .bf16⟩
  | .hbm, ⟨9, _⟩ => ⟨S8x2816x1024, .bf16⟩
  | .hbm, ⟨10, _⟩ => ⟨S1x1024, .f32⟩
  | .hbm, ⟨11, _⟩ => ⟨S1x1024, .f32⟩
  | .hbm, ⟨12, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x512x1, .f32⟩
  | .local _ .vmem, ⟨3, _⟩ => ⟨S1x512x1, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![33, 8, 2], ![false, false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let arg2 : BitVec 32 := BitVec.ofNat 32 (i 2).val
  let c1_i32 : BitVec 32 := 1#32
  let v30 : BitVec 1 := Scalar.cmpi .eq arg2 c1_i32
  let v31 : BitVec 1 := Scalar.andi v29 v30
  let v32 : BitVec 32 := Scalar.extui v31
  let c0_i32_21 : BitVec 32 := 0#32
  let v33 : BitVec 1 := Scalar.cmpi .ne v32 c0_i32_21
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference2Ideal.lean ====
abbrev S16896x1024 : Shape := ⟨2, ![16896, 1024]⟩
abbrev S8x16896x1 : Shape := ⟨3, ![8, 16896, 1]⟩
abbrev S8x1024x2816 : Shape := ⟨3, ![8, 1024, 2816]⟩
abbrev S8x2816x1024 : Shape := ⟨3, ![8, 2816, 1024]⟩
abbrev S1024 : Shape := ⟨1, ![1024]⟩
abbrev S8x2816x16896 : Shape := ⟨3, ![8, 2816, 16896]⟩
abbrev S8x16896x2816 : Shape := ⟨3, ![8, 16896, 2816]⟩
abbrev S_ : Shape := ⟨0, ![]⟩
abbrev S8x16896x1024 : Shape := ⟨3, ![8, 16896, 1024]⟩
abbrev S16896 : Shape := ⟨1, ![16896]⟩
abbrev S16896x1 : Shape := ⟨2, ![16896, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S8x16896x1, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S1024, .f32⟩
  | .hbm, ⟨6, _⟩ => ⟨S1024, .f32⟩
  | .hbm, ⟨7, _⟩ => ⟨S8x2816x16896, .f32⟩
  | .hbm, ⟨8, _⟩ => ⟨S8x16896x2816, .f32⟩
  | .hbm, ⟨9, _⟩ => ⟨S8x2816x16896, .f32⟩
  | .hbm, ⟨10, _⟩ => ⟨S8x16896x2816, .f32⟩
  | .hbm, ⟨11, _⟩ => ⟨S8x16896x2816, .f32⟩
  | .hbm, ⟨12, _⟩ => ⟨S8x16896x2816, .f32⟩
  | .hbm, ⟨13, _⟩ => ⟨S_, .f32⟩
  | .hbm, ⟨14, _⟩ => ⟨S8x16896x2816, .f32⟩
  | .hbm, ⟨15, _⟩ => ⟨S8x16896x2816, .f32⟩
  | .hbm, ⟨16, _⟩ => ⟨S_, .f32⟩
  | .hbm, ⟨17, _⟩ => ⟨S8x16896x2816, .f32⟩
  | .hbm, ⟨18, _⟩ => ⟨S8x16896x2816, .f32⟩
  | .hbm, ⟨19, _⟩ => ⟨S8x16896x2816, .f32⟩
  | .hbm, ⟨20, _⟩ => ⟨S8x16896x2816, .f32⟩
  | .hbm, ⟨21, _⟩ => ⟨S8x16896x1024, .f32⟩
  | .hbm, ⟨22, _⟩ => ⟨S_, .f32⟩
  | .hbm, ⟨23, _⟩ => ⟨S16896x1024, .f32⟩
  | .hbm, ⟨24, _⟩ => ⟨S16896x1024, .f32⟩
  | .hbm, ⟨25, _⟩ => ⟨S8x16896x1024, .f32⟩
  | .hbm, ⟨26, _⟩ => ⟨S8x16896x1024, .f32⟩
  | .hbm, ⟨27, _⟩ => ⟨S_, .f32⟩
  | .hbm, ⟨28, _⟩ => ⟨S16896x1024, .f32⟩
  | .hbm, ⟨29, _⟩ => ⟨S16896x1024, .f32⟩
  | .hbm, ⟨30, _⟩ => ⟨S_, .f32⟩
  | .hbm, ⟨31, _⟩ => ⟨S16896, .f32⟩
  | .hbm, ⟨32, _⟩ => ⟨S16896x1, .f32⟩
  | .hbm, ⟨33, _⟩ => ⟨S_, .f32⟩
  | .hbm, ⟨34, _⟩ => ⟨S16896x1, .f32⟩
  | .hbm, ⟨35, _⟩ => ⟨S16896x1, .f32⟩
  | .hbm, ⟨36, _⟩ => ⟨S16896x1024, .f32⟩
  | .hbm, ⟨37, _⟩ => ⟨S16896x1024, .f32⟩
  | .hbm, ⟨38, _⟩ => ⟨S16896x1024, .f32⟩
  | .hbm, ⟨39, _⟩ => ⟨S_, .f32⟩
  | .hbm, ⟨40, _⟩ => ⟨S16896, .f32⟩
  | .hbm, ⟨41, _⟩ => ⟨S16896x1, .f32⟩
  | .hbm, ⟨42, _⟩ => ⟨S_, .f32⟩
  | .hbm, ⟨43, _⟩ => ⟨S16896x1, .f32⟩
  | .hbm, ⟨44, _⟩ => ⟨S16896x1, .f32⟩
  | .hbm, ⟨45, _⟩ => ⟨S16896x1024, .f32⟩
  | .hbm, ⟨46, _⟩ => ⟨S16896x1024, .f32⟩
  | .hbm, ⟨47, _⟩ => ⟨S_, .f32⟩
  | .hbm, ⟨48, _⟩ => ⟨S16896x1, .f32⟩
  | .hbm, ⟨49, _⟩ => ⟨S16896x1, .f32⟩
  | .hbm, ⟨50, _⟩ => ⟨S16896x1, .f32⟩
  | .hbm, ⟨51, _⟩ => ⟨S16896x1024, .f32⟩
  | .hbm, ⟨52, _⟩ => ⟨S16896x1024, .f32⟩
  | .hbm, ⟨53, _⟩ => ⟨S1x1024, .f32⟩
  | .hbm, ⟨54, _⟩ => ⟨S16896x1024, .f32⟩
  | .hbm, ⟨55, _⟩ => ⟨S16896x1024, .f32⟩
  | .hbm, ⟨56, _⟩ => ⟨S1x1024, .f32⟩
  | .hbm, ⟨57, _⟩ => ⟨S16896x1024, .f32⟩
  | .hbm, ⟨58, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Kernel3.lean ====
abbrev S16896x1024 : Shape := ⟨2, ![16896, 1024]⟩
abbrev S1024x2048 : Shape := ⟨2, ![1024, 2048]⟩
abbrev S16896x2048 : Shape := ⟨2, ![16896, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16896x1024, .f32⟩
  | .hbm, ⟨1, _⟩ => ⟨S1024x2048, .f32⟩
  | .hbm, ⟨2, _⟩ => ⟨S1024x2048, .bf16⟩
  | .hbm, ⟨3, _⟩ => ⟨S16896x2048, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16896x1024 : Shape := ⟨2, ![16896, 1024]⟩
abbrev S1024x2048 : Shape := ⟨2, ![1024, 2048]⟩
abbrev S16896x2048 : Shape := ⟨2, ![16896, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024x2048, .f32⟩
  | .hbm, ⟨2, _⟩ => ⟨S16896x2048, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S16896x1024 : Shape := ⟨2, ![16896, 1024]⟩
abbrev S1024x3088 : Shape := ⟨2, ![1024, 3088]⟩
abbrev S1024x3072 : Shape := ⟨2, ![1024, 3072]⟩
abbrev S16896x3072 : Shape := ⟨2, ![16896, 3072]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024x3088, .f32⟩
  | .hbm, ⟨2, _⟩ => ⟨S1024x3072, .f32⟩
  | .hbm, ⟨3, _⟩ => ⟨S1024x3072, .bf16⟩
  | .hbm, ⟨4, _⟩ => ⟨S16896x3072, .f32⟩
  | .hbm, ⟨5, _⟩ => ⟨S16896x3072, .bf16⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16896x1024 : Shape := ⟨2, ![16896, 1024]⟩
abbrev S1024x3088 : Shape := ⟨2, ![1024, 3088]⟩
abbrev S16896x3088 : Shape := ⟨2, ![16896, 3088]⟩
abbrev S16896x3072 : Shape := ⟨2, ![16896, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024x3088, .f32⟩
  | .hbm, ⟨2, _⟩ => ⟨S16896x3088, .f32⟩
  | .hbm, ⟨3, _⟩ => ⟨S16896x3072, .f32⟩
  | .hbm, ⟨4, _⟩ => ⟨S16896x3072, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference5Ideal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S16896x1024 : Shape := ⟨2, ![16896, 1024]⟩
abbrev S1024x128 : Shape := ⟨2, ![1024, 128]⟩
abbrev S128 : Shape := ⟨1, ![128]⟩
abbrev S1x128 : Shape := ⟨2, ![1, 128]⟩
abbrev S16896x128 : Shape := ⟨2, ![16896, 128]⟩
abbrev S512x1024 : Shape := ⟨2, ![512, 1024]⟩
abbrev S512x128 : Shape := ⟨2, ![512, 128]⟩

abbrev nBuf : Space → Nat
  | .hbm => 6
  | .vmem => 6
  | .smem => 0
  | _ => 0

abbrev bufTy : (tb : Table) → Fin (tcTables nBuf tb) → BufTy
  | .hbm, ⟨0, _⟩ => ⟨S16896x1024, .f32⟩
  | .hbm, ⟨1, _⟩ => ⟨S1024x128, .f32⟩
  | .hbm, ⟨2, _⟩ => ⟨S128, .f32⟩
  | .hbm, ⟨3, _⟩ => ⟨S1024x128, .bf16⟩
  | .hbm, ⟨4, _⟩ => ⟨S1x128, .f32⟩
  | .hbm, ⟨5, _⟩ => ⟨S16896x128, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16896x1024 : Shape := ⟨2, ![16896, 1024]⟩
abbrev S1024x128 : Shape := ⟨2, ![1024, 128]⟩
abbrev S128 : Shape := ⟨1, ![128]⟩
abbrev S16896x128 : Shape := ⟨2, ![16896, 128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024x128, .f32⟩
  | .hbm, ⟨2, _⟩ => ⟨S128, .f32⟩
  | .hbm, ⟨3, _⟩ => ⟨S16896x128, .f32⟩
  | .hbm, ⟨4, _⟩ => ⟨S1x128, .f32⟩
  | .hbm, ⟨5, _⟩ => ⟨S16896x128, .f32⟩
  | .hbm, ⟨6, _⟩ => ⟨S16896x128, .f32⟩
  | .hbm, ⟨7, _⟩ => ⟨S16896x128, .f32⟩
  | .hbm, ⟨8, _⟩ => ⟨S_, .f32⟩
  | .hbm, ⟨9, _⟩ => ⟨S16896x128, .f32⟩
  | .hbm, ⟨10, _⟩ => ⟨S16896x128, .f32⟩
  | .hbm, ⟨11, _⟩ => ⟨S16896x128, .f32⟩
  | .hbm, ⟨12, _⟩ => ⟨S16896x128, .f32⟩
  | .hbm, ⟨13, _⟩ => ⟨S16896x128, .i1⟩
  | .hbm, ⟨14, _⟩ => ⟨S16896x128, .f32⟩
  | .hbm, ⟨15, _⟩ => ⟨S16896x128, .f32⟩
  | .hbm, ⟨16, _⟩ => ⟨S16896x128, .f32⟩
  | .hbm, ⟨17, _⟩ => ⟨S16896x128, .f32⟩
  | .hbm, ⟨18, _⟩ => ⟨S16896x128, .f32⟩
  | .hbm, ⟨19, _⟩ => ⟨S16896x128, .f32⟩
  | .hbm, ⟨20, _⟩ => ⟨S16896x128, .f32⟩
  | .hbm, ⟨21, _⟩ => ⟨S16896x128, .f32⟩
  | .hbm, ⟨22, _⟩ => ⟨S16896x128, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Kernel7.lean ====
abbrev S16896x1024 : Shape := ⟨2, ![16896, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x16896x1 : Shape := ⟨3, ![1, 16896, 1]⟩
abbrev S1x1024 : Shape := ⟨2, ![1, 1024]⟩
abbrev S512x1024 : Shape := ⟨2, ![512, 1024]⟩
abbrev S1x512x1 : Shape := ⟨3, ![1, 512, 1]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512x1 : Shape := ⟨2, ![512, 1]⟩
abbrev S512 : Shape := ⟨1, ![512]⟩

abbrev nBuf : Space → Nat
  | .hbm => 14
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1x16896x1, .f32⟩
  | .hbm, ⟨8, _⟩ => ⟨S1x1024x2816, .bf16⟩
  | .hbm, ⟨9, _⟩ => ⟨S1x1024x2816, .bf16⟩
  | .hbm, ⟨10, _⟩ => ⟨S1x2816x1024, .bf16⟩
  | .hbm, ⟨11, _⟩ => ⟨S1x1024, .f32⟩
  | .hbm, ⟨12, _⟩ => ⟨S1x1024, .f32⟩
  | .hbm, ⟨13, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x512x1, .f32⟩
  | .local _ .vmem, ⟨3, _⟩ => ⟨S1x512x1, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![33, 1, 2], ![false, false, false]⟩

def k0_cond2 (i : grid0.Coords) : BitVec 1 :=
  let arg1 : BitVec 32 := BitVec.ofNat 32 (i 1).val
  let c0_i32_21 : BitVec 32 := 0#32
  let v29 : BitVec 1 := Scalar.cmpi .eq arg1 c0_i32_21
  let arg2 : BitVec 32 := BitVec.ofNat 32 (i 2).val
  let c1_i32 : BitVec 32 := 1#32
  let v30 : BitVec 1 := Scalar.cmpi .eq arg2 c1_i32
  let v31 : BitVec 1 := Scalar.andi v29 v30
  let v32 : BitVec 32 := Scalar.extui v31
  let c0_i32_22 : BitVec 32 := 0#32
  let v33 : BitVec 1 := Scalar.cmpi .ne v32 c0_i32_22
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference7Ideal.lean ====
abbrev S16896x1024 : Shape := ⟨2, ![16896, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S16896x2816 : Shape := ⟨2, ![16896, 2816]⟩
abbrev S_ : Shape := ⟨0, ![]⟩
abbrev S2816x1024 : Shape := ⟨2, ![2816, 1024]⟩
abbrev S16896 : Shape := ⟨1, ![16896]⟩
abbrev S16896x1 : Shape := ⟨2, ![16896, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S16896x2816, .f32⟩
  | .hbm, ⟨8, _⟩ => ⟨S16896x2816, .f32⟩
  | .hbm, ⟨9, _⟩ => ⟨S16896x2816, .f32⟩
  | .hbm, ⟨10, _⟩ => ⟨S_, .f32⟩
  | .hbm, ⟨11, _⟩ => ⟨S16896x2816, .f32⟩
  | .hbm, ⟨12, _⟩ => ⟨S16896x2816, .f32⟩
  | .hbm, ⟨13, _⟩ => ⟨S_, .f32⟩
  | .hbm, ⟨14, _⟩ => ⟨S16896x2816, .f32⟩
  | .hbm, ⟨15, _⟩ => ⟨S16896x2816, .f32⟩
  | .hbm, ⟨16, _⟩ => ⟨S16896x2816, .f32⟩
  | .hbm, ⟨17, _⟩ => ⟨S1024x2816, .f32⟩
  | .hbm, ⟨18, _⟩ => ⟨S16896x2816, .f32⟩
  | .hbm, ⟨19, _⟩ => ⟨S16896x2816, .f32⟩
  | .hbm, ⟨20, _⟩ => ⟨S2816x1024, .f32⟩
  | .hbm, ⟨21, _⟩ => ⟨S16896x1024, .f32⟩
  | .hbm, ⟨22, _⟩ => ⟨S_, .f32⟩
  | .hbm, ⟨23, _⟩ => ⟨S16896x1024, .f32⟩
  | .hbm, ⟨24, _⟩ => ⟨S16896x1024, .f32⟩
  | .hbm, ⟨25, _⟩ => ⟨S16896x1024, .f32⟩
  | .hbm, ⟨26, _⟩ => ⟨S_, .f32⟩
  | .hbm, ⟨27, _⟩ => ⟨S16896, .f32⟩
  | .hbm, ⟨28, _⟩ => ⟨S16896x1, .f32⟩
  | .hbm, ⟨29, _⟩ => ⟨S_, .f32⟩
  | .hbm, ⟨30, _⟩ => ⟨S16896x1, .f32⟩
  | .hbm, ⟨31, _⟩ => ⟨S16896x1, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S_, .f32⟩
  | .hbm, ⟨36, _⟩ => ⟨S16896, .f32⟩
  | .hbm, ⟨37, _⟩ => ⟨S16896x1, .f32⟩
  | .hbm, ⟨38, _⟩ => ⟨S_, .f32⟩
  | .hbm, ⟨39, _⟩ => ⟨S16896x1, .f32⟩
  | .hbm, ⟨40, _⟩ => ⟨S16896x1, .f32⟩
  | .hbm, ⟨41, _⟩ => ⟨S16896x1024, .f32⟩
  | .hbm, ⟨42, _⟩ => ⟨S16896x1024, .f32⟩
  | .hbm, ⟨43, _⟩ => ⟨S_, .f32⟩
  | .hbm, ⟨44, _⟩ => ⟨S16896x1, .f32⟩
  | .hbm, ⟨45, _⟩ => ⟨S16896x1, .f32⟩
  | .hbm, ⟨46, _⟩ => ⟨S16896x1, .f32⟩
  | .hbm, ⟨47, _⟩ => ⟨S16896x1024, .f32⟩
  | .hbm, ⟨48, _⟩ => ⟨S16896x1024, .f32⟩
  | .hbm, ⟨49, _⟩ => ⟨S1x1024, .f32⟩
  | .hbm, ⟨50, _⟩ => ⟨S16896x1024, .f32⟩
  | .hbm, ⟨51, _⟩ => ⟨S16896x1024, .f32⟩
  | .hbm, ⟨52, _⟩ => ⟨S1x1024, .f32⟩
  | .hbm, ⟨53, _⟩ => ⟨S16896x1024, .f32⟩
  | .hbm, ⟨54, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel8.lean ====
abbrev S16896x1024 : Shape := ⟨2, ![16896, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .f32⟩
  | .hbm, ⟨2, _⟩ => ⟨S16896x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16896x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S16896x1024 : Shape := ⟨2, ![16896, 1024]⟩
abbrev S1024x1024 : Shape := ⟨2, ![1024, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .f32⟩
  | .hbm, ⟨2, _⟩ => ⟨S16896x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16896x1024, .f32⟩
  | .hbm, ⟨7, _⟩ => ⟨S16896x1024, .f32⟩
  | .hbm, ⟨8, _⟩ => ⟨S16896x1024, .f32⟩
  | .hbm, ⟨9, _⟩ => ⟨S16896x1024, .f32⟩
  | .hbm, ⟨10, _⟩ => ⟨S16896x1024, .f32⟩
  | .hbm, ⟨11, _⟩ => ⟨S_, .f32⟩
  | .hbm, ⟨12, _⟩ => ⟨S16896, .f32⟩
  | .hbm, ⟨13, _⟩ => ⟨S16896x1, .f32⟩
  | .hbm, ⟨14, _⟩ => ⟨S_, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S16896x1024, .f32⟩
  | .hbm, ⟨20, _⟩ => ⟨S_, .f32⟩
  | .hbm, ⟨21, _⟩ => ⟨S16896, .f32⟩
  | .hbm, ⟨22, _⟩ => ⟨S16896x1, .f32⟩
  | .hbm, ⟨23, _⟩ => ⟨S_, .f32⟩
  | .hbm, ⟨24, _⟩ => ⟨S16896x1, .f32⟩
  | .hbm, ⟨25, _⟩ => ⟨S16896x1, .f32⟩
  | .hbm, ⟨26, _⟩ => ⟨S16896x1024, .f32⟩
  | .hbm, ⟨27, _⟩ => ⟨S16896x1024, .f32⟩
  | .hbm, ⟨28, _⟩ => ⟨S_, .f32⟩
  | .hbm, ⟨29, _⟩ => ⟨S16896x1, .f32⟩
  | .hbm, ⟨30, _⟩ => ⟨S16896x1, .f32⟩
  | .hbm, ⟨31, _⟩ => ⟨S16896x1, .f32⟩
  | .hbm, ⟨32, _⟩ => ⟨S16896x1024, .f32⟩
  | .hbm, ⟨33, _⟩ => ⟨S16896x1024, .f32⟩
  | .hbm, ⟨34, _⟩ => ⟨S1x1024, .f32⟩
  | .hbm, ⟨35, _⟩ => ⟨S16896x1024, .f32⟩
  | .hbm, ⟨36, _⟩ => ⟨S16896x1024, .f32⟩
  | .hbm, ⟨37, _⟩ => ⟨S1x1024, .f32⟩
  | .hbm, ⟨38, _⟩ => ⟨S16896x1024, .f32⟩
  | .hbm, ⟨39, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel9.lean ====
abbrev S16896x1024 : Shape := ⟨2, ![16896, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024x1024, .f32⟩
  | .hbm, ⟨2, _⟩ => ⟨S1024x1024, .bf16⟩
  | .hbm, ⟨3, _⟩ => ⟨S16896x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16896x1024 : Shape := ⟨2, ![16896, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024x1024, .f32⟩
  | .hbm, ⟨2, _⟩ => ⟨S16896x1024, .f32⟩
  | .hbm, ⟨3, _⟩ => ⟨S16896x1024, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S16896x1024 : Shape := ⟨2, ![16896, 1024]⟩
abbrev S1x256x1024 : Shape := ⟨3, ![1, 256, 1024]⟩
abbrev S16384x1024 : Shape := ⟨2, ![16384, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S16896x1024, .bf16⟩
  | .hbm, ⟨1, _⟩ => ⟨S1x256x1024, .f32⟩
  | .hbm, ⟨2, _⟩ => ⟨S1x256x1024, .f32⟩
  | .hbm, ⟨3, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1x256x1024, .f32⟩
  | .local _ .vmem, ⟨3, _⟩ => ⟨S1x256x1024, .f32⟩
  | .local _ .vmem, ⟨4, _⟩ => ⟨S512x1024, .bf16⟩
  | .local _ .vmem, ⟨5, _⟩ => ⟨S512x1024, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S16896x1024 : Shape := ⟨2, ![16896, 1024]⟩
abbrev S1x256x1024 : Shape := ⟨3, ![1, 256, 1024]⟩
abbrev S16384x1024 : Shape := ⟨2, ![16384, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 30
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1x256x1024, .f32⟩
  | .hbm, ⟨2, _⟩ => ⟨S1x256x1024, .f32⟩
  | .hbm, ⟨3, _⟩ => ⟨S16384x1024, .bf16⟩
  | .hbm, ⟨4, _⟩ => ⟨S16384x1024, .f32⟩
  | .hbm, ⟨5, _⟩ => ⟨S16384x4x256, .f32⟩
  | .hbm, ⟨6, _⟩ => ⟨S256x4x256, .f32⟩
  | .hbm, ⟨7, _⟩ => ⟨S256x4x256, .f32⟩
  | .hbm, ⟨8, _⟩ => ⟨S4x16384x256, .f32⟩
  | .hbm, ⟨9, _⟩ => ⟨S_, .f32⟩
  | .hbm, ⟨10, _⟩ => ⟨S4x16384x256, .f32⟩
  | .hbm, ⟨11, _⟩ => ⟨S4x16384x256, .f32⟩
  | .hbm, ⟨12, _⟩ => ⟨S_, .f32⟩
  | .hbm, ⟨13, _⟩ => ⟨S4x16384, .f32⟩
  | .hbm, ⟨14, _⟩ => ⟨S_, .f32⟩
  | .hbm, ⟨15, _⟩ => ⟨S4x16384, .f32⟩
  | .hbm, ⟨16, _⟩ => ⟨S4x16384, .f32⟩
  | .hbm, ⟨17, _⟩ => ⟨S4x16384x1, .f32⟩
  | .hbm, ⟨18, _⟩ => ⟨S4x16384x256, .f32⟩
  | .hbm, ⟨19, _⟩ => ⟨S4x16384x256, .f32⟩
  | .hbm, ⟨20, _⟩ => ⟨S4x16384x256, .f32⟩
  | .hbm, ⟨21, _⟩ => ⟨S_, .f32⟩
  | .hbm, ⟨22, _⟩ => ⟨S4x16384, .f32⟩
  | .hbm, ⟨23, _⟩ => ⟨S4x16384x1, .f32⟩
  | .hbm, ⟨24, _⟩ => ⟨S4x16384x256, .f32⟩
  | .hbm, ⟨25, _⟩ => ⟨S4x16384x256, .f32⟩
  | .hbm, ⟨26, _⟩ => ⟨S4x256x16384, .f32⟩
  | .hbm, ⟨27, _⟩ => ⟨S16384x4x256, .f32⟩
  | .hbm, ⟨28, _⟩ => ⟨S16384x1024, .f32⟩
  | .hbm, ⟨29, _⟩ => ⟨S16384x1024, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel11.lean ====
abbrev S16896x1024 : Shape := ⟨2, ![16896, 1024]⟩
abbrev S32x256x1024 : Shape := ⟨3, ![32, 256, 1024]⟩
abbrev S512x1024 : Shape := ⟨2, ![512, 1024]⟩
abbrev S16x1024 : Shape := ⟨2, ![16, 1024]⟩
abbrev S1x256x1024 : Shape := ⟨3, ![1, 256, 1024]⟩
abbrev S16x256 : Shape := ⟨2, ![16, 256]⟩
abbrev S1x256x256 : Shape := ⟨3, ![1, 256, 256]⟩
abbrev S256x256 : Shape := ⟨2, ![256, 256]⟩
abbrev S16 : Shape := ⟨1, ![16]⟩
abbrev S16x1 : Shape := ⟨2, ![16, 1]⟩

abbrev nBuf : Space → Nat
  | .hbm => 4
  | .vmem => 8
  | .smem => 0
  | _ => 0

abbrev bufTy : (tb : Table) → Fin (tcTables nBuf tb) → BufTy
  | .hbm, ⟨0, _⟩ => ⟨S16896x1024, .bf16⟩
  | .hbm, ⟨1, _⟩ => ⟨S32x256x1024, .f32⟩
  | .hbm, ⟨2, _⟩ => ⟨S32x256x1024, .f32⟩
  | .hbm, ⟨3, _⟩ => ⟨S512x1024, .bf16⟩
  | .local _ .vmem, ⟨0, _⟩ => ⟨S16x1024, .bf16⟩
  | .local _ .vmem, ⟨1, _⟩ => ⟨S16x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S16x1024, .bf16⟩
  | .local _ .vmem, ⟨7, _⟩ => ⟨S16x1024, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S16896x1024 : Shape := ⟨2, ![16896, 1024]⟩
abbrev S32x256x1024 : Shape := ⟨3, ![32, 256, 1024]⟩
abbrev S512x1024 : Shape := ⟨2, ![512, 1024]⟩
abbrev S32x16x4x256 : Shape := ⟨4, ![32, 16, 4, 256]⟩
abbrev S32x256x4x256 : Shape := ⟨4, ![32, 256, 4, 256]⟩
abbrev S32x4x16x256 : Shape := ⟨4, ![32, 4, 16, 256]⟩
abbrev S_ : Shape := ⟨0, ![]⟩
abbrev S32x4x16 : Shape := ⟨3, ![32, 4, 16]⟩
abbrev S32x4x16x1 : Shape := ⟨4, ![32, 4, 16, 1]⟩
abbrev S32x4x256x16 : Shape := ⟨4, ![32, 4, 256, 16]⟩

abbrev nBuf : Space → Nat
  | .hbm => 30
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S32x256x1024, .f32⟩
  | .hbm, ⟨2, _⟩ => ⟨S32x256x1024, .f32⟩
  | .hbm, ⟨3, _⟩ => ⟨S512x1024, .bf16⟩
  | .hbm, ⟨4, _⟩ => ⟨S512x1024, .f32⟩
  | .hbm, ⟨5, _⟩ => ⟨S32x16x4x256, .f32⟩
  | .hbm, ⟨6, _⟩ => ⟨S32x256x4x256, .f32⟩
  | .hbm, ⟨7, _⟩ => ⟨S32x256x4x256, .f32⟩
  | .hbm, ⟨8, _⟩ => ⟨S32x4x16x256, .f32⟩
  | .hbm, ⟨9, _⟩ => ⟨S_, .f32⟩
  | .hbm, ⟨10, _⟩ => ⟨S32x4x16x256, .f32⟩
  | .hbm, ⟨11, _⟩ => ⟨S32x4x16x256, .f32⟩
  | .hbm, ⟨12, _⟩ => ⟨S_, .f32⟩
  | .hbm, ⟨13, _⟩ => ⟨S32x4x16, .f32⟩
  | .hbm, ⟨14, _⟩ => ⟨S_, .f32⟩
  | .hbm, ⟨15, _⟩ => ⟨S32x4x16, .f32⟩
  | .hbm, ⟨16, _⟩ => ⟨S32x4x16, .f32⟩
  | .hbm, ⟨17, _⟩ => ⟨S32x4x16x1, .f32⟩
  | .hbm, ⟨18, _⟩ => ⟨S32x4x16x256, .f32⟩
  | .hbm, ⟨19, _⟩ => ⟨S32x4x16x256, .f32⟩
  | .hbm, ⟨20, _⟩ => ⟨S32x4x16x256, .f32⟩
  | .hbm, ⟨21, _⟩ => ⟨S_, .f32⟩
  | .hbm, ⟨22, _⟩ => ⟨S32x4x16, .f32⟩
  | .hbm, ⟨23, _⟩ => ⟨S32x4x16x1, .f32⟩
  | .hbm, ⟨24, _⟩ => ⟨S32x4x16x256, .f32⟩
  | .hbm, ⟨25, _⟩ => ⟨S32x4x16x256, .f32⟩
  | .hbm, ⟨26, _⟩ => ⟨S32x4x256x16, .f32⟩
  | .hbm, ⟨27, _⟩ => ⟨S32x16x4x256, .f32⟩
  | .hbm, ⟨28, _⟩ => ⟨S512x1024, .f32⟩
  | .hbm, ⟨29, _⟩ => ⟨S512x1024, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel12.lean ====
abbrev S1x16x16384 : Shape := ⟨3, ![1, 16, 16384]⟩
abbrev S1x2048x128 : Shape := ⟨3, ![1, 2048, 128]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 3
  | .vmem => 2
  | .smem => 0
  | _ => 0

abbrev bufTy : (tb : Table) → Fin (tcTables nBuf tb) → BufTy
  | .hbm, ⟨0, _⟩ => ⟨S1x16x16384, .f32⟩
  | .hbm, ⟨1, _⟩ => ⟨S1x2048x128, .f32⟩
  | .hbm, ⟨2, _⟩ => ⟨S1x2048x128, .f32⟩
  | .local _ .vmem, ⟨0, _⟩ => ⟨S1x2048x128, .f32⟩
  | .local _ .vmem, ⟨1, _⟩ => ⟨S1x2048x128, .f32⟩
  | _, _ => ⟨S1x16x16384, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference12Ideal.lean ====
abbrev S1x16x16384 : Shape := ⟨3, ![1, 16, 16384]⟩
abbrev S_ : Shape := ⟨0, ![]⟩
abbrev S1x2048x128 : Shape := ⟨3, ![1, 2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S1x16x16384, .f32⟩
  | .hbm, ⟨1, _⟩ => ⟨S_, .f32⟩
  | .hbm, ⟨2, _⟩ => ⟨S_, .f32⟩
  | .hbm, ⟨3, _⟩ => ⟨S1x16x16384, .f32⟩
  | .hbm, ⟨4, _⟩ => ⟨S1x2048x128, .f32⟩
  | _, _ => ⟨S1x16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S32x16x5120 : Shape := ⟨3, ![32, 16, 5120]⟩
abbrev S32x640x128 : Shape := ⟨3, ![32, 640, 128]⟩
abbrev S1x640x128 : Shape := ⟨3, ![1, 640, 128]⟩
abbrev S128x128 : Shape := ⟨2, ![128, 128]⟩
abbrev S40x40 : Shape := ⟨2, ![40, 40]⟩
abbrev S1x40x128 : Shape := ⟨3, ![1, 40, 128]⟩
abbrev S40x128 : Shape := ⟨2, ![40, 128]⟩
abbrev S40x1 : Shape := ⟨2, ![40, 1]⟩

abbrev nBuf : Space → Nat
  | .hbm => 3
  | .vmem => 4
  | .smem => 0
  | _ => 0

abbrev bufTy : (tb : Table) → Fin (tcTables nBuf tb) → BufTy
  | .hbm, ⟨0, _⟩ => ⟨S32x16x5120, .f32⟩
  | .hbm, ⟨1, _⟩ => ⟨S32x640x128, .f32⟩
  | .hbm, ⟨2, _⟩ => ⟨S32x640x128, .f32⟩
  | .local _ .vmem, ⟨0, _⟩ => ⟨S1x640x128, .f32⟩
  | .local _ .vmem, ⟨1, _⟩ => ⟨S1x640x128, .f32⟩
  | .local _ .vmem, ⟨2, _⟩ => ⟨S1x640x128, .f32⟩
  | .local _ .vmem, ⟨3, _⟩ => ⟨S1x640x128, .f32⟩
  | _, _ => ⟨S32x16x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S32x16x5120 : Shape := ⟨3, ![32, 16, 5120]⟩
abbrev S_ : Shape := ⟨0, ![]⟩
abbrev S32x640x128 : Shape := ⟨3, ![32, 640, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x16x5120, .f32⟩
  | .hbm, ⟨1, _⟩ => ⟨S_, .f32⟩
  | .hbm, ⟨2, _⟩ => ⟨S_, .f32⟩
  | .hbm, ⟨3, _⟩ => ⟨S32x16x5120, .f32⟩
  | .hbm, ⟨4, _⟩ => ⟨S32x640x128, .f32⟩
  | _, _ => ⟨S32x16x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Softmax.lean ====
/-
  One row of an online softmax, over the extended reals: what a running maximum, a running denominator and a running
  weighted sum hold after a prefix of the keys, how they move by one block of keys, and what their quotient is.
  A key that is masked has the score `⊥`; no score is `⊤`. The values weighted may be anything, infinities too.
-/
module

public import Idealize.ShloMosaic.PureOps.Ideal.Laws
public import Mathlib.Data.EReal.Inv
public import Mathlib.Algebra.BigOperators.Fin

@[expose] public section

noncomputable section

namespace Cert.Softmax

open Idealize.ShloMosaic

/-- The greatest of the first `n` scores (`⊥` when there is none). -/
def top (x : ℕ → EReal) (n : ℕ) : EReal := (Finset.range n).sup x

/-- The sum of the first `n` weights, each score's exponential taken from the greatest score. -/
def den (x : ℕ → EReal) (n : ℕ) : EReal := ∑ k ∈ Finset.range n, Ideal.exp (x k - top x n)

/-- The sum of the first `n` values, each with its weight. -/
def num (x v : ℕ → EReal) (n : ℕ) : EReal := ∑ k ∈ Finset.range n, Ideal.exp (x k - top x n) * v k

/-- The exponential of a number is a number, positive. -/
theorem exp_coe (r : ℝ) : Ideal.exp (r : EReal) = ((Real.exp r : ℝ) : EReal) := rfl

/-- The exponential of `⊥` is zero. -/
theorem exp_bot : Ideal.exp ⊥ = 0 := rfl

/-- No exponential is negative. -/
theorem exp_nonneg (x : EReal) : 0 ≤ Ideal.exp x := by
  induction x with
  | bot => exact le_of_eq exp_bot.symm
  | coe r => rw [exp_coe]; exact_mod_cast (Real.exp_pos r).le
  | top => exact le_top

/-- A score below its ceiling has a difference that is not `⊤`. -/
theorem sub_ne_top {a b : EReal} (h : a ≤ b) (hb : b ≠ ⊤) : a - b ≠ ⊤ := by
  induction a with
  | bot => simp
  | top => exact absurd (top_le_iff.mp h) hb
  | coe a =>
    induction b with
    | bot => exact absurd (le_bot_iff.mp h) (by simp)
    | top => exact absurd rfl hb
    | coe b => rw [← EReal.coe_sub]; exact EReal.coe_ne_top _

/-- The exponential of anything but `⊤` is finite. -/
theorem exp_ne_top {x : EReal} (h : x ≠ ⊤) : Ideal.exp x ≠ ⊤ := by
  induction x with
  | bot => simp [exp_bot]
  | coe r => rw [exp_coe]; exact EReal.coe_ne_top _
  | top => exact absurd rfl h

/-- A weight taken from the ceiling `a` and rescaled to the ceiling `b` is the weight taken from `b`. -/
theorem rescale {x a b : EReal} (hxa : x ≤ a) (hab : a ≤ b) (hb : b ≠ ⊤) :
    Ideal.exp (a - b) * Ideal.exp (x - a) = Ideal.exp (x - b) := by
  induction x with
  | bot => rw [EReal.bot_sub, EReal.bot_sub, exp_bot, mul_zero]
  | top => exact absurd (top_le_iff.mp ((top_le_iff.mp hxa) ▸ hab)) hb
  | coe x =>
    induction a with
    | bot => exact absurd (le_bot_iff.mp hxa) (by simp)
    | top => exact absurd (top_le_iff.mp hab) hb
    | coe a =>
      induction b with
      | bot => exact absurd (le_bot_iff.mp hab) (by simp)
      | top => exact absurd rfl hb
      | coe b =>
        rw [← EReal.coe_sub, ← EReal.coe_sub, ← EReal.coe_sub, exp_coe, exp_coe, exp_coe, ← EReal.coe_mul, ← Real.exp_add]
        congr 2; ring

/-- A finite nonnegative factor goes into a finite sum. -/
theorem mul_sum_of_nonneg {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- A ceiling of finitely many scores, none of them `⊤`, is not `⊤`. -/
theorem top_ne_top {x : ℕ → EReal} (hx : ∀ k, x k ≠ ⊤) (n : ℕ) : top x n ≠ ⊤ :=
  ((Finset.sup_lt_iff (bot_lt_top)).mpr fun k _ => lt_top_iff_ne_top.mpr (hx k)).ne

/-- Each score is below the ceiling. -/
theorem le_top_of_lt (x : ℕ → EReal) {k n : ℕ} (h : k < n) : x k ≤ top x n := Finset.le_sup (Finset.mem_range.mpr h)

/-- The ceiling grows with the prefix. -/
theorem top_mono (x : ℕ → EReal) {n n' : ℕ} (h : n ≤ n') : top x n ≤ top x n' := Finset.sup_mono (Finset.range_mono h)

/-- A fold of `max` from `⊥` is the supremum. -/
theorem fold_max_eq_sup {ι : Type} (s : Finset ι) (f : ι → EReal) : s.fold max ⊥ f = s.sup f := rfl

/-- The supremum over a prefix longer by a block. -/
theorem sup_range_add (x : ℕ → EReal) (n c : ℕ) :
    (Finset.range (n + c)).sup x = max ((Finset.range n).sup x) (Finset.univ.sup fun j : Fin c => x (n + j)) := by
  refine le_antisymm (Finset.sup_le fun k hk => ?_) (max_le (Finset.sup_mono (Finset.range_mono (Nat.le_add_right _ _))) ?_)
  · rcases lt_or_ge k n with h | h
    · exact le_max_of_le_left (Finset.le_sup (Finset.mem_range.mpr h))
    · have hk' := Finset.mem_range.mp hk
      refine le_max_of_le_right ?_
      have := Finset.le_sup (f := fun j : Fin c => x (n + j)) (Finset.mem_univ ⟨k - n, by omega⟩)
      simpa [Nat.add_sub_cancel' h] using this
  · exact Finset.sup_le fun j _ => Finset.le_sup (f := x) (Finset.mem_range.mpr (by omega))

/-- The ceiling moves by a block: the greater of the old one and the block's own. -/
theorem top_add (x : ℕ → EReal) (n c : ℕ) : top x (n + c) = max (top x n) (Finset.univ.fold max ⊥ fun j : Fin c => x (n + j)) :=
  sup_range_add x n c

/-- A sum over a prefix longer by a block. -/
theorem sum_range_block (f : ℕ → EReal) (n c : ℕ) :
    ∑ k ∈ Finset.range (n + c), f k = ∑ k ∈ Finset.range n, f k + ∑ j : Fin c, f (n + j) := by
  rw [Finset.sum_range_add, Finset.sum_range (fun j => f (n + j))]

/-- The denominator moves by a block: the old one rescaled to the new ceiling, and the block's weights. -/
theorem den_add {x : ℕ → EReal} (hx : ∀ k, x k ≠ ⊤) (n c : ℕ) :
    den x (n + c) = Ideal.exp (top x n - top x (n + c)) * den x n + ∑ j : Fin c, Ideal.exp (x (n + j) - top x (n + c)) := by
  have hle := top_mono x (Nat.le_add_right n c)
  have ht := top_ne_top hx (n + c)
  unfold den
  rw [sum_range_block, mul_sum_of_nonneg _ _ (exp_nonneg _) (exp_ne_top (sub_ne_top hle ht))]
  refine congrArg (· + _) (Finset.sum_congr rfl fun k hk => ?_)
  exact (rescale (le_top_of_lt x (Finset.mem_range.mp hk)) hle ht).symm

/-- The weighted sum moves by a block: the old one rescaled to the new ceiling, and the block's weighted values. -/
theorem num_add {x : ℕ → EReal} (hx : ∀ k, x k ≠ ⊤) (v : ℕ → EReal) (n c : ℕ) :
    num x v (n + c) = Ideal.exp (top x n - top x (n + c)) * num x v n
      + ∑ j : Fin c, Ideal.exp (x (n + j) - top x (n + c)) * v (n + j) := by
  have hle := top_mono x (Nat.le_add_right n c)
  have ht := top_ne_top hx (n + c)
  unfold num
  rw [sum_range_block, mul_sum_of_nonneg _ _ (exp_nonneg _) (exp_ne_top (sub_ne_top hle ht))]
  refine congrArg (· + _) (Finset.sum_congr rfl fun k hk => ?_)
  rw [← mul_assoc, rescale (le_top_of_lt x (Finset.mem_range.mp hk)) hle ht]

/-- The longer of two prefixes has the same ceiling where the keys it adds are all masked. -/
theorem top_masked {x : ℕ → EReal} {n n' : ℕ} (h : n ≤ n') (hx : ∀ k, n ≤ k → x k = ⊥) : top x n' = top x n := by
  refine le_antisymm (Finset.sup_le fun k hk => ?_) (top_mono x h)
  rcases lt_or_ge k n with hkn | hkn
  · exact le_top_of_lt x hkn
  · rw [hx k hkn]; exact bot_le

/-- The longer prefix has the same sum where every term it adds is zero. -/
theorem sum_masked {f : ℕ → EReal} {n n' : ℕ} (h : n ≤ n') (hf : ∀ k, n ≤ k → f k = 0) :
    ∑ k ∈ Finset.range n', f k = ∑ k ∈ Finset.range n, f k :=
  (Finset.sum_subset (Finset.range_mono h) fun k _ hk => hf k (by simpa using hk)).symm

/-- … the same denominator. -/
theorem den_masked {x : ℕ → EReal} {n n' : ℕ} (h : n ≤ n') (hx : ∀ k, n ≤ k → x k = ⊥) : den x n' = den x n := by
  unfold den
  rw [top_masked h hx]
  exact sum_masked h fun k hk => by rw [hx k hk, EReal.bot_sub, exp_bot]

/-- … and the same weighted sum. -/
theorem num_masked {x : ℕ → EReal} (v : ℕ → EReal) {n n' : ℕ} (h : n ≤ n') (hx : ∀ k, n ≤ k → x k = ⊥) :
    num x v n' = num x v n := by
  unfold num
  rw [top_masked h hx]
  exact sum_masked h fun k hk => by rw [hx k hk, EReal.bot_sub, exp_bot, zero_mul]

/-- Where some score of the prefix is a number, so is the ceiling. -/
theorem top_coe {x : ℕ → EReal} (hx : ∀ k, x k ≠ ⊤) {n k : ℕ} (hk : k < n) (hr : x k ≠ ⊥) : ∃ r : ℝ, top x n = (r : EReal) :=
  ⟨(top x n).toReal, (EReal.coe_toReal (top_ne_top hx n) fun h => hr (le_bot_iff.mp (h ▸ le_top_of_lt x hk))).symm⟩

/-- … and the denominator is a positive number. -/
theorem den_pos {x : ℕ → EReal} (hx : ∀ k, x k ≠ ⊤) {n k : ℕ} (hk : k < n) (hr : x k ≠ ⊥) :
    ∃ r : ℝ, 0 < r ∧ den x n = (r : EReal) := by
  obtain ⟨t, ht⟩ := top_coe hx hk hr
  have hw : ∀ j, j < n → ∃ r : ℝ, 0 ≤ r ∧ Ideal.exp (x j - top x n) = (r : EReal) := fun j hj => by
    have h0 := exp_nonneg (x j - top x n)
    have h1 := exp_ne_top (sub_ne_top (le_top_of_lt x hj) (top_ne_top hx n))
    exact ⟨_, EReal.toReal_nonneg h0, (EReal.coe_toReal h1 (fun h => by rw [h] at h0; exact absurd h0 (by simp))).symm⟩
  have hd : den x n ≠ ⊤ := by
    unfold den
    refine (Finset.sum_induction _ (fun s : EReal => 0 ≤ s ∧ s ≠ ⊤) (fun a b ha hb => ⟨add_nonneg ha.1 hb.1, ?_⟩) ⟨le_rfl, EReal.zero_ne_top⟩
      fun j hj => ?_).2
    · exact (EReal.add_lt_top ha.2 hb.2).ne
    · obtain ⟨r, h0, h⟩ := hw j (Finset.mem_range.mp hj)
      rw [h]; exact ⟨by exact_mod_cast h0, EReal.coe_ne_top _⟩
  have hp : 0 < den x n := by
    have hk0 : 0 < Ideal.exp (x k - top x n) := by
      have : x k = ((x k).toReal : EReal) := (EReal.coe_toReal (hx k) hr).symm
      rw [this, ht, ← EReal.coe_sub, exp_coe]; exact_mod_cast Real.exp_pos _
    exact hk0.trans_le (Finset.single_le_sum (f := fun j => Ideal.exp (x j - top x n)) (fun j _ => exp_nonneg _) (Finset.mem_range.mpr hk))
  have hb : den x n ≠ ⊥ := fun h => by rw [h] at hp; exact absurd hp (by simp)
  refine ⟨(den x n).toReal, ?_, (EReal.coe_toReal hd hb).symm⟩
  exact_mod_cast (EReal.coe_toReal hd hb).symm ▸ hp

/-- Division by a positive number is the product with its inverse, a positive number. -/
theorem div_coe (y : EReal) {r : ℝ} (hr : 0 < r) : Ideal.div y (r : EReal) = y * ((r⁻¹ : ℝ) : EReal) := by
  unfold Ideal.div
  rw [if_neg (by exact_mod_cast hr.ne'), EReal.coe_inv]

/-- Weights divided by the denominator first, then summed with the values: the quotient of the weighted sum. -/
theorem sum_div {x : ℕ → EReal} (hx : ∀ k, x k ≠ ⊤) (v : ℕ → EReal) {n k : ℕ} (hk : k < n) (hr : x k ≠ ⊥) :
    ∑ j ∈ Finset.range n, v j * Ideal.div (Ideal.exp (x j - top x n)) (den x n) = Ideal.div (num x v n) (den x n) := by
  obtain ⟨r, h0, h⟩ := den_pos hx hk hr
  rw [h, div_coe _ h0, mul_comm, num, mul_sum_of_nonneg _ _ (by exact_mod_cast (inv_pos.mpr h0).le) (EReal.coe_ne_top _)]
  refine Finset.sum_congr rfl fun j _ => ?_
  rw [div_coe _ h0, mul_comm (v j), mul_comm (Ideal.exp _), mul_assoc]

/-- A number added to every score raises the ceiling by it. -/
theorem top_shift (x : ℕ → EReal) (c : ℝ) (n : ℕ) : top (fun k => x k + c) n = top x n + c := by
  unfold top
  induction n with
  | zero => simp
  | succ n ih =>
    rw [Finset.range_add_one, Finset.sup_insert, Finset.sup_insert, ih]
    exact (Monotone.map_max (f := fun y : EReal => y + (c : EReal)) (fun a b h => add_le_add_left h _)).symm

/-- … and changes no weight. -/
theorem sub_shift (a b : EReal) (c : ℝ) : (a + c) - (b + c) = a - b := by
  induction a <;> induction b <;> first
    | rfl
    | simp
    | (norm_cast; ring_nf)

/-- So the denominator stays. -/
theorem den_shift (x : ℕ → EReal) (c : ℝ) (n : ℕ) : den (fun k => x k + c) n = den x n := by
  unfold den
  rw [top_shift]
  exact Finset.sum_congr rfl fun k _ => by rw [sub_shift]

/-- So does the weighted sum. -/
theorem num_shift (x v : ℕ → EReal) (c : ℝ) (n : ℕ) : num (fun k => x k + c) v n = num x v n := by
  unfold num
  rw [top_shift]
  exact Finset.sum_congr rfl fun k _ => by rw [sub_shift]

end Cert.Softmax
-- ==== Proof.Step.lean ====
/-
  One block of 512 keys met by a tile of 512 queries, for one of the two heads that share a 128-lane tile: the scores,
  and what the running maximum, denominator and weighted sum become. Each is stated once, over any state, for the
  blocks before the diagonal, the diagonal block and both heads; each is read at an index over the extended reals.
-/
module

public import proofs.«01_k».proof.Proof.Softmax
public import proofs.«01_k».proof.Proof.Gen.KernelIdeal.Skeleton
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.PureOps.IdealRules

@[expose] public section

noncomputable section

namespace Cert.KernelIdeal.Step

open Idealize.ShloMosaic Idealize.ShloMosaic.ValueIdx Cert.KernelIdeal Cert.KernelIdeal.Gen

/-- The scale of the scores, 1/8. -/
abbrev scale : EReal := Ideal.ofBits .f32 0x3E000000#32

/-- The scale is the number 1/8. -/
theorem scale_eq : scale = ((1 / 8 : ℝ) : EReal) := by
  simp [scale, Ideal.ofBits, Ideal.ieee, -EReal.coe_mul]; norm_num

/-- The word of the maximum's start is `⊥`. -/
theorem negInf : Ideal.ofBits .f32 0xFF800000#32 = (⊥ : EReal) := by
  simp [Ideal.ofBits, Ideal.ieee]

/-- The named mask is `⊥`. -/
theorem mask_eq : (Named.named (F := Ideal) κ "mask" (φ := .f32) 0xF149F2CA#32 : Ideal .f32) = (⊥ : EReal) :=
  IdealRules.named_const.ideal_named_scalar _ _ _ _ rfl

/-- The scores of a tile of (lane-masked) queries against a block of keys. -/
def score (qm : FVec Ideal S512x128 .bf16) (dref : FVec Ideal S1x1 .f32) (K : FVec Ideal S512x128 .bf16)
    (dk : FVec Ideal S1x1x512 .f32) : FVec Ideal S512x512 .f32 :=
  addf (mulf (matmul dot_S512x128_S512x128_S512x512_1_1_0_0_n_n none qm K (constant S512x512 .f32 0x00000000#32))
      (broadcast S512x512 (Scalar.ofBits .f32 0x3E000000#32)))
    (broadcastTo S512x512 (subf (broadcastTo S1x512 dref broadcasts_S1x1_S1x512) (shapeCast S1x512 dk shapeCasts_S1x1x512_S1x512))
      broadcasts_S1x512_S512x512)

/-- The scores of the diagonal block: a key after its query is masked. -/
def scoreDiag (s : FVec Ideal S512x512 .f32) : FVec Ideal S512x512 .f32 :=
  select k0_pay2 s (broadcast S512x512 (Named.named κ "mask" 0xF149F2CA#32))

/-- The running maximum after a block. -/
def newMax (s : FVec Ideal S512x512 .f32) (m : FVec Ideal S512x1 .f32) : FVec Ideal S512x1 .f32 :=
  maximumf m (shapeCast S512x1 (multiReduction .maximumf [1] S512 s 0xFF800000#32 reduces_S512x512_S512 (.inl rfl) rfl) shapeCasts_S512_S512x1)

/-- The factor that brings the state to the new maximum. -/
def shrink (s : FVec Ideal S512x512 .f32) (m : FVec Ideal S512x1 .f32) : FVec Ideal S512x1 .f32 := exp (subf m (newMax s m))

/-- The weights of the block, from the new maximum. -/
def weights (s : FVec Ideal S512x512 .f32) (m : FVec Ideal S512x1 .f32) : FVec Ideal S512x512 .f32 :=
  exp (subf s (broadcastTo S512x512 (newMax s m) broadcasts_S512x1_S512x512))

/-- The running denominator after a block. -/
def newDen (s : FVec Ideal S512x512 .f32) (m l : FVec Ideal S512x1 .f32) : FVec Ideal S512x1 .f32 :=
  addf (mulf (shrink s m) l)
    (shapeCast S512x1 (multiReduction .add [1] S512 (weights s m) 0x00000000#32 reduces_S512x512_S512 (.inl rfl) rfl) shapeCasts_S512_S512x1)

/-- The running weighted sum of the values after a block. -/
def newNum (s : FVec Ideal S512x512 .f32) (m : FVec Ideal S512x1 .f32) (a : FVec Ideal S512x128 .f32) (V : FVec Ideal S512x128 .bf16) :
    FVec Ideal S512x128 .f32 :=
  addf (mulf (broadcastTo S512x128 (shrink s m) broadcasts_S512x1_S512x128) a)
    (matmul dot_S512x512_S512x128_S512x128_1_0_0_1_n_n none (truncf .bf16 (weights s m) bitsLt_bf16_f32) V (constant S512x128 .f32 0x00000000#32))

/-- The state of a tile of queries. -/
abbrev State := FVec Ideal S512x1 .f32 × FVec Ideal S512x1 .f32 × FVec Ideal S512x128 .f32

/-- The state after a block with scores `s` and values `V`. -/
def step (s : FVec Ideal S512x512 .f32) (V : FVec Ideal S512x128 .bf16) (st : State) : State :=
  (newMax s st.1, newDen s st.1 st.2.1, newNum s st.1 st.2.2 V)

/-- The quotient the state ends in. -/
def quot (st : State) : FVec Ideal S512x128 .f32 := divf st.2.2 (broadcastTo S512x128 st.2.1 broadcasts_S512x1_S512x128)

/-! ## At an index -/

/-- The word of zero is zero. -/
theorem zero_f32 : Ideal.ofBits .f32 0x00000000#32 = (0 : EReal) := Ideal.ofBits_zero_f32

/-- A score: the product of the query's and the key's lanes, scaled, and the difference of the gates. -/
theorem score_apply (qm : FVec Ideal S512x128 .bf16) (dref : FVec Ideal S1x1 .f32) (K : FVec Ideal S512x128 .bf16)
    (dk : FVec Ideal S1x1x512 .f32) (r j : Fin 512) :
    score qm dref K dk (ix2 r j)
      = (∑ l : Fin 128, qm (ix2 r l) * K (ix2 j l)) * scale + (dref (ix2 0 0) - dk (ix3 0 0 j)) := by
  show (FloatOps.matmul (DotDims.transposedRhs 512 128 512) none qm K _ (ix2 r j)) * scale
    + broadcastTo S512x512 _ broadcasts_S1x512_S512x512 (ix2 r j) = _
  rw [Ideal.matmul_transposedRhs_apply, broadcastTo_1b_ab_apply (a := 512) (b := 512), subf_apply, constant_apply, zero_f32, zero_add]
  congr 2
  · exact broadcastTo_apply dref _ _ (ix2 0 0) fun a => by match a with | 0 => rfl | 1 => rfl
  · exact shapeCast_1ab_ab_apply (a := 1) (b := 512) dk _ 0 j

/-- A column over the rows' axis, broadcast over the lanes, read at an index. -/
theorem broadcastCol_apply {b : ℕ} (v : FVec Ideal S512x1 .f32) (h : S512x1.Broadcasts ⟨2, ![512, b]⟩) (r : Fin 512) (j : Fin b) :
    broadcastTo ⟨2, ![512, b]⟩ v h (ix2 r j) = v (ix2 r 0) :=
  broadcastTo_apply v h _ (ix2 r 0) fun a => by match a with | 0 => rfl | 1 => rfl

/-- The index of a row's element. -/
theorem lift_row (r j : Fin 512) : reduces_S512x512_S512.lift (ix1 r) j = ix2 r j := by
  funext a; apply Fin.ext
  match a with
  | 0 => rfl
  | 1 => rfl

/-- The new maximum of a row. -/
theorem newMax_apply (s : FVec Ideal S512x512 .f32) (m : FVec Ideal S512x1 .f32) (r : Fin 512) :
    newMax s m (ix2 r 0) = max (m (ix2 r 0)) (Finset.univ.fold max ⊥ fun j : Fin 512 => s (ix2 r j)) := by
  unfold newMax
  rw [maximumf_apply, shapeCast_a_a1_apply (a := 512)]
  refine congrArg (max _) ((Ideal.multiReduction_maximumf_single s _ reduces_S512x512_S512 _ rfl (ix1 r)).trans ?_)
  show Finset.fold max (Ideal.ofBits .f32 0xFF800000#32) _ _ = _
  rw [negInf]
  exact congrArg (fun f => Finset.fold max ⊥ f Finset.univ) (funext fun j => congrArg s (lift_row r j))

/-- The factor of a row. -/
theorem shrink_apply (s : FVec Ideal S512x512 .f32) (m : FVec Ideal S512x1 .f32) (r : Fin 512) :
    shrink s m (ix2 r 0) = Ideal.exp (m (ix2 r 0) - newMax s m (ix2 r 0)) := rfl

/-- A weight. -/
theorem weights_apply (s : FVec Ideal S512x512 .f32) (m : FVec Ideal S512x1 .f32) (r j : Fin 512) :
    weights s m (ix2 r j) = Ideal.exp (s (ix2 r j) - newMax s m (ix2 r 0)) := by
  show Ideal.exp (s (ix2 r j) - broadcastTo S512x512 (newMax s m) broadcasts_S512x1_S512x512 (ix2 r j)) = _
  rw [broadcastCol_apply (b := 512)]

/-- The new denominator of a row. -/
theorem newDen_apply (s : FVec Ideal S512x512 .f32) (m l : FVec Ideal S512x1 .f32) (r : Fin 512) :
    newDen s m l (ix2 r 0) = Ideal.exp (m (ix2 r 0) - newMax s m (ix2 r 0)) * l (ix2 r 0)
      + ∑ j : Fin 512, Ideal.exp (s (ix2 r j) - newMax s m (ix2 r 0)) := by
  unfold newDen
  rw [addf_apply, mulf_apply, shrink_apply, shapeCast_a_a1_apply (a := 512)]
  refine congrArg (_ + ·) ((Ideal.multiReduction_add_single _ _ reduces_S512x512_S512 _ rfl (ix1 r)).trans
    (Finset.sum_congr rfl fun j _ => ?_))
  exact (congrArg (weights s m) (lift_row r j)).trans (weights_apply s m r j)

/-- The new weighted sum of a row, at a lane. -/
theorem newNum_apply (s : FVec Ideal S512x512 .f32) (m : FVec Ideal S512x1 .f32) (a : FVec Ideal S512x128 .f32)
    (V : FVec Ideal S512x128 .bf16) (r : Fin 512) (l : Fin 128) :
    newNum s m a V (ix2 r l) = Ideal.exp (m (ix2 r 0) - newMax s m (ix2 r 0)) * a (ix2 r l)
      + ∑ j : Fin 512, Ideal.exp (s (ix2 r j) - newMax s m (ix2 r 0)) * V (ix2 j l) := by
  unfold newNum
  rw [addf_apply, mulf_apply, broadcastCol_apply (b := 128), shrink_apply]
  refine congrArg (fun z : EReal => Ideal.exp (m (ix2 r 0) - newMax s m (ix2 r 0)) * a (ix2 r l) + z) ?_
  show FloatOps.matmul (DotDims.plain 512 512 128) none _ V _ (ix2 r l) = _
  rw [Ideal.matmul_plain_apply, constant_apply, zero_f32, zero_add]
  exact Finset.sum_congr rfl fun j _ => congrArg (fun z : EReal => z * V (ix2 j l)) (weights_apply s m r j)

/-- The quotient of a row, at a lane. -/
theorem quot_apply (st : State) (r : Fin 512) (l : Fin 128) :
    quot st (ix2 r l) = Ideal.div (st.2.2 (ix2 r l)) (st.2.1 (ix2 r 0)) := by
  unfold quot
  rw [divf_apply, broadcastCol_apply (b := 128)]

/-- The diagonal's mask at an index: the key is not after the query. -/
theorem diag_apply (r j : Fin 512) : k0_pay2 (ix2 r j) = if j.val ≤ r.val then 1#1 else 0#1 := by
  show IntOp.cmpi .sle (iota .tc S512x512 32 [1] iota_S512x512_d1_w32 (ix2 r j)) (iota .tc S512x512 32 [0] iota_S512x512_d0_w32 (ix2 r j)) = _
  rw [iota_single_apply, iota_single_apply]
  show IntOp.cmpi .sle (BitVec.ofNat 32 j.val) (BitVec.ofNat 32 r.val) = _
  have hr := r.isLt
  have hj := j.isLt
  have e (n : ℕ) (h : n < 512) : (BitVec.ofNat 32 n).toInt = n := by
    rw [BitVec.toInt_eq_toNat_of_lt] <;> simp only [BitVec.toNat_ofNat] <;> omega
  by_cases h : j.val ≤ r.val
  · rw [if_pos h]; simp [IntOp.cmpi, BitVec.sle, e _ hr, e _ hj, h]
  · rw [if_neg h]; simp [IntOp.cmpi, BitVec.sle, e _ hr, e _ hj, h]

/-- A score of the diagonal block. -/
theorem scoreDiag_apply (s : FVec Ideal S512x512 .f32) (r j : Fin 512) :
    scoreDiag s (ix2 r j) = if j.val ≤ r.val then s (ix2 r j) else ⊥ := by
  unfold scoreDiag
  rw [select_apply, diag_apply]
  by_cases h : j.val ≤ r.val
  · rw [if_pos h, if_pos h, select_one]
  · rw [if_neg h, if_neg h, select_zero]; exact mask_eq

/-- A state follows a row's sequences of scores and values where it holds their three sums over a prefix. -/
structure Holds (st : State) (r : Fin 512) (x : ℕ → EReal) (v : Fin 128 → ℕ → EReal) (n : ℕ) : Prop where
  max : st.1 (ix2 r 0) = Softmax.top x n
  den : st.2.1 (ix2 r 0) = Softmax.den x n
  num : ∀ l, st.2.2 (ix2 r l) = Softmax.num x (v l) n

/-- It still does after the next block. -/
theorem Holds.step {st : State} {r : Fin 512} {x : ℕ → EReal} {v : Fin 128 → ℕ → EReal} {n : ℕ} (H : Holds st r x v n)
    (hx : ∀ k, x k ≠ ⊤) (s : FVec Ideal S512x512 .f32) (V : FVec Ideal S512x128 .bf16) (hs : ∀ j : Fin 512, s (ix2 r j) = x (n + j))
    (hV : ∀ (j : Fin 512) l, V (ix2 j l) = v l (n + j)) : Holds (step s V st) r x v (n + 512) := by
  have hm : newMax s st.1 (ix2 r 0) = Softmax.top x (n + 512) := by
    rw [newMax_apply, H.max, Softmax.top_add]; simp only [hs]
  refine ⟨hm, ?_, fun l => ?_⟩
  · show newDen s st.1 st.2.1 (ix2 r 0) = _
    rw [newDen_apply, hm, H.max, H.den, Softmax.den_add hx]; simp only [hs]
  · show newNum s st.1 st.2.2 V (ix2 r l) = _
    rw [newNum_apply, hm, H.max, H.num, Softmax.num_add hx]; simp only [hs, hV]

/-- The state before the first block. -/
def start : State := (k0_pay5, k0_pay6, k0_pay7)

/-- It holds the sums over no key. -/
theorem Holds.start (r : Fin 512) (x : ℕ → EReal) (v : Fin 128 → ℕ → EReal) : Holds start r x v 0 where
  max := mask_eq
  den := zero_f32.trans (by simp [Softmax.den])
  num l := zero_f32.trans (by simp [Softmax.num])

/-! ## The programs' values are these -/

/-- A block of the first head. -/
theorem step_first (v11 : FVec Ideal S512x128 .bf16) (v19 : FVec Ideal S1x1x1 .f32) (K V : FVec Ideal S512x128 .bf16)
    (dk : FVec Ideal S1x1x512 .f32) (st : State) :
    (k0_pay9 v11 v19 st.1 K dk, k0_pay12 v11 v19 st.1 st.2.1 K dk, k0_pay13 v11 v19 st.1 st.2.2 K V dk)
      = step (score (k0_pay3 (F := Ideal) v11) (k0_pay4 v19) K dk) V st := rfl

/-- A block of the second head. -/
theorem step_second (v71 : FVec Ideal S512x128 .bf16) (v73 : FVec Ideal S1x1 .f32) (K V : FVec Ideal S512x128 .bf16)
    (dk : FVec Ideal S1x1x512 .f32) (st : State) :
    (k0_pay27 v71 v73 st.1 K dk, k0_pay30 v71 v73 st.1 st.2.1 K dk, k0_pay31 v71 v73 st.1 st.2.2 K V dk)
      = step (score v71 v73 K dk) V st := rfl

/-- The second head starts as the first. -/
theorem start_second : ((k0_pay23, k0_pay24, k0_pay25) : State) = start := rfl

/-- The first head's result: the quotient after the diagonal block. -/
theorem last_first (v18 : FVec Ideal S512x128 .bf16) (v20 : FVec Ideal S1x1 .f32) (K V : FVec Ideal S512x128 .bf16)
    (dk : FVec Ideal S1x1x512 .f32) (st : State) :
    k0_pay20 k0_pay2 v18 v20 st.1 st.2.1 st.2.2 K V dk = quot (step (scoreDiag (score v18 v20 K dk)) V st) := rfl

/-- The tile stored: the second head's quotient on the lanes of the upper half, the first head's on the others. -/
theorem last_second (v67 : FVec Ideal S512x128 .f32) (v71 : FVec Ideal S512x128 .bf16) (v73 : FVec Ideal S1x1 .f32)
    (K V : FVec Ideal S512x128 .bf16) (dk : FVec Ideal S1x1x512 .f32) (st : State) :
    k0_pay38 k0_pay1 k0_pay2 v67 v71 v73 st.1 st.2.1 st.2.2 K V dk
      = truncf .bf16 (select (broadcastTo S512x128 (shapeCast S1x128 k0_pay1 shapeCasts_S1x128_S1x128) broadcasts_S1x128_S512x128)
          (quot (step (scoreDiag (score v71 v73 K dk)) V st)) v67) bitsLt_bf16_f32 := rfl

/-- A word below 128 read as a signed number. -/
theorem toInt_lane {n : ℕ} (h : n < 129) : (BitVec.ofNat 32 n).toInt = n := by
  rw [BitVec.toInt_eq_toNat_of_lt] <;> simp only [BitVec.toNat_ofNat] <;> omega

/-- The lanes of the upper half. -/
theorem upper_apply (l : Fin 128) : k0_pay1 (ix2 0 l) = if 64 ≤ l.val then 1#1 else 0#1 := by
  show IntOp.andi (IntOp.cmpi .sge (iota .tc S1x128 32 [1] iota_S1x128_d1_w32 (ix2 0 l)) (BitVec.ofNat 32 64))
    (IntOp.cmpi .slt (iota .tc S1x128 32 [1] iota_S1x128_d1_w32 (ix2 0 l)) (BitVec.ofNat 32 128)) = _
  rw [iota_single_apply]
  show IntOp.andi (IntOp.cmpi .sge (BitVec.ofNat 32 l.val) (BitVec.ofNat 32 64)) (IntOp.cmpi .slt (BitVec.ofNat 32 l.val) (BitVec.ofNat 32 128)) = _
  have hl := l.isLt
  by_cases h : 64 ≤ l.val <;>
    simp [IntOp.cmpi, IntOp.andi, BitVec.sle, BitVec.slt, toInt_lane (show l.val < 129 by omega), toInt_lane (show 64 < 129 by omega),
      toInt_lane (show 128 < 129 by omega), h, hl]

/-- The upper half's lanes, in every row. -/
theorem upperRows_apply (r : Fin 512) (l : Fin 128) :
    broadcastTo S512x128 (shapeCast S1x128 k0_pay1 shapeCasts_S1x128_S1x128) broadcasts_S1x128_S512x128 (ix2 r l)
      = if 64 ≤ l.val then 1#1 else 0#1 := by
  rw [broadcastTo_1b_ab_apply (a := 512) (b := 128), shapeCast_self, upper_apply]

/-- The first head's query: its lanes, the others zero. -/
theorem lower_query_apply (q : FVec Ideal S512x128 .bf16) (r : Fin 512) (l : Fin 128) :
    (k0_pay3 (F := Ideal) q : FVec Ideal S512x128 .bf16) (ix2 r l) = (if l.val < 64 then q (ix2 r l) else (0 : EReal)) := by
  show Scalar.select (broadcastTo S512x128 (shapeCast S1x128 _ shapeCasts_S1x128_S1x128) broadcasts_S1x128_S512x128 (ix2 r l)) (q (ix2 r l))
    (Ideal.ofBits .bf16 0x0000#16) = _
  rw [broadcastTo_1b_ab_apply (a := 512) (b := 128), shapeCast_self, Ideal.ofBits_zero_bf16]
  have hc : andi (cmpi .sge (iota .tc S1x128 32 [1] iota_S1x128_d1_w32) (broadcast S1x128 0#32))
      (cmpi .slt (iota .tc S1x128 32 [1] iota_S1x128_d1_w32) (broadcast S1x128 64#32)) (ix2 0 l) = if l.val < 64 then 1#1 else 0#1 := by
    show IntOp.andi (IntOp.cmpi .sge (iota .tc S1x128 32 [1] iota_S1x128_d1_w32 (ix2 0 l)) (BitVec.ofNat 32 0))
      (IntOp.cmpi .slt (iota .tc S1x128 32 [1] iota_S1x128_d1_w32 (ix2 0 l)) (BitVec.ofNat 32 64)) = _
    rw [iota_single_apply]
    show IntOp.andi (IntOp.cmpi .sge (BitVec.ofNat 32 l.val) (BitVec.ofNat 32 0)) (IntOp.cmpi .slt (BitVec.ofNat 32 l.val) (BitVec.ofNat 32 64)) = _
    have hl := l.isLt
    by_cases h : l.val < 64 <;>
      simp [IntOp.cmpi, IntOp.andi, BitVec.sle, BitVec.slt, toInt_lane (show l.val < 129 by omega), toInt_lane (show 64 < 129 by omega), h]
  rw [hc]
  by_cases h : l.val < 64
  · rw [if_pos h, if_pos h]; rfl
  · rw [if_neg h, if_neg h]; rfl

/-- The second head's query. -/
theorem upper_query_apply (q : FVec Ideal S512x128 .bf16) (r : Fin 512) (l : Fin 128) :
    (k0_pay21 (F := Ideal) k0_pay1 q : FVec Ideal S512x128 .bf16) (ix2 r l) = (if 64 ≤ l.val then q (ix2 r l) else (0 : EReal)) := by
  show Scalar.select (broadcastTo S512x128 (shapeCast S1x128 k0_pay1 shapeCasts_S1x128_S1x128) broadcasts_S1x128_S512x128 (ix2 r l)) (q (ix2 r l))
    (Ideal.ofBits .bf16 0x0000#16) = _
  rw [upperRows_apply, Ideal.ofBits_zero_bf16]
  by_cases h : 64 ≤ l.val
  · rw [if_pos h, if_pos h]; rfl
  · rw [if_neg h, if_neg h]; rfl

/-- The tile stored, at an index. -/
theorem stored_apply (a b : FVec Ideal S512x128 .f32) (r : Fin 512) (l : Fin 128) :
    (truncf .bf16 (select (broadcastTo S512x128 (shapeCast S1x128 k0_pay1 shapeCasts_S1x128_S1x128) broadcasts_S1x128_S512x128) b a)
      bitsLt_bf16_f32 : FVec Ideal S512x128 .bf16) (ix2 r l) = if 64 ≤ l.val then b (ix2 r l) else a (ix2 r l) := by
  rw [truncf_apply, select_apply, upperRows_apply]
  by_cases h : 64 ≤ l.val
  · rw [if_pos h, if_pos h]; rfl
  · rw [if_neg h, if_neg h]; rfl

end Cert.KernelIdeal.Step
-- ==== Proof.Block.lean ====
/-
  What the kernel's body leaves in the output's tile at one grid point: over the tile of 512 queries, for each row and
  lane, the quotient of the row's weighted sum by its denominator over the keys up to the diagonal block's end — of the
  first head on the lower 64 lanes, of the second on the upper. Each head's counted loop holds the row's sums over the
  blocks it has met, by induction on the trip; the loop for a remainder makes no trip.
-/
module

public import proofs.«01_k».proof.Proof.Step
public import proofs.«01_k».proof.Proof.Gen.KernelIdeal.Frame
public import Idealize.ShloMosaic.Lib.LoopRemainder

@[expose] public section

noncomputable section

namespace Cert.KernelIdeal.Block

open Idealize.ShloMosaic Idealize.ShloMosaic.ValueIdx Idealize.ShloMosaic.TcCoe Idealize.ShloMosaic.Tactic
open Cert.KernelIdeal Cert.KernelIdeal.Gen Cert.KernelIdeal.Step

/-- Row `k` of the keys (or of the values) of a head pair. -/
def row (x : Vec Ideal S16384x128 .bf16) (k : ℕ) (l : Fin 128) : EReal := if h : k < 16384 then x (ix2 ⟨k, h⟩ l) else 0

/-- The cumulated gate of key `k` for head `h` of the pair. -/
def gate (x : Vec Ideal S2x1x16384 .f32) (h : Fin 2) (k : ℕ) : EReal := if hk : k < 16384 then x (ix3 h 0 ⟨k, hk⟩) else 0

/-- The score of key `k` for row `r` of the tile whose first query is `q0`: `⊥` where the key is after the query. -/
def rowScore (qm : FVec Ideal S512x128 .bf16) (K : Vec Ideal S16384x128 .bf16) (dk : Vec Ideal S2x1x16384 .f32)
    (dref : EReal) (h : Fin 2) (q0 : ℕ) (r : Fin 512) (k : ℕ) : EReal :=
  if k ≤ q0 + r.val then (∑ l : Fin 128, qm (ix2 r l) * row K k l) * scale + (dref - gate dk h k) else ⊥

/-- A block of rows loaded at row `n` reads those rows. -/
theorem load_rows (x : Vec Ideal S16384x128 .bf16) {off : Fin 2 → Nat} (hb : ∀ a, off a + S512x128.size a ≤ S16384x128.size a) (n : ℕ)
    (ho : off = ![n, 0]) (j : Fin 512) (l : Fin 128) :
    (View.ld x (Rect.unit (s := S16384x128) off S512x128.size hb) : Vec Ideal S512x128 .bf16) (ix2 j l) = row x (n + j) l := by
  subst ho
  have h0 : n + 512 ≤ 16384 := hb 0
  have hj := j.isLt
  rw [row, dif_pos (by omega)]
  refine congrArg x (funext fun a => Fin.ext ?_)
  match a with
  | 0 => show n + 1 * j.val = _; rw [one_mul]
  | 1 => show 0 + 1 * l.val = _; rw [one_mul, zero_add]

/-- A block of gates loaded at key `n` reads those keys' gates. -/
theorem load_gates (x : Vec Ideal S2x1x16384 .f32) {off : Fin 3 → Nat} (hb : ∀ a, off a + S1x1x512.size a ≤ S2x1x16384.size a) (h : Fin 2)
    (n : ℕ) (ho : off = ![h.val, 0, n]) (j : Fin 512) :
    (View.ld x (Rect.unit (s := S2x1x16384) off S1x1x512.size hb) : Vec Ideal S1x1x512 .f32) (ix3 0 0 j) = gate x h (n + j) := by
  subst ho
  have h0 : n + 512 ≤ 16384 := hb 2
  have hj := j.isLt
  rw [gate, dif_pos (by omega)]
  refine congrArg x (funext fun a => Fin.ext ?_)
  match a with
  | 0 => show h.val + 1 * 0 = h.val; rw [mul_zero, add_zero]
  | 1 => rfl
  | 2 => show n + 1 * j.val = _; rw [one_mul]

/-- The scores of a block before the diagonal. -/
theorem score_before (qm : FVec Ideal S512x128 .bf16) (dref : FVec Ideal S1x1 .f32) (K : Vec Ideal S16384x128 .bf16)
    (dk : Vec Ideal S2x1x16384 .f32) {o : Fin 2 → Nat} (ho : ∀ a, o a + S512x128.size a ≤ S16384x128.size a) {p : Fin 3 → Nat}
    (hp : ∀ a, p a + S1x1x512.size a ≤ S2x1x16384.size a) (h : Fin 2) (n q0 : ℕ) (eo : o = ![n, 0]) (ep : p = ![h.val, 0, n])
    (hn : n + 512 ≤ q0) (r j : Fin 512) :
    score qm dref (View.ld K (Rect.unit (s := S16384x128) o S512x128.size ho)) (View.ld dk (Rect.unit (s := S2x1x16384) p S1x1x512.size hp)) (ix2 r j)
      = rowScore qm K dk (dref (ix2 0 0)) h q0 r (n + j) := by
  have hj := j.isLt
  rw [score_apply, rowScore, if_pos (by omega), load_gates dk hp h n ep]
  simp only [load_rows K ho n eo]

/-- The scores of the diagonal block. -/
theorem score_diag (qm : FVec Ideal S512x128 .bf16) (dref : FVec Ideal S1x1 .f32) (K : Vec Ideal S16384x128 .bf16)
    (dk : Vec Ideal S2x1x16384 .f32) {o : Fin 2 → Nat} (ho : ∀ a, o a + S512x128.size a ≤ S16384x128.size a) {p : Fin 3 → Nat}
    (hp : ∀ a, p a + S1x1x512.size a ≤ S2x1x16384.size a) (h : Fin 2) (q0 : ℕ) (eo : o = ![q0, 0]) (ep : p = ![h.val, 0, q0]) (r j : Fin 512) :
    scoreDiag (score qm dref (View.ld K (Rect.unit (s := S16384x128) o S512x128.size ho))
        (View.ld dk (Rect.unit (s := S2x1x16384) p S1x1x512.size hp))) (ix2 r j)
      = rowScore qm K dk (dref (ix2 0 0)) h q0 r (q0 + j) := by
  rw [scoreDiag_apply, rowScore, score_apply, load_gates dk hp h q0 ep]
  simp only [load_rows K ho q0 eo, Nat.add_le_add_iff_left]

/-! ## The loops -/

/-- The counted loops make as many trips as there are blocks before the diagonal one. -/
theorem trips_eq (i : grid0.Coords) : (k0_t1_loop i).trips = (i 1).val := by
  have h : (i 1).val < 32 := (i 1).isLt
  show Scf.trips 0#32 (Scalar.addi 0#32 (Scalar.muli (Scalar.divsi (Scalar.subi (BitVec.ofNat 32 (i 1).val) 0#32) 1#32) 1#32)) 1#32 = _
  rw [Scalar.muli_divsi_one]
  simp only [Scf.trips, Scalar.addi, Scalar.subi, IntOp.addi, IntOp.subi, BitVec.sub_zero, BitVec.zero_add]
  rw [BitVec.toInt_eq_toNat_of_lt (by simp only [BitVec.toNat_ofNat]; omega)]
  simp only [BitVec.toNat_ofNat]
  have e1 : (1#32 : BitVec 32).toInt = 1 := by decide
  have e0 : (0#32 : BitVec 32).toInt = 0 := by decide
  rw [e1, e0]
  omega

variable (𝒱 : Variants) (c : Dev nD) (bd : Option 𝒱.V) (i : grid0.Coords)
  (arg2 : Memref sig .tc .vmem S512x128 .bf16) (harg2 : arg2.IsWhole) (arg3 : Memref sig .tc .vmem S16384x128 .bf16) (harg3 : arg3.IsWhole)
  (arg4 : Memref sig .tc .vmem S16384x128 .bf16) (harg4 : arg4.IsWhole) (arg5 : Memref sig .tc .vmem S2x1x16384 .f32) (harg5 : arg5.IsWhole)
  (arg6 : Memref sig .tc .vmem S2x1x512 .f32) (harg6 : arg6.IsWhole) (arg7 : Memref sig .tc .vmem S512x128 .bf16) (harg7 : arg7.IsWhole)
  (K V : Vec Ideal S16384x128 .bf16) (dk : Vec Ideal S2x1x16384 .f32)

/-- One trip of the first head's loop is a block's step. -/
theorem trip_first (v11 : Vec Ideal S512x128 .bf16) (v19 : Vec Ideal S1x1x1 .f32) (k : Fin (k0_t1_loop i).trips) (st : State) :
    tripR_k0_t1 (F := Ideal) 𝒱 c bd i arg2 harg2 arg3 harg3 arg4 harg4 arg5 harg5 arg6 harg6 arg7 harg7 v11 v19
        (harg3.unread K) (harg4.unread V) (harg5.unread dk) k st
      = step (score (k0_pay3 (F := Ideal) v11) (k0_pay4 v19)
            (View.ld K (Rect.unit (s := S16384x128) (k0_off1 i k) S512x128.size (k0_off1_inb i k)))
            (View.ld dk (Rect.unit (s := S2x1x16384) (k0_off2 i k) S1x1x512.size (k0_off2_inb i k))))
          (View.ld V (Rect.unit (s := S16384x128) (k0_off1 i k) S512x128.size (k0_off1_inb i k))) st := by
  unfold tripR_k0_t1 trip_k0_t1
  dsimp only
  simp only [View.readAt_eq_ld, harg3.read_unread, harg4.read_unread, harg5.read_unread]
  exact step_first ..

/-- One trip of the second head's loop is a block's step. -/
theorem trip_second (arg1 : BitVec 32) (v10 : IVec S1x128 1) (v14 : IVec S512x512 1) (v67 : FVec Ideal S512x128 .f32)
    (v71 : Vec Ideal S512x128 .bf16) (v73 : FVec Ideal S1x1 .f32) (v74 v75 : FVec Ideal S512x1 .f32) (v76 : FVec Ideal S512x128 .f32)
    (z w : BitVec 32) (k : Fin (k0_t3_loop i).trips) (st : State) :
    tripR_k0_t3 (F := Ideal) 𝒱 c bd i arg2 harg2 arg3 harg3 arg4 harg4 arg5 harg5 arg6 harg6 arg7 harg7 arg1 v10 v14 v67 v71 v73 v74 v75 v76 z w
        (harg3.unread K) (harg4.unread V) (harg5.unread dk) k st
      = step (score v71 v73
            (View.ld K (Rect.unit (s := S16384x128) (k0_off7 i k) S512x128.size (k0_off7_inb i k)))
            (View.ld dk (Rect.unit (s := S2x1x16384) (k0_off8 i k) S1x1x512.size (k0_off8_inb i k))))
          (View.ld V (Rect.unit (s := S16384x128) (k0_off7 i k) S512x128.size (k0_off7_inb i k))) st := by
  unfold tripR_k0_t3 trip_k0_t3
  dsimp only
  simp only [View.readAt_eq_ld, harg3.read_unread, harg4.read_unread, harg5.read_unread]
  exact step_second ..

/-- Before trip `k` the first head's loop holds every row's sums over the first `k` blocks. -/
theorem loop_first (v11 : Vec Ideal S512x128 .bf16) (v19 : Vec Ideal S1x1x1 .f32) (r : Fin 512)
    (hx : ∀ k, rowScore (k0_pay3 (F := Ideal) v11) K dk (k0_pay4 v19 (ix2 0 0)) 0 (512 * (i 1).val) r k ≠ ⊤) :
    ∀ k ≤ (i 1).val, Holds (st_k0_t1 (F := Ideal) 𝒱 c bd i arg2 harg2 arg3 harg3 arg4 harg4 arg5 harg5 arg6 harg6 arg7 harg7 v11 v19
        (harg3.unread K) (harg4.unread V) (harg5.unread dk) (k0_pay5, k0_pay6, k0_pay7) k) r
      (rowScore (k0_pay3 (F := Ideal) v11) K dk (k0_pay4 v19 (ix2 0 0)) 0 (512 * (i 1).val) r) (fun l n => row V n l) (512 * k)
  | 0, _ => Holds.start r _ _
  | k + 1, hk => by
    have hlt : k < (k0_t1_loop i).trips := by rw [trips_eq]; omega
    have e := st_k0_t1_succ (F := Ideal) 𝒱 c bd i arg2 harg2 arg3 harg3 arg4 harg4 arg5 harg5 arg6 harg6 arg7 harg7 v11 v19
        (harg3.unread K) (harg4.unread V) (harg5.unread dk) (k0_pay5, k0_pay6, k0_pay7) ⟨k, hlt⟩
    rw [trip_first] at e
    rw [show st_k0_t1 (F := Ideal) 𝒱 c bd i arg2 harg2 arg3 harg3 arg4 harg4 arg5 harg5 arg6 harg6 arg7 harg7 v11 v19
        (harg3.unread K) (harg4.unread V) (harg5.unread dk) (k0_pay5, k0_pay6, k0_pay7) (k + 1) = _ from e]
    exact (loop_first v11 v19 r hx k (by omega)).step hx _ _
      (score_before _ _ K dk _ _ 0 (512 * k) (512 * (i 1).val) (k0_off1_eq i ⟨k, hlt⟩) (k0_off2_eq i ⟨k, hlt⟩) (by omega) r)
      (load_rows V _ _ (k0_off1_eq i ⟨k, hlt⟩))

/-- Before trip `k` the second head's loop holds every row's sums over the first `k` blocks. -/
theorem loop_second (arg1 : BitVec 32) (v10 : IVec S1x128 1) (v14 : IVec S512x512 1) (v67 : FVec Ideal S512x128 .f32)
    (v71 : Vec Ideal S512x128 .bf16) (v73 : FVec Ideal S1x1 .f32) (v74 v75 : FVec Ideal S512x1 .f32) (v76 : FVec Ideal S512x128 .f32)
    (z w : BitVec 32) (r : Fin 512) (hx : ∀ k, rowScore v71 K dk (v73 (ix2 0 0)) 1 (512 * (i 1).val) r k ≠ ⊤) :
    ∀ k ≤ (i 1).val, Holds (st_k0_t3 (F := Ideal) 𝒱 c bd i arg2 harg2 arg3 harg3 arg4 harg4 arg5 harg5 arg6 harg6 arg7 harg7 arg1 v10 v14
        v67 v71 v73 v74 v75 v76 z w (harg3.unread K) (harg4.unread V) (harg5.unread dk) (k0_pay23, k0_pay24, k0_pay25) k) r
      (rowScore v71 K dk (v73 (ix2 0 0)) 1 (512 * (i 1).val) r) (fun l n => row V n l) (512 * k)
  | 0, _ => Holds.start r _ _
  | k + 1, hk => by
    have hlt : k < (k0_t3_loop i).trips := by rw [show (k0_t3_loop i).trips = _ from trips_eq i]; omega
    have e := st_k0_t3_succ (F := Ideal) 𝒱 c bd i arg2 harg2 arg3 harg3 arg4 harg4 arg5 harg5 arg6 harg6 arg7 harg7 arg1 v10 v14
        v67 v71 v73 v74 v75 v76 z w (harg3.unread K) (harg4.unread V) (harg5.unread dk) (k0_pay23, k0_pay24, k0_pay25) ⟨k, hlt⟩
    rw [trip_second] at e
    rw [show st_k0_t3 (F := Ideal) 𝒱 c bd i arg2 harg2 arg3 harg3 arg4 harg4 arg5 harg5 arg6 harg6 arg7 harg7 arg1 v10 v14
        v67 v71 v73 v74 v75 v76 z w (harg3.unread K) (harg4.unread V) (harg5.unread dk) (k0_pay23, k0_pay24, k0_pay25) (k + 1) = _ from e]
    exact (loop_second arg1 v10 v14 v67 v71 v73 v74 v75 v76 z w r hx k (by omega)).step hx _ _
      (score_before _ _ K dk _ _ 1 (512 * k) (512 * (i 1).val) (k0_off7_eq i ⟨k, hlt⟩) (k0_off8_eq i ⟨k, hlt⟩) (by omega) r)
      (load_rows V _ _ (k0_off7_eq i ⟨k, hlt⟩))

/-! ## The tile -/

theorem zeros2 : (![0, 0] : Fin 2 → Nat) = fun _ => 0 := funext fun a => by fin_cases a <;> rfl

/-- A pair's query gate loaded. -/
def gate0 (x : Vec Ideal S2x1x512 .f32) (h : Fin 2) : EReal := x (ix3 h 0 0)

/-- The first head's gate of the tile's first query. -/
theorem load_gate0 (x : Vec Ideal S2x1x512 .f32) :
    k0_pay4 (F := Ideal) (View.ld x (Rect.unit (s := S2x1x512) ![0, 0, 0] S1x1x1.size inb_S2x1x512_S1x1x1_0_0_0)) (ix2 0 0) = gate0 x 0 := by
  refine (shapeCast_1ab_ab_apply (a := 1) (b := 1)
    (View.ld (Val := Elt Ideal) (e' := .f32) x (Rect.unit (s := S2x1x512) ![0, 0, 0] S1x1x1.size inb_S2x1x512_S1x1x1_0_0_0)) shapeCasts_S1x1x1_S1x1 0 0).trans
    (congrArg x (funext fun a => Fin.ext ?_))
  match a with
  | 0 => rfl
  | 1 => rfl
  | 2 => rfl

/-- The second head's gate of the tile's first query. -/
theorem load_gate1 (x : Vec Ideal S2x1x512 .f32) :
    k0_pay22 (F := Ideal) (View.ld x (Rect.unit (s := S2x1x512) ![1, 0, 0] S1x1x1.size inb_S2x1x512_S1x1x1_1_0_0)) (ix2 0 0) = gate0 x 1 := by
  refine (shapeCast_1ab_ab_apply (a := 1) (b := 1)
    (View.ld (Val := Elt Ideal) (e' := .f32) x (Rect.unit (s := S2x1x512) ![1, 0, 0] S1x1x1.size inb_S2x1x512_S1x1x1_1_0_0)) shapeCasts_S1x1x1_S1x1 0 0).trans
    (congrArg x (funext fun a => Fin.ext ?_))
  match a with
  | 0 => rfl
  | 1 => rfl
  | 2 => rfl

/-- The query lanes of a head of the pair, the other head's set to zero. -/
def lanes (q : Vec Ideal S512x128 .bf16) : Fin 2 → FVec Ideal S512x128 .bf16
  | 0 => k0_pay3 (F := Ideal) q
  | 1 => k0_pay21 (F := Ideal) k0_pay1 q

/-- The head of the pair a lane belongs to. -/
def headOf (l : Fin 128) : Fin 2 := if 64 ≤ l.val then 1 else 0

variable (q : Vec Ideal S512x128 .bf16) (dq : Vec Ideal S2x1x512 .f32)

/-- The queries, as the body loads them. -/
abbrev qL : Vec Ideal S512x128 .bf16 :=
  View.readAt (Elt Ideal) arg2.view (Rect.unit (s := S512x128) ![0, 0] S512x128.size inb_S512x128_S512x128_0_0).toLoadRect (harg2.unread q)

/-- The first head's gate at the tile's first query, as the body loads it. -/
abbrev gL0 : Vec Ideal S1x1x1 .f32 :=
  View.readAt (Elt Ideal) arg6.view (Rect.unit (s := S2x1x512) ![0, 0, 0] S1x1x1.size inb_S2x1x512_S1x1x1_0_0_0).toLoadRect (harg6.unread dq)

/-- The second head's. -/
abbrev gL1 : Vec Ideal S1x1x1 .f32 :=
  View.readAt (Elt Ideal) arg6.view (Rect.unit (s := S2x1x512) ![1, 0, 0] S1x1x1.size inb_S2x1x512_S1x1x1_1_0_0).toLoadRect (harg6.unread dq)

/-- The first head's state before the diagonal block, both of its loops run. -/
abbrev state0 : State :=
  st_k0_t2 (F := Ideal) Variants.none c none i arg2 harg2 arg3 harg3 arg4 harg4 arg5 harg5 arg6 harg6 arg7 harg7 (qL arg2 harg2 q) (gL0 arg6 harg6 dq) (harg3.unread K) (harg4.unread V) (harg5.unread dk)
    (st_k0_t1 (F := Ideal) Variants.none c none i arg2 harg2 arg3 harg3 arg4 harg4 arg5 harg5 arg6 harg6 arg7 harg7 (qL arg2 harg2 q) (gL0 arg6 harg6 dq) (harg3.unread K) (harg4.unread V) (harg5.unread dk)
      (k0_pay5, k0_pay6, k0_pay7) (k0_t1_loop i).trips) (k0_t2_loop i).trips

/-- The diagonal block's rows of an array of rows, as the body loads them. -/
abbrev diagRows (a : Memref sig .tc .vmem S16384x128 .bf16) (ha : a.IsWhole) (X : Vec Ideal S16384x128 .bf16) : Vec Ideal S512x128 .bf16 :=
  View.readAt (Elt Ideal) a.view (Rect.unit (s := S16384x128) (k0_off5 i) S512x128.size (k0_off5_inb i)).toLoadRect (ha.unread X)

/-- The first head's quotient, after the diagonal block. -/
abbrev head0 : FVec Ideal S512x128 .f32 :=
  k0_pay20 k0_pay2 (k0_pay3 (F := Ideal) (qL arg2 harg2 q)) (k0_pay4 (gL0 arg6 harg6 dq))
    (state0 c i arg2 harg2 arg3 harg3 arg4 harg4 arg5 harg5 arg6 harg6 arg7 harg7 K V dk q dq).1 (state0 c i arg2 harg2 arg3 harg3 arg4 harg4 arg5 harg5 arg6 harg6 arg7 harg7 K V dk q dq).2.1 (state0 c i arg2 harg2 arg3 harg3 arg4 harg4 arg5 harg5 arg6 harg6 arg7 harg7 K V dk q dq).2.2
    (diagRows i arg3 harg3 K) (diagRows i arg4 harg4 V)
    (View.readAt (Elt Ideal) arg5.view (Rect.unit (s := S2x1x16384) (k0_off6 i) S1x1x512.size (k0_off6_inb i)).toLoadRect (harg5.unread dk))

/-- The second head's state before the diagonal block, both of its loops run. -/
abbrev state1 : State :=
  st_k0_t4 (F := Ideal) Variants.none c none i arg2 harg2 arg3 harg3 arg4 harg4 arg5 harg5 arg6 harg6 arg7 harg7 (BitVec.ofNat 32 (i 1).val) k0_pay1 k0_pay2
    (head0 c i arg2 harg2 arg3 harg3 arg4 harg4 arg5 harg5 arg6 harg6 arg7 harg7 K V dk q dq) (k0_pay21 (F := Ideal) k0_pay1 (qL arg2 harg2 q)) (k0_pay22 (gL1 arg6 harg6 dq)) k0_pay23 k0_pay24 k0_pay25 0#32
    (Scalar.muli (Scalar.divsi (Scalar.subi (BitVec.ofNat 32 (i 1).val) 0#32) 1#32) 1#32) (harg3.unread K) (harg4.unread V) (harg5.unread dk)
    (st_k0_t3 (F := Ideal) Variants.none c none i arg2 harg2 arg3 harg3 arg4 harg4 arg5 harg5 arg6 harg6 arg7 harg7 (BitVec.ofNat 32 (i 1).val) k0_pay1 k0_pay2
      (head0 c i arg2 harg2 arg3 harg3 arg4 harg4 arg5 harg5 arg6 harg6 arg7 harg7 K V dk q dq) (k0_pay21 (F := Ideal) k0_pay1 (qL arg2 harg2 q)) (k0_pay22 (gL1 arg6 harg6 dq)) k0_pay23 k0_pay24 k0_pay25 0#32
      (Scalar.muli (Scalar.divsi (Scalar.subi (BitVec.ofNat 32 (i 1).val) 0#32) 1#32) 1#32) (harg3.unread K) (harg4.unread V) (harg5.unread dk)
      (k0_pay23, k0_pay24, k0_pay25) (k0_t3_loop i).trips) (k0_t4_loop i).trips

/-- What the body leaves in the output's tile: its one store, over its loads and its loops' states. -/
theorem out_eq :
    out0_A_5 c i arg2 harg2 arg3 harg3 arg4 harg4 arg5 harg5 arg6 harg6 arg7 harg7 q K V dk dq
      = k0_pay38 k0_pay1 k0_pay2 (head0 c i arg2 harg2 arg3 harg3 arg4 harg4 arg5 harg5 arg6 harg6 arg7 harg7 K V dk q dq)
          (k0_pay21 (F := Ideal) k0_pay1 (qL arg2 harg2 q)) (k0_pay22 (gL1 arg6 harg6 dq))
          (state1 c i arg2 harg2 arg3 harg3 arg4 harg4 arg5 harg5 arg6 harg6 arg7 harg7 K V dk q dq).1 (state1 c i arg2 harg2 arg3 harg3 arg4 harg4 arg5 harg5 arg6 harg6 arg7 harg7 K V dk q dq).2.1 (state1 c i arg2 harg2 arg3 harg3 arg4 harg4 arg5 harg5 arg6 harg6 arg7 harg7 K V dk q dq).2.2
          (diagRows i arg3 harg3 K) (diagRows i arg4 harg4 V)
          (View.readAt (Elt Ideal) arg5.view (Rect.unit (s := S2x1x16384) (k0_off11 i) S1x1x512.size (k0_off11_inb i)).toLoadRect (harg5.unread dk)) := by
  unfold out0_A_5
  rw [View.read_writes_eq_canon _ _ _ (cover0_A_5 c i arg2 harg2 arg3 harg3 arg4 harg4 arg5 harg5 arg6 harg6 arg7 harg7 q K V dk dq)]
  unfold kernelRun0_A
  dsimp only
  sl_unfold_words
  rw [View.canon_unit_zero zeros2]
  rfl

theorem qL_eq : qL arg2 harg2 q = q := by
  rw [qL, View.readAt_eq_ld, harg2.read_unread]; exact View.ld_unit_zero (S := S512x128) zeros2 _ _

/-- The first head's state holds a row's sums over the blocks before the diagonal one. -/
theorem state0_holds (r : Fin 512) (hx : ∀ k, rowScore (lanes q 0) K dk (gate0 dq 0) 0 (512 * (i 1).val) r k ≠ ⊤) :
    Holds (state0 c i arg2 harg2 arg3 harg3 arg4 harg4 arg5 harg5 arg6 harg6 arg7 harg7 K V dk q dq) r (rowScore (lanes q 0) K dk (gate0 dq 0) 0 (512 * (i 1).val) r) (fun l n => row V n l)
      (512 * (i 1).val) := by
  have hg : k0_pay4 (F := Ideal) (gL0 arg6 harg6 dq) (ix2 0 0) = gate0 dq 0 := by
    rw [gL0, View.readAt_eq_ld, harg6.read_unread]; exact load_gate0 dq
  have e : state0 c i arg2 harg2 arg3 harg3 arg4 harg4 arg5 harg5 arg6 harg6 arg7 harg7 K V dk q dq = st_k0_t1 (F := Ideal) Variants.none c none i arg2 harg2 arg3 harg3 arg4 harg4 arg5 harg5 arg6 harg6 arg7 harg7 (qL arg2 harg2 q) (gL0 arg6 harg6 dq)
      (harg3.unread K) (harg4.unread V) (harg5.unread dk) (k0_pay5, k0_pay6, k0_pay7) (i 1).val := by
    rw [state0, show (k0_t2_loop i).trips = 0 from Scf.rem_trips _ _, st_k0_t2_zero, trips_eq]
  have h := loop_first Variants.none c none i arg2 harg2 arg3 harg3 arg4 harg4 arg5 harg5 arg6 harg6 arg7 harg7 K V dk (qL arg2 harg2 q) (gL0 arg6 harg6 dq) r
    (by rw [hg, qL_eq]; exact hx) (i 1).val le_rfl
  rw [e]
  rw [hg] at h
  have hl : k0_pay3 (F := Ideal) (qL arg2 harg2 q) = lanes q 0 := by rw [qL_eq]; rfl
  rw [hl] at h
  exact h

/-- The second head's state holds a row's sums over the blocks before the diagonal one. -/
theorem state1_holds (r : Fin 512) (hx : ∀ k, rowScore (lanes q 1) K dk (gate0 dq 1) 1 (512 * (i 1).val) r k ≠ ⊤) :
    Holds (state1 c i arg2 harg2 arg3 harg3 arg4 harg4 arg5 harg5 arg6 harg6 arg7 harg7 K V dk q dq) r (rowScore (lanes q 1) K dk (gate0 dq 1) 1 (512 * (i 1).val) r) (fun l n => row V n l)
      (512 * (i 1).val) := by
  have hg : k0_pay22 (F := Ideal) (gL1 arg6 harg6 dq) (ix2 0 0) = gate0 dq 1 := by
    rw [gL1, View.readAt_eq_ld, harg6.read_unread]; exact load_gate1 dq
  have hl : k0_pay21 (F := Ideal) k0_pay1 (qL arg2 harg2 q) = lanes q 1 := by rw [qL_eq]; rfl
  rw [state1, show (k0_t4_loop i).trips = 0 from Scf.rem_trips _ _, st_k0_t4_zero, show (k0_t3_loop i).trips = _ from trips_eq i]
  have h := loop_second Variants.none c none i arg2 harg2 arg3 harg3 arg4 harg4 arg5 harg5 arg6 harg6 arg7 harg7 K V dk (BitVec.ofNat 32 (i 1).val) k0_pay1 k0_pay2 (head0 c i arg2 harg2 arg3 harg3 arg4 harg4 arg5 harg5 arg6 harg6 arg7 harg7 K V dk q dq)
    (k0_pay21 (F := Ideal) k0_pay1 (qL arg2 harg2 q)) (k0_pay22 (gL1 arg6 harg6 dq)) k0_pay23 k0_pay24 k0_pay25 0#32
    (Scalar.muli (Scalar.divsi (Scalar.subi (BitVec.ofNat 32 (i 1).val) 0#32) 1#32) 1#32) r (by rw [hg, hl]; exact hx) (i 1).val le_rfl
  have e : rowScore (k0_pay21 (F := Ideal) k0_pay1 (qL arg2 harg2 q)) K dk (k0_pay22 (F := Ideal) (gL1 arg6 harg6 dq) (ix2 0 0)) 1
      (512 * (i 1).val) r = rowScore (lanes q 1) K dk (gate0 dq 1) 1 (512 * (i 1).val) r := by rw [hg, hl]
  exact e ▸ h

/-- A row's quotient, at a lane: of the weighted sum by the denominator, over the keys up to the tile's end. -/
def rowOut (h : Fin 2) (q0 : ℕ) (r : Fin 512) (l : Fin 128) : EReal :=
  Ideal.div (Softmax.num (rowScore (lanes q h) K dk (gate0 dq h) h q0 r) (fun n => row V n l) (q0 + 512))
    (Softmax.den (rowScore (lanes q h) K dk (gate0 dq h) h q0 r) (q0 + 512))

/-- The first head's quotient. -/
theorem head0_apply (r : Fin 512) (l : Fin 128) (hx : ∀ k, rowScore (lanes q 0) K dk (gate0 dq 0) 0 (512 * (i 1).val) r k ≠ ⊤) :
    head0 c i arg2 harg2 arg3 harg3 arg4 harg4 arg5 harg5 arg6 harg6 arg7 harg7 K V dk q dq (ix2 r l) = rowOut K V dk q dq 0 (512 * (i 1).val) r l := by
  have hg : k0_pay4 (F := Ideal) (gL0 arg6 harg6 dq) (ix2 0 0) = gate0 dq 0 := by
    rw [gL0, View.readAt_eq_ld, harg6.read_unread]; exact load_gate0 dq
  have H := (state0_holds c i arg2 harg2 arg3 harg3 arg4 harg4 arg5 harg5 arg6 harg6 arg7 harg7 K V dk q dq r hx).step hx
    (scoreDiag (score (k0_pay3 (F := Ideal) (qL arg2 harg2 q)) (k0_pay4 (gL0 arg6 harg6 dq)) (diagRows i arg3 harg3 K)
      (View.readAt (Elt Ideal) arg5.view (Rect.unit (s := S2x1x16384) (k0_off6 i) S1x1x512.size (k0_off6_inb i)).toLoadRect (harg5.unread dk))))
    (diagRows i arg4 harg4 V)
    (fun j => by
      rw [diagRows, View.readAt_eq_ld, View.readAt_eq_ld, harg3.read_unread, harg5.read_unread, score_diag _ _ K dk _ _ 0 _ (k0_off5_eq i) (k0_off6_eq i),
        hg, qL_eq]; rfl)
    (fun j l => by rw [diagRows, View.readAt_eq_ld, harg4.read_unread]; exact load_rows V _ _ (k0_off5_eq i) j l)
  rw [head0, last_first, quot_apply, H.num, H.den]
  rfl

/-- What the body leaves in the output's tile, at a row and a lane. -/
theorem out_apply (r : Fin 512) (l : Fin 128) (hx : ∀ h k, rowScore (lanes q h) K dk (gate0 dq h) h (512 * (i 1).val) r k ≠ ⊤) :
    out0_A_5 c i arg2 harg2 arg3 harg3 arg4 harg4 arg5 harg5 arg6 harg6 arg7 harg7 q K V dk dq (ix2 r l) = rowOut K V dk q dq (headOf l) (512 * (i 1).val) r l := by
  have hg : k0_pay22 (F := Ideal) (gL1 arg6 harg6 dq) (ix2 0 0) = gate0 dq 1 := by
    rw [gL1, View.readAt_eq_ld, harg6.read_unread]; exact load_gate1 dq
  have H := (state1_holds c i arg2 harg2 arg3 harg3 arg4 harg4 arg5 harg5 arg6 harg6 arg7 harg7 K V dk q dq r (hx 1)).step (hx 1)
    (scoreDiag (score (k0_pay21 (F := Ideal) k0_pay1 (qL arg2 harg2 q)) (k0_pay22 (gL1 arg6 harg6 dq)) (diagRows i arg3 harg3 K)
      (View.readAt (Elt Ideal) arg5.view (Rect.unit (s := S2x1x16384) (k0_off11 i) S1x1x512.size (k0_off11_inb i)).toLoadRect (harg5.unread dk))))
    (diagRows i arg4 harg4 V)
    (fun j => by
      rw [diagRows, View.readAt_eq_ld, View.readAt_eq_ld, harg3.read_unread, harg5.read_unread, score_diag _ _ K dk _ _ 1 _ (k0_off5_eq i) (k0_off11_eq i),
        hg, qL_eq]; rfl)
    (fun j l => by rw [diagRows, View.readAt_eq_ld, harg4.read_unread]; exact load_rows V _ _ (k0_off5_eq i) j l)
  rw [out_eq, last_second, stored_apply, headOf]
  by_cases h : 64 ≤ l.val
  · rw [if_pos h, if_pos h, quot_apply, H.num, H.den]; rfl
  · rw [if_neg h, if_neg h]; exact head0_apply c i arg2 harg2 arg3 harg3 arg4 harg4 arg5 harg5 arg6 harg6 arg7 harg7 K V dk q dq r l (hx 0)

end Cert.KernelIdeal.Block
-- ==== Proof.Array.lean ====
/-
  What the kernel's result array holds after the run: every entry, read off the two argument arrays. Head pair `p` and
  query tile `n` are a grid point; its blocks are columns of the projections (queries, then keys, then values) and two
  heads' rows of the cumulated gates; its output tile is the rows of the tile at the pair's lanes, and the tiles cover
  the array.
-/
module

public import proofs.«01_k».proof.Proof.Block
public import proofs.«01_k».proof.Proof.Gen.KernelIdeal.Value

@[expose] public section

noncomputable section

namespace Cert.KernelIdeal.Array

open Idealize.ShloMosaic Idealize.ShloMosaic.ValueIdx Idealize.ShloMosaic.TcCoe Idealize.SL.Sem
open Cert.KernelIdeal Cert.KernelIdeal.Gen Cert.KernelIdeal.Step

/-- Lane `l` of head pair `p`, a column among the 1024. -/
abbrev lane (p : Fin 8) (l : Fin 128) : ℕ := p.val * 128 + l.val

/-- The queries of tile `n` at head pair `p`. -/
def tileQ (A : Vec Ideal S16896x3072 .bf16) (p : Fin 8) (n : Fin 32) : Vec Ideal S512x128 .bf16 := fun j =>
  A (ix2 ⟨n.val * 512 + (j 0).val, by have := (j 0).isLt; have : S512x128.size 0 = 512 := rfl; omega⟩
    ⟨p.val * 128 + (j 1).val, by have := (j 1).isLt; have : S512x128.size 1 = 128 := rfl; omega⟩)

/-- The prompt's rows of the projection at column block `b` (the keys are blocks 8 to 15, the values 16 to 23). -/
def cols (A : Vec Ideal S16896x3072 .bf16) (b : Fin 24) : Vec Ideal S16384x128 .bf16 := fun j =>
  A (ix2 ⟨(j 0).val, by have := (j 0).isLt; have : S16384x128.size 0 = 16384 := rfl; omega⟩
    ⟨b.val * 128 + (j 1).val, by have := (j 1).isLt; have : S16384x128.size 1 = 128 := rfl; omega⟩)

/-- The column block of pair `p`'s keys, -/
abbrev keyBlock (p : Fin 8) : Fin 24 := ⟨8 + p.val, by omega⟩
/-- and of its values. -/
abbrev valBlock (p : Fin 8) : Fin 24 := ⟨16 + p.val, by omega⟩

/-- The cumulated gates of the pair's two heads over the whole prompt, -/
def pairG (G : Vec Ideal S16x1x16384 .f32) (p : Fin 8) : Vec Ideal S2x1x16384 .f32 := fun j =>
  G (ix3 ⟨p.val * 2 + (j 0).val, by have := (j 0).isLt; have : S2x1x16384.size 0 = 2 := rfl; omega⟩ 0
    ⟨(j 2).val, (j 2).isLt⟩)

/-- and over tile `n`'s queries. -/
def tileG (G : Vec Ideal S16x1x16384 .f32) (p : Fin 8) (n : Fin 32) : Vec Ideal S2x1x512 .f32 := fun j =>
  G (ix3 ⟨p.val * 2 + (j 0).val, by have := (j 0).isLt; have : S2x1x512.size 0 = 2 := rfl; omega⟩ 0
    ⟨n.val * 512 + (j 2).val, by have := (j 2).isLt; have : S2x1x512.size 2 = 512 := rfl; omega⟩)

/-- The scores of row `r` of tile `n` for head `h` of pair `p`. -/
def scores (A : Vec Ideal S16896x3072 .bf16) (G : Vec Ideal S16x1x16384 .f32) (p : Fin 8) (n : Fin 32) (h : Fin 2)
    (r : Fin 512) (k : ℕ) : EReal :=
  Block.rowScore (Block.lanes (tileQ A p n) h) (cols A (keyBlock p)) (pairG G p) (Block.gate0 (tileG G p n) h) h (512 * n.val) r k

/-- The tile that the body leaves for pair `p` and tile `n`. -/
def outTile (A : Vec Ideal S16896x3072 .bf16) (G : Vec Ideal S16x1x16384 .f32) (p : Fin 8) (n : Fin 32) (r : Fin 512) (l : Fin 128) : EReal :=
  Block.rowOut (cols A (keyBlock p)) (cols A (valBlock p)) (pairG G p) (tileQ A p n) (tileG G p n) (Block.headOf l) (512 * n.val) r l

/-- The result array: entry `(R, C)` is in tile `R / 512` of pair `C / 128`. -/
def result (A : Vec Ideal S16896x3072 .bf16) (G : Vec Ideal S16x1x16384 .f32) : Vec Ideal S16384x1024 .bf16 := fun i =>
  outTile A G ⟨(i 1).val / 128, by have := (i 1).isLt; have : S16384x1024.size 1 = 1024 := rfl; omega⟩
    ⟨(i 0).val / 512, by have := (i 0).isLt; have : S16384x1024.size 0 = 16384 := rfl; omega⟩
    ⟨(i 0).val % 512, Nat.mod_lt _ (by norm_num)⟩ ⟨(i 1).val % 128, Nat.mod_lt _ (by norm_num)⟩

variable (m : (ℓ : Loc nD τ sig) → Buf (Elt Ideal) ℓ) (c : Dev nD)

/-- The head pair and the tile of a grid point. -/
abbrev pairOf (t : Fin cfg0.N) : Fin 8 := ((grid0.coords t) 0 : Fin 8)
abbrev tileOf (t : Fin cfg0.N) : Fin 32 := ((grid0.coords t) 1 : Fin 32)

theorem index0 (t : Fin cfg0.N) : win0_0.index t 0 = (tileOf t).val ∧ win0_0.index t 1 = (pairOf t).val := by
  revert t; decide +kernel
theorem index1 (t : Fin cfg0.N) : win0_1.index t 0 = 0 ∧ win0_1.index t 1 = 8 + (pairOf t).val := by
  revert t; decide +kernel
theorem index2 (t : Fin cfg0.N) : win0_2.index t 0 = 0 ∧ win0_2.index t 1 = 16 + (pairOf t).val := by
  revert t; decide +kernel
theorem index3 (t : Fin cfg0.N) : win0_3.index t 0 = (pairOf t).val ∧ win0_3.index t 1 = 0 ∧ win0_3.index t 2 = 0 := by
  revert t; decide +kernel
theorem index4 (t : Fin cfg0.N) : win0_4.index t 0 = (pairOf t).val ∧ win0_4.index t 1 = 0 ∧ win0_4.index t 2 = (tileOf t).val := by
  revert t; decide +kernel
theorem index5 (t : Fin cfg0.N) : win0_5.index t 0 = (tileOf t).val ∧ win0_5.index t 1 = (pairOf t).val := by
  revert t; decide +kernel

/-- Pair `p` and tile `n` are the coordinates of a grid point. -/
theorem point (p : Fin 8) (n : Fin 32) : ∃ t : Fin cfg0.N, pairOf t = p ∧ tileOf t = n := by
  revert p n; decide +kernel

/-- The block of queries at a point. -/
theorem block0 (t : Fin cfg0.N) : (iblk m c 0 t : Vec Ideal S512x128 .bf16) = tileQ (m (c.tc.loc main_arg0)) (pairOf t) (tileOf t) := by
  funext j
  unfold iblk
  rw [View.read_apply]
  refine congrArg (m (c.tc.loc main_arg0)) (funext fun a => Fin.ext ?_)
  match a with
  | 0 => show win0_0.index t 0 * 512 + 1 * (j 0).val = _; rw [(index0 t).1, one_mul]; rfl
  | 1 => show win0_0.index t 1 * 128 + 1 * (j 1).val = _; rw [(index0 t).2, one_mul]; rfl

/-- The block of keys at a point. -/
theorem block1 (t : Fin cfg0.N) : (X0_1 m c t : Vec Ideal S16384x128 .bf16) = cols (m (c.tc.loc main_arg0)) (keyBlock (pairOf t)) := by
  funext j
  unfold X0_1 Pipeline.Window.fill
  rw [dif_pos (moved0_1 t j)]
  unfold iblk
  rw [View.read_apply]
  refine congrArg (m (c.tc.loc main_arg0)) (funext fun a => Fin.ext ?_)
  match a with
  | 0 => show win0_1.index t 0 * 16384 + 1 * (j 0).val = _; rw [(index1 t).1, one_mul, zero_mul, zero_add]; rfl
  | 1 => show win0_1.index t 1 * 128 + 1 * (j 1).val = _; rw [(index1 t).2, one_mul]; rfl

/-- The block of values at a point. -/
theorem block2 (t : Fin cfg0.N) : (X0_2 m c t : Vec Ideal S16384x128 .bf16) = cols (m (c.tc.loc main_arg0)) (valBlock (pairOf t)) := by
  funext j
  unfold X0_2 Pipeline.Window.fill
  rw [dif_pos (moved0_2 t j)]
  unfold iblk
  rw [View.read_apply]
  refine congrArg (m (c.tc.loc main_arg0)) (funext fun a => Fin.ext ?_)
  match a with
  | 0 => show win0_2.index t 0 * 16384 + 1 * (j 0).val = _; rw [(index2 t).1, one_mul, zero_mul, zero_add]; rfl
  | 1 => show win0_2.index t 1 * 128 + 1 * (j 1).val = _; rw [(index2 t).2, one_mul]; rfl

/-- The block of the keys' gates at a point. -/
theorem block3 (t : Fin cfg0.N) : (iblk m c 3 t : Vec Ideal S2x1x16384 .f32) = pairG (m (c.tc.loc main_arg1)) (pairOf t) := by
  funext j
  unfold iblk
  rw [View.read_apply]
  refine congrArg (m (c.tc.loc main_arg1)) (funext fun a => Fin.ext ?_)
  match a with
  | 0 => show win0_3.index t 0 * 2 + 1 * (j 0).val = _; rw [(index3 t).1, one_mul]; rfl
  | 1 => show win0_3.index t 1 * 1 + 1 * (j 1).val = 0
         have : (j 1).val < 1 := (j 1).isLt
         rw [(index3 t).2.1]; omega
  | 2 => show win0_3.index t 2 * 16384 + 1 * (j 2).val = _; rw [(index3 t).2.2, one_mul, zero_mul, zero_add]; rfl

/-- The block of the queries' gates at a point. -/
theorem block4 (t : Fin cfg0.N) : (iblk m c 4 t : Vec Ideal S2x1x512 .f32) = tileG (m (c.tc.loc main_arg1)) (pairOf t) (tileOf t) := by
  funext j
  unfold iblk
  rw [View.read_apply]
  refine congrArg (m (c.tc.loc main_arg1)) (funext fun a => Fin.ext ?_)
  match a with
  | 0 => show win0_4.index t 0 * 2 + 1 * (j 0).val = _; rw [(index4 t).1, one_mul]; rfl
  | 1 => show win0_4.index t 1 * 1 + 1 * (j 1).val = 0
         have : (j 1).val < 1 := (j 1).isLt
         rw [(index4 t).2.1]; omega
  | 2 => show win0_4.index t 2 * 512 + 1 * (j 2).val = _; rw [(index4 t).2.2, one_mul]; rfl

/-- What the body leaves at a point is the pair's tile, where no score is `⊤`. -/
theorem out_point (hx : ∀ p n h r k, scores (m (c.tc.loc main_arg0)) (m (c.tc.loc main_arg1)) p n h r k ≠ ⊤) (t : Fin cfg0.N)
    (r : Fin 512) (l : Fin 128) :
    out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) (iblk m c 0 t) (X0_1 m c t) (X0_2 m c t) (iblk m c 3 t) (iblk m c 4 t) (ix2 r l)
      = outTile (m (c.tc.loc main_arg0)) (m (c.tc.loc main_arg1)) (pairOf t) (tileOf t) r l := by
  rw [block0 m c t, block1 m c t, block2 m c t, block3 m c t, block4 m c t]
  exact Block.out_apply c (grid0.coords t) _ _ _ _ _ _ _ _ _ _ _ _ _ _ _ _ _ r l (fun h k => hx (pairOf t) (tileOf t) h r k)

/-- The result read at a point's block is the pair's tile. -/
theorem result_point (t : Fin cfg0.N) (r : Fin 512) (l : Fin 128) :
    result (m (c.tc.loc main_arg0)) (m (c.tc.loc main_arg1)) (((cfg0.win 5).blk t).view.emb (ix2 r l))
      = outTile (m (c.tc.loc main_arg0)) (m (c.tc.loc main_arg1)) (pairOf t) (tileOf t) r l := by
  have hr := r.isLt
  have hl := l.isLt
  have e0 : (((cfg0.win 5).blk t).view.emb (ix2 r l) 0).val = (tileOf t).val * 512 + r.val := by
    show win0_5.index t 0 * 512 + 1 * r.val = _; rw [(index5 t).1, one_mul]
  have e1 : (((cfg0.win 5).blk t).view.emb (ix2 r l) 1).val = (pairOf t).val * 128 + l.val := by
    show win0_5.index t 1 * 128 + 1 * l.val = _; rw [(index5 t).2, one_mul]
  unfold result
  congr 1 <;> apply Fin.ext <;> dsimp only
  · rw [e1]; omega
  · rw [e0]; omega
  · rw [e0]; omega
  · rw [e1]; omega

/-- The block written back at a point is that point's tile of the result, where no score is `⊤`. -/
theorem flushed_eq (hx : ∀ p n h r k, scores (m (c.tc.loc main_arg0)) (m (c.tc.loc main_arg1)) p n h r k ≠ ⊤) (t : Fin cfg0.N) :
    (dats m 0 c).flushed 5 t = ((cfg0.win 5).blk t).view.read (Elt Ideal) (result (m (c.tc.loc main_arg0)) (m (c.tc.loc main_arg1))) := by
  funext j
  rw [View.read_apply, Value.flushed5_A m c t]
  obtain ⟨r, l, rfl⟩ : ∃ (r : Fin 512) (l : Fin 128), j = ix2 r l := ⟨j 0, j 1, eq_ix2 (n0 := 512) (n1 := 128) j⟩
  exact (out_point m c hx t r l).trans (result_point m c t r l).symm

/-- So the result array ends holding the result: the tiles cover it. -/
theorem final (hx : ∀ p n h r k, scores (m (c.tc.loc main_arg0)) (m (c.tc.loc main_arg1)) p n h r k ≠ ⊤) :
    (dats m 0 c).arrAt 5 cfg0.N = result (m (c.tc.loc main_arg0)) (m (c.tc.loc main_arg1)) :=
  (dats m 0 c).arrAt_eq_of_cover 5 _ (fun t _ => flushed_eq m c hx t) fun (i : S16384x1024.Idx) => by
    have h0 : (i 0).val < 16384 := (i 0).isLt
    have h1 : (i 1).val < 1024 := (i 1).isLt
    obtain ⟨t, hp, hn⟩ := point ⟨(i 1).val / 128, by omega⟩ ⟨(i 0).val / 512, by omega⟩
    have hp' : (pairOf t).val = (i 1).val / 128 := congrArg Fin.val hp
    have hn' : (tileOf t).val = (i 0).val / 512 := congrArg Fin.val hn
    refine ⟨t, flush0_5 t, ?_⟩
    show i ∈ ((View.whole main_v0).slice (win0_5.rect t)).set
    rw [View.set_slice_whole, Rect.mem_set_unit]
    intro a
    match a with
    | ⟨0, _⟩ => show win0_5.index t 0 * 512 ≤ (i 0).val ∧ (i 0).val < win0_5.index t 0 * 512 + 512
                rw [(index5 t).1, hn']; omega
    | ⟨1, _⟩ => show win0_5.index t 1 * 128 ≤ (i 1).val ∧ (i 1).val < win0_5.index t 1 * 128 + 128
                rw [(index5 t).2, hp']; omega

end Cert.KernelIdeal.Array

end

end
-- ==== Proof.Ref.lean ====
/-
  What the reference computes, entry by entry: for query `q`, head `h` and lane `d`, the sum over the keys of the value
  times the softmax weight of the key's score, the mask `⊥` after the query.
-/
module

public import proofs.«01_k».proof.Proof.Softmax
public import proofs.«01_k».proof.Proof.Gen.ReferenceIdeal.Run
public import Idealize.ShloMosaic.Lib.IdealHost
public import Idealize.ShloMosaic.Lib.Pipeline.Value
public import Idealize.ShloMosaic.PureOps.IdealRules
public import Idealize.ShloMosaic.PureOps.Reduce
public import Idealize.ShloMosaic.Lib.WordCmp

@[expose] public section

noncomputable section

namespace Cert.ReferenceIdeal.Ref

open Idealize.ShloMosaic Idealize.ShloMosaic.ValueIdx Idealize.ShloMosaic.TcCoe
open Cert.ReferenceIdeal Cert.ReferenceIdeal.Gen

/-- The factor of the scores. -/
abbrev scale : EReal := Ideal.ofBits .f32 0x3E000000#32

/-- Entry `(R, C)` of the projection, -/
def entry (A : Vec Ideal S16896x3072 .bf16) (R C : ℕ) : EReal := if h : R < 16896 ∧ C < 3072 then A (ix2 ⟨R, h.1⟩ ⟨C, h.2⟩) else 0

/-- and the cumulated gate of head `h` at position `k`. -/
def gate (G : Vec Ideal S16x1x16384 .f32) (h k : ℕ) : EReal := if hk : h < 16 ∧ k < 16384 then G (ix3 ⟨h, hk.1⟩ 0 ⟨k, hk.2⟩) else 0

/-- The product of query `q` and key `k` at head `h`. -/
def dot (A : Vec Ideal S16896x3072 .bf16) (h q k : ℕ) : EReal :=
  ∑ d : Fin 64, entry A q (h * 64 + d) * entry A k (1024 + (h * 64 + d))

/-- The score of key `k` for query `q` at head `h`: scaled, with the gates' difference, `⊥` after the query. -/
def score (A : Vec Ideal S16896x3072 .bf16) (G : Vec Ideal S16x1x16384 .f32) (h q k : ℕ) : EReal :=
  if k ≤ q then dot A h q k * scale + gate G h q - gate G h k else ⊥

/-- The reference's entry for query `q`, head `h`, lane `d`. -/
def out (A : Vec Ideal S16896x3072 .bf16) (G : Vec Ideal S16x1x16384 .f32) (h q d : ℕ) : EReal :=
  ∑ k ∈ Finset.range 16384, entry A k (2048 + (h * 64 + d)) *
    Ideal.div (Ideal.exp (score A G h q k - Softmax.top (score A G h q) 16384)) (Softmax.den (score A G h q) 16384)

variable (A : FVec Ideal S16896x3072 .bf16) (G : FVec Ideal S16x1x16384 .f32)

/-! ## The reference's own stages -/

/-- The prompt's rows at a third of the columns, by heads. -/
abbrev heads (off : ℕ) (hs : S16384x3072.Slices ![0, off] S16384x1024) : FVec Ideal S16384x16x64 .f32 :=
  shapeCast _ (extractStridedSlice S16384x1024 ![0, off] (extf .f32 (extractStridedSlice S16384x3072 ![0, 0] A slices_S16896x3072_S16384x3072_0_0)
    bitsLt_bf16_f32) hs) shapeCasts_S16384x1024_S16384x16x64

/-- The gates by heads. -/
abbrev gates : FVec Ideal S16x16384 .f32 := shapeCast _ G shapeCasts_S16x1x16384_S16x16384

/-- The positions along the keys' and along the queries' axis, -/
abbrev keyPos : IVec S16384x16384 32 :=
  broadcastInDim S16384x16384 ![0, 1] bcast_S1x16384_S16384x16384_0_1 (broadcastInDim S1x16384 ![1] bcast_S16384_S1x16384_1 (iotaInDim S16384 32 0))
abbrev queryPos : IVec S16384x16384 32 :=
  broadcastInDim S16384x16384 ![0, 1] bcast_S16384x1_S16384x16384_0_1 (broadcastInDim S16384x1 ![0] bcast_S16384_S16384x1_0 (iotaInDim S16384 32 0))

/-- the products of two arrays by heads, -/
def products (x y : FVec Ideal S16384x16x64 .f32) : FVec Ideal S16x16384x16384 .f32 :=
  Host.dotGeneral dot_S16384x16x64_S16384x16x64_S16x16384x16384_2_2_0_0_1_1 none x y

/-- of the queries and keys, -/
abbrev dots : FVec Ideal S16x16384x16384 .f32 :=
  products (heads A 0 slices_S16384x3072_S16384x1024_0_0) (heads A 1024 slices_S16384x3072_S16384x1024_0_1024)

/-- the scores before the mask, -/
abbrev plain : FVec Ideal S16x16384x16384 .f32 :=
  subf (addf (mulf (dots A) (broadcastInDim S16x16384x16384 ![] bcast_S_S16x16384x16384 (constant S_ .f32 0x3E000000#32)))
    (broadcastInDim S16x16384x16384 ![0, 1, 2] bcast_S16x16384x1_S16x16384x16384_0_1_2
      (broadcastInDim S16x16384x1 ![0, 1] bcast_S16x16384_S16x16384x1_0_1 (gates G))))
    (broadcastInDim S16x16384x16384 ![0, 1, 2] bcast_S16x1x16384_S16x16384x16384_0_1_2
      (broadcastInDim S16x1x16384 ![0, 2] bcast_S16x16384_S16x1x16384_0_2 (gates G)))

/-- the masked scores, -/
def masked : FVec Ideal S16x16384x16384 .f32 :=
  select (broadcastInDim S16x16384x16384 ![1, 2] bcast_S16384x16384_S16x16384x16384_1_2 (cmpi .sle keyPos queryPos)) (plain A G)
    (broadcastInDim S16x16384x16384 ![] bcast_S_S16x16384x16384 (id (constant (F := Ideal) S_ .f32 0xFF800000#32)))

/-- a row's quantity along the keys, -/
abbrev along (x : FVec Ideal S16x16384 .f32) : FVec Ideal S16x16384x16384 .f32 :=
  broadcastInDim S16x16384x16384 ![0, 1, 2] bcast_S16x16384x1_S16x16384x16384_0_1_2 (broadcastInDim S16x16384x1 ![0, 1] bcast_S16x16384_S16x16384x1_0_1 x)

/-- each row's greatest element, -/
def tops (x : FVec Ideal S16x16384x16384 .f32) : FVec Ideal S16x16384 .f32 :=
  maximumf (broadcastInDim S16x16384 ![] bcast_S_S16x16384 (constant (F := Ideal) S_ .f32 0xFF800000#32))
    (Host.reduce FloatOps.maximumf x (constant (F := Ideal) S_ .f32 0xFF800000#32) reducesTo_S16x16384x16384_S16x16384_d2 h_S_)

/-- each row's sum, -/
def sums (x : FVec Ideal S16x16384x16384 .f32) : FVec Ideal S16x16384 .f32 :=
  Host.reduceAdd x (constant (F := Ideal) S_ .f32 0x00000000#32) reducesTo_S16x16384x16384_S16x16384_d2 h_S_

/-- the exponentials under a row's greatest, -/
def exps (x : FVec Ideal S16x16384x16384 .f32) : FVec Ideal S16x16384x16384 .f32 := Host.exp (subf x (along (tops x)))

/-- a row over its sum, -/
def shares (x : FVec Ideal S16x16384x16384 .f32) : FVec Ideal S16x16384x16384 .f32 := Host.divf x (along (sums x))

/-- and values mixed by weights. -/
def mixed (v : FVec Ideal S16384x16x64 .f32) (p : FVec Ideal S16x16384x16384 .f32) : FVec Ideal S16x64x16384 .f32 :=
  Host.dotGeneral dot_S16384x16x64_S16x16384x16384_S16x64x16384_0_2_2_1_1_0 none v
    (extf .f32 (truncf .bf16 p bitsLt_bf16_f32) bitsLt_bf16_f32)

/-- The heads' outputs side by side. -/
def joined (x : FVec Ideal S16x64x16384 .f32) : FVec Ideal S16384x1024 .bf16 :=
  truncf .bf16 (shapeCast _ (transpose S16384x16x64 [2, 0, 1] x transposes_S16x64x16384_S16384x16x64_2_0_1) shapeCasts_S16384x16x64_S16384x1024)
    bitsLt_bf16_f32

/-- The reference's result is made of these stages. -/
theorem res_eq (m : (ℓ : Loc nD τ sig) → Buf (Elt Ideal) ℓ) (c : Dev nD) :
    Value.res_main_v41 m c = joined (mixed (heads (m (c.tc.loc main_arg0)) 2048 slices_S16384x3072_S16384x1024_0_2048)
      (shares (exps (masked (m (c.tc.loc main_arg0)) (m (c.tc.loc main_arg1)))))) := rfl

/-! ## The stages, entry by entry -/

/-- A third of the projection by heads reads the projection at the head's lane. -/
theorem heads_apply (off : ℕ) (hs : S16384x3072.Slices ![0, off] S16384x1024) (hoff : off + 1024 ≤ 3072) (q : Fin 16384) (h : Fin 16) (d : Fin 64) :
    heads A off hs (ix3 q h d) = entry A q.val (off + (h.val * 64 + d.val)) := by
  have hq := q.isLt
  have hh := h.isLt
  have hd := d.isLt
  rw [entry, dif_pos ⟨by omega, by omega⟩]
  refine (shapeCast_apply _ _ (ix3 q h d) (ix2 q ⟨h.val * 64 + d.val, by omega⟩) ?_).trans ?_
  · rw [Shape.rowMajor_val_two, Shape.rowMajor_val_three]
    show q.val * 1024 + (h.val * 64 + d.val) = (q.val * 16 + h.val) * 64 + d.val
    omega
  refine (extractStridedSlice_apply (s := S16384x3072) (t := S16384x1024) ![0, off] _ hs (ix2 q ⟨h.val * 64 + d.val, by omega⟩)
    (ix2 q ⟨off + (h.val * 64 + d.val), by omega⟩) fun a => ?_).trans ?_
  · match a with
    | 0 => show q.val = 0 + q.val; rw [zero_add]
    | 1 => rfl
  refine extractStridedSlice_apply (s := S16896x3072) (t := S16384x3072) ![0, 0] A slices_S16896x3072_S16384x3072_0_0
    (ix2 q ⟨off + (h.val * 64 + d.val), by omega⟩) (ix2 ⟨q.val, by omega⟩ ⟨off + (h.val * 64 + d.val), by omega⟩) fun a => ?_
  match a with
  | 0 => show q.val = 0 + q.val; rw [zero_add]
  | 1 => show off + (h.val * 64 + d.val) = 0 + (off + (h.val * 64 + d.val)); rw [zero_add]

/-- The gates by heads. -/
theorem gates_apply (h : Fin 16) (k : Fin 16384) : gates G (ix2 h k) = gate G h.val k.val := by
  rw [gate, dif_pos ⟨h.isLt, k.isLt⟩]
  refine shapeCast_apply _ _ (ix2 h k) (ix3 h 0 k) ?_
  rw [Shape.rowMajor_val_two, Shape.rowMajor_val_three]; show (h.val * 1 + 0) * 16384 + k.val = h.val * 16384 + k.val; omega

/-- The product of two rows at a head. -/
theorem products_apply (x y : FVec Ideal S16384x16x64 .f32) (h : Fin 16) (q k : Fin 16384) :
    products x y (ix3 h q k) = ∑ d : Fin 64, x (ix3 q h d) * y (ix3 k h d) := by
  show FloatOps.dotGeneral _ _ _ _ _ _ = _
  have hr : dot_S16384x16x64_S16384x16x64_S16x16384x16384_2_2_0_0_1_1.contr.rank = 1 := rfl
  rw [Ideal.dotGeneral_apply, ← Equiv.sum_comp (contrEquiv1 dot_S16384x16x64_S16384x16x64_S16x16384x16384_2_2_0_0_1_1 64 hr rfl).symm]
  refine Finset.sum_congr rfl fun d _ => ?_
  have hd := contrEquiv1_symm_val dot_S16384x16x64_S16384x16x64_S16x16384x16384_2_2_0_0_1_1 64 hr rfl d
  refine congrArg₂ (· * ·) (congrArg x ?_) (congrArg y ?_)
  · funext a; apply Fin.ext
    match a with
    | ⟨0, _⟩ => rfl
    | ⟨1, _⟩ => rfl
    | ⟨2, _⟩ => exact hd
  · funext a; apply Fin.ext
    match a with
    | ⟨0, _⟩ => rfl
    | ⟨1, _⟩ => rfl
    | ⟨2, _⟩ => exact hd

/-- The product of a query and a key. -/
theorem dots_apply (h : Fin 16) (q k : Fin 16384) : dots A (ix3 h q k) = dot A h.val q.val k.val := by
  refine (products_apply _ _ h q k).trans (Finset.sum_congr rfl fun d _ => ?_)
  rw [heads_apply A 0 _ (by norm_num), heads_apply A 1024 _ (by norm_num), zero_add]

/-- A row's quantity along the keys is the row's. -/
theorem along_apply (x : FVec Ideal S16x16384 .f32) (h : Fin 16) (q k : Fin 16384) : along x (ix3 h q k) = x (ix2 h q) := by
  refine (broadcastInDim_apply _ _ _ _ (ix3 h q 0) fun a => ?_).trans (broadcastInDim_apply _ _ _ _ (ix2 h q) fun a => ?_)
  · match a with
    | 0 => rfl
    | 1 => rfl
    | 2 => rfl
  · match a with
    | 0 => rfl
    | 1 => rfl

/-- A key's quantity along the queries is the key's. -/
theorem across_apply (x : FVec Ideal S16x16384 .f32) (h : Fin 16) (q k : Fin 16384) :
    broadcastInDim S16x16384x16384 ![0, 1, 2] bcast_S16x1x16384_S16x16384x16384_0_1_2
      (broadcastInDim S16x1x16384 ![0, 2] bcast_S16x16384_S16x1x16384_0_2 x) (ix3 h q k) = x (ix2 h k) := by
  refine (broadcastInDim_apply _ _ _ _ (ix3 h 0 k) fun a => ?_).trans (broadcastInDim_apply _ _ _ _ (ix2 h k) fun a => ?_)
  · match a with
    | 0 => rfl
    | 1 => rfl
    | 2 => rfl
  · match a with
    | 0 => rfl
    | 1 => rfl

/-- A key's position. -/
theorem keyPos_apply (q k : Fin 16384) : keyPos (ix2 q k) = BitVec.ofNat 32 k.val := by
  refine (broadcastInDim_apply _ _ _ _ (ix2 0 k) fun a => ?_).trans
    ((broadcastInDim_apply _ _ _ _ (ix1 k) fun a => ?_).trans (iotaInDim_apply 32 0 (ix1 k)))
  · match a with
    | 0 => rfl
    | 1 => rfl
  · match a with
    | 0 => rfl

/-- A query's position. -/
theorem queryPos_apply (q k : Fin 16384) : queryPos (ix2 q k) = BitVec.ofNat 32 q.val := by
  refine (broadcastInDim_apply _ _ _ _ (ix2 q 0) fun a => ?_).trans
    ((broadcastInDim_apply _ _ _ _ (ix1 q) fun a => ?_).trans (iotaInDim_apply 32 0 (ix1 q)))
  · match a with
    | 0 => rfl
    | 1 => rfl
  · match a with
    | 0 => rfl

/-- The mask at an entry: whether the key is not after the query. -/
theorem mask_apply (h : Fin 16) (q k : Fin 16384) :
    broadcastInDim S16x16384x16384 ![1, 2] bcast_S16384x16384_S16x16384x16384_1_2 (cmpi .sle keyPos queryPos) (ix3 h q k)
      = BitVec.ofBool (decide (k.val ≤ q.val)) := by
  refine (broadcastInDim_apply _ _ _ _ (ix2 q k) fun a => ?_).trans ?_
  · match a with
    | 0 => rfl
    | 1 => rfl
  have hq := q.isLt
  have hk := k.isLt
  show IntOp.cmpi .sle (keyPos (ix2 q k)) (queryPos (ix2 q k)) = _
  rw [keyPos_apply, queryPos_apply]
  exact WordCmp.cmpi_sle_ofNat (by omega) (by omega)

/-- The bits of the least float are `⊥`. -/
theorem least : Ideal.ofBits .f32 0xFF800000#32 = (⊥ : EReal) := by simp [Ideal.ofBits, Ideal.ieee]

/-- The masked scores. -/
theorem masked_apply (h : Fin 16) (q k : Fin 16384) : masked A G (ix3 h q k) = score A G h.val q.val k.val := by
  unfold score masked
  refine (select_apply _ _ _ _).trans ?_
  rw [mask_apply]
  by_cases hkq : k.val ≤ q.val
  · rw [if_pos hkq, decide_eq_true hkq]
    refine (select_one _ _).trans ?_
    show dots A (ix3 h q k) * scale + along (gates G) (ix3 h q k) - _ = _
    rw [dots_apply, along_apply, gates_apply]
    exact congrArg (dot A h.val q.val k.val * scale + gate G h.val q.val - ·) ((across_apply _ h q k).trans (gates_apply G h k))
  · rw [if_neg hkq, decide_eq_false hkq]
    exact (select_zero _ _).trans least

/-- The index of a row with a key inserted. -/
theorem lift_eq (hR : S16x16384x16384.Reduces [2] S16x16384) (h : Fin 16) (q k : Fin 16384) : hR.lift (ix2 h q) k = ix3 h q k := by
  funext a; apply Fin.ext
  match a with
  | 0 => rfl
  | 1 => rfl
  | 2 => rfl

/-- The ceiling over a prefix as a fold. -/
theorem top_eq_fold (x : ℕ → EReal) (n : ℕ) : Finset.univ.fold max ⊥ (fun j : Fin n => x j) = Softmax.top x n := by
  have := Softmax.top_add x 0 n
  simp only [zero_add] at this
  rw [this]
  exact (max_eq_right bot_le).symm

/-- The key axis of the scores is the last. -/
theorem dropKey : S16x16384x16384.Reduces [2] S16x16384 := by decide

/-- The number of keys. -/
abbrev keys : ℕ := S16x16384x16384.size 2

/-- A host maximum over one axis is a fold of `max` along it. -/
theorem reduce_max {s t u : Shape} {a : Fin s.rank} (x : FVec Ideal s .f32) (init : FVec Ideal u .f32) (h' : s.ReducesTo [a] t)
    (hR : s.Reduces [a] t) (hu : 0 < u.numel) (j : t.Idx) :
    Host.reduce FloatOps.maximumf x init h' hu j
      = Finset.univ.fold max (init (Shape.Idx.first hu) : EReal) fun k : Fin (s.size a) => x (hR.lift j k) :=
  Host.reduce_eq_fold_single (α := EReal) max x init h' hR hu j

/-- Each row's greatest element. -/
theorem tops_apply (x : FVec Ideal S16x16384x16384 .f32) (h : Fin 16) (q : Fin 16384) :
    tops x (ix2 h q) = Finset.univ.fold max (⊥ : EReal) fun k : Fin keys => x (ix3 h q k) := by
  unfold tops
  refine (maximumf_apply _ _ _).trans ?_
  rw [reduce_max x _ _ dropKey, broadcastInDim_scalar_apply]
  refine (congrArg₂ max least (congrArg₂ (fun (z : EReal) (f : Fin keys → EReal) => Finset.univ.fold max z f) least
    (funext fun k => congrArg x (lift_eq dropKey h q k)))).trans (max_eq_right bot_le)

/-- Each row's sum. -/
theorem sums_apply (x : FVec Ideal S16x16384x16384 .f32) (h : Fin 16) (q : Fin 16384) :
    sums x (ix2 h q) = ∑ k : Fin keys, x (ix3 h q k) := by
  refine (Ideal.hostReduceAdd_single reducesTo_S16x16384x16384_S16x16384_d2 dropKey x _ (ix2 h q)).trans ?_
  refine (congrArg (fun z : EReal => z + _) (show Ideal.ofBits .f32 0x00000000#32 = (0 : EReal) from by simp [Ideal.ofBits, Ideal.ieee])).trans ?_
  exact (zero_add _).trans (Finset.sum_congr rfl fun k _ => congrArg x (lift_eq dropKey h q k))

/-- The exponentials. -/
theorem exps_apply (x : FVec Ideal S16x16384x16384 .f32) (h : Fin 16) (q k : Fin 16384) :
    exps x (ix3 h q k) = Ideal.exp (x (ix3 h q k) - tops x (ix2 h q)) :=
  congrArg (fun z : EReal => Ideal.exp (x (ix3 h q k) - z)) (along_apply (tops x) h q k)

/-- The shares. -/
theorem shares_apply (x : FVec Ideal S16x16384x16384 .f32) (h : Fin 16) (q k : Fin 16384) :
    shares x (ix3 h q k) = Ideal.div (x (ix3 h q k)) (sums x (ix2 h q)) :=
  (hostDivf_apply _ _ _).trans (congrArg (fun z : EReal => Ideal.div (x (ix3 h q k)) z) (along_apply (sums x) h q k))

/-- The weights: a row's softmax. -/
theorem weights_apply (h : Fin 16) (q k : Fin 16384) :
    shares (exps (masked A G)) (ix3 h q k)
      = Ideal.div (Ideal.exp (score A G h.val q.val k.val - Softmax.top (score A G h.val q.val) 16384))
        (Softmax.den (score A G h.val q.val) 16384) := by
  have ht : tops (masked A G) (ix2 h q) = Softmax.top (score A G h.val q.val) 16384 := by
    rw [tops_apply, show (fun k : Fin keys => masked A G (ix3 h q k)) = fun k : Fin keys => score A G h.val q.val k.val from
      funext fun k => masked_apply A G h q k]
    exact top_eq_fold (score A G h.val q.val) keys
  have he (k : Fin 16384) : exps (masked A G) (ix3 h q k)
      = Ideal.exp (score A G h.val q.val k.val - Softmax.top (score A G h.val q.val) 16384) := by
    rw [exps_apply, masked_apply, ht]
  rw [shares_apply, he, sums_apply]
  refine congrArg _ ((Finset.sum_congr rfl fun k _ => he k).trans ?_)
  exact (Finset.sum_range (n := keys) fun k => Ideal.exp (score A G h.val q.val k - Softmax.top (score A G h.val q.val) 16384)).symm

/-- Values mixed by weights. -/
theorem mixed_apply (v : FVec Ideal S16384x16x64 .f32) (p : FVec Ideal S16x16384x16384 .f32) (h : Fin 16) (d : Fin 64) (q : Fin 16384) :
    mixed v p (ix3 h d q) = ∑ k : Fin 16384, v (ix3 k h d) * p (ix3 h q k) := by
  show FloatOps.dotGeneral _ _ _ _ _ _ = _
  have hr : dot_S16384x16x64_S16x16384x16384_S16x64x16384_0_2_2_1_1_0.contr.rank = 1 := rfl
  rw [Ideal.dotGeneral_apply, ← Equiv.sum_comp (contrEquiv1 dot_S16384x16x64_S16x16384x16384_S16x64x16384_0_2_2_1_1_0 16384 hr rfl).symm]
  refine Finset.sum_congr rfl fun k _ => ?_
  have hk := contrEquiv1_symm_val dot_S16384x16x64_S16x16384x16384_S16x64x16384_0_2_2_1_1_0 16384 hr rfl k
  refine congrArg₂ (· * ·) (congrArg v ?_) (congrArg p ?_)
  · funext a; apply Fin.ext
    match a with
    | ⟨0, _⟩ => exact hk
    | ⟨1, _⟩ => rfl
    | ⟨2, _⟩ => rfl
  · funext a; apply Fin.ext
    match a with
    | ⟨0, _⟩ => rfl
    | ⟨1, _⟩ => rfl
    | ⟨2, _⟩ => exact hk

/-- The joined array at query `q` and column `C`: head `C / 64`, lane `C % 64`. -/
theorem joined_apply (x : FVec Ideal S16x64x16384 .f32) (q : Fin 16384) (C : Fin 1024) :
    joined x (ix2 q C) = x (ix3 ⟨C.val / 64, by omega⟩ ⟨C.val % 64, Nat.mod_lt _ (by norm_num)⟩ q) := by
  have hC := C.isLt
  refine (shapeCast_apply _ _ (ix2 q C) (ix3 q ⟨C.val / 64, by omega⟩ ⟨C.val % 64, Nat.mod_lt _ (by norm_num)⟩) ?_).trans
    (transpose_apply _ _ _ _ (ix3 ⟨C.val / 64, by omega⟩ ⟨C.val % 64, Nat.mod_lt _ (by norm_num)⟩ q) fun a => ?_)
  · rw [Shape.rowMajor_val_two, Shape.rowMajor_val_three]
    show (q.val * 16 + C.val / 64) * 64 + C.val % 64 = q.val * 1024 + C.val
    omega
  · match a with
    | 0 => rfl
    | 1 => rfl
    | 2 => rfl

/-- **The reference's result at query `q` and column `C`**: head `C / 64`, lane `C % 64`. -/
theorem res_apply (m : (ℓ : Loc nD τ sig) → Buf (Elt Ideal) ℓ) (c : Dev nD) (q : Fin 16384) (C : Fin 1024) :
    Value.res_main_v41 m c (ix2 q C) = out (m (c.tc.loc main_arg0)) (m (c.tc.loc main_arg1)) (C.val / 64) q.val (C.val % 64) := by
  refine (congrFun (res_eq m c) (ix2 q C)).trans ((joined_apply _ q C).trans ((mixed_apply _ _ _ _ q).trans ?_))
  unfold out
  rw [Finset.sum_range]
  refine Finset.sum_congr rfl fun k _ => ?_
  exact congrArg₂ (· * ·) (heads_apply _ 2048 _ (by norm_num) k _ _) (weights_apply _ _ _ q k)

end Cert.ReferenceIdeal.Ref

end

end
-- ==== Proof.Equation.lean ====
/-
  The equation: where queries, keys and gates are finite, the kernel's result is the reference's. The kernel takes the
  tile's first query's gate for each query's, so its scores differ from the reference's by a number that is the same
  for the whole row, which a softmax does not see; it stops at the end of the diagonal block, past which every key is
  masked; and it divides once at the end, where the reference divides each weight.
-/
module

public import proofs.«01_k».proof.Proof.Array
public import proofs.«01_k».proof.Proof.Ref

@[expose] public section

noncomputable section

namespace Cert.Equation

open Idealize.ShloMosaic Idealize.ShloMosaic.ValueIdx
open Cert.KernelIdeal Cert.KernelIdeal.Array
open Cert.ReferenceIdeal.Ref (entry gate dot score out)

/-- The prompt's queries and keys, and its gates, are numbers. -/
structure Finite (A : Vec Ideal S16896x3072 .bf16) (G : Vec Ideal S16x1x16384 .f32) : Prop where
  entry : ∀ R C, R < 16384 → C < 2048 → ∃ r : ℝ, entry A R C = r
  gate : ∀ h k, h < 16 → k < 16384 → ∃ r : ℝ, gate G h k = r

variable (A : Vec Ideal S16896x3072 .bf16) (G : Vec Ideal S16x1x16384 .f32)

/-- The head that half `h` of pair `p` is. -/
abbrev headIx (p : Fin 8) (h : Fin 2) : ℕ := p.val * 2 + h.val

/-- A tile's query lane. -/
theorem tileQ_apply (p : Fin 8) (n : Fin 32) (r : Fin 512) (l : Fin 128) :
    tileQ A p n (ix2 r l) = entry A (n.val * 512 + r.val) (p.val * 128 + l.val) := by
  rw [entry, dif_pos ⟨by omega, by omega⟩]; rfl

/-- A key's (or a value's) lane. -/
theorem row_cols (b : Fin 24) {k : ℕ} (hk : k < 16384) (l : Fin 128) : Block.row (cols A b) k l = entry A k (b.val * 128 + l.val) := by
  rw [Block.row, dif_pos hk, entry, dif_pos ⟨by omega, by omega⟩]; rfl

/-- A key's gate. -/
theorem gate_pair (p : Fin 8) (h : Fin 2) {k : ℕ} (hk : k < 16384) : Block.gate (pairG G p) h k = gate G (headIx p h) k := by
  rw [Block.gate, dif_pos hk, gate, dif_pos ⟨by unfold headIx; omega, hk⟩]; rfl

/-- The gate of a tile's first query. -/
theorem gate_tile (p : Fin 8) (n : Fin 32) (h : Fin 2) : Block.gate0 (tileG G p n) h = gate G (headIx p h) (n.val * 512) := by
  rw [Block.gate0, gate, dif_pos ⟨by unfold headIx; omega, by omega⟩]; rfl

/-- The product over 128 lanes, the other head's set to zero, is the product over the head's 64. -/
theorem lanes_dot (p : Fin 8) (n : Fin 32) (h : Fin 2) (r : Fin 512) {k : ℕ} (hk : k < 16384) :
    ∑ l : Fin 128, Block.lanes (tileQ A p n) h (ix2 r l) * Block.row (cols A (keyBlock p)) k l
      = dot A (headIx p h) (n.val * 512 + r.val) k := by
  refine (Fin.sum_univ_add (a := 64) (b := 64) fun l : Fin 128 => (Block.lanes (tileQ A p n) h (ix2 r l) : EReal) * Block.row (cols A (keyBlock p)) k l).trans ?_
  unfold dot
  match h with
  | 0 =>
    refine (congrArg₂ (fun x y : EReal => x + y) (Finset.sum_congr rfl fun d _ => ?_) (Finset.sum_eq_zero fun d _ => ?_)).trans (add_zero _)
    · have hd := d.isLt
      refine congrArg₂ (fun x y : EReal => x * y) ?_ ?_
      · refine (Step.lower_query_apply _ r _).trans ((if_pos (by show d.val < 64; omega)).trans ((tileQ_apply A p n r _).trans ?_))
        exact congrArg _ (by show p.val * 128 + d.val = (p.val * 2 + 0) * 64 + d.val; omega)
      · refine (row_cols A _ hk _).trans (congrArg _ ?_)
        show (8 + p.val) * 128 + d.val = 1024 + ((p.val * 2 + 0) * 64 + d.val); omega
    · refine (congrArg (fun x : EReal => x * _) ((Step.lower_query_apply _ r _).trans (if_neg ?_))).trans (zero_mul _)
      show ¬ 64 + d.val < 64; omega
  | 1 =>
    refine (congrArg₂ (fun x y : EReal => x + y) (Finset.sum_eq_zero fun d _ => ?_) (Finset.sum_congr rfl fun d _ => ?_)).trans (zero_add _)
    · have hd := d.isLt
      refine (congrArg (fun x : EReal => x * _) ((Step.upper_query_apply _ r _).trans (if_neg ?_))).trans (zero_mul _)
      show ¬ 64 ≤ d.val; omega
    · refine congrArg₂ (fun x y : EReal => x * y) ?_ ?_
      · refine (Step.upper_query_apply _ r _).trans ((if_pos (by show 64 ≤ 64 + d.val; omega)).trans ((tileQ_apply A p n r _).trans ?_))
        exact congrArg _ (by show p.val * 128 + (64 + d.val) = (p.val * 2 + 1) * 64 + d.val; omega)
      · refine (row_cols A _ hk _).trans (congrArg _ ?_)
        show (8 + p.val) * 128 + (64 + d.val) = 1024 + ((p.val * 2 + 1) * 64 + d.val); omega

/-- The kernel's scores, in the reference's terms. -/
theorem scores_eq (p : Fin 8) (n : Fin 32) (h : Fin 2) (r : Fin 512) (k : ℕ) :
    scores A G p n h r k = if k ≤ n.val * 512 + r.val then
      dot A (headIx p h) (n.val * 512 + r.val) k * Step.scale + (gate G (headIx p h) (n.val * 512) - gate G (headIx p h) k) else ⊥ := by
  unfold scores Block.rowScore
  rw [Nat.mul_comm 512]
  by_cases hk : k ≤ n.val * 512 + r.val
  · rw [if_pos hk, if_pos hk, lanes_dot A p n h r (by omega), gate_tile, gate_pair G p h (by omega)]
  · rw [if_neg hk, if_neg hk]

variable {A G}

/-- A finite product. -/
theorem dot_coe (H : Finite A G) {h q k : ℕ} (hh : h < 16) (hq : q < 16384) (hk : k < 16384) : ∃ r : ℝ, dot A h q k = r := by
  unfold dot
  choose f hf using fun d : Fin 64 => H.entry q (h * 64 + d.val) hq (by omega)
  choose g hg using fun d : Fin 64 => H.entry k (1024 + (h * 64 + d.val)) hk (by omega)
  refine ⟨∑ d : Fin 64, f d * g d, ?_⟩
  refine (Finset.sum_congr rfl fun d _ => show _ = ((f d * g d : ℝ) : EReal) by rw [hf, hg, EReal.coe_mul]).trans ?_
  exact (map_sum (⟨⟨((↑) : ℝ → EReal), EReal.coe_zero⟩, EReal.coe_add⟩ : ℝ →+ EReal) (fun d => f d * g d) Finset.univ).symm

/-- A kernel's score of a key not after the query is a number. -/
theorem scores_coe (H : Finite A G) (p : Fin 8) (n : Fin 32) (h : Fin 2) (r : Fin 512) {k : ℕ} (hk : k ≤ n.val * 512 + r.val) :
    ∃ s : ℝ, scores A G p n h r k = s := by
  have hr := r.isLt
  have hh : headIx p h < 16 := by unfold headIx; omega
  obtain ⟨a, ha⟩ := dot_coe H hh (q := n.val * 512 + r.val) (k := k) (by omega) (by omega)
  obtain ⟨b, hb⟩ := H.gate (headIx p h) (n.val * 512) hh (by omega)
  obtain ⟨c, hc⟩ := H.gate (headIx p h) k hh (by omega)
  refine ⟨a * (1 / 8) + (b - c), ?_⟩
  rw [scores_eq, if_pos hk, ha, hb, hc, Step.scale_eq]
  norm_cast

/-- No score is `⊤`. -/
theorem scores_ne_top (H : Finite A G) (p : Fin 8) (n : Fin 32) (h : Fin 2) (r : Fin 512) (k : ℕ) : scores A G p n h r k ≠ ⊤ := by
  by_cases hk : k ≤ n.val * 512 + r.val
  · obtain ⟨s, hs⟩ := scores_coe H p n h r hk
    rw [hs]; exact EReal.coe_ne_top s
  · rw [scores_eq, if_neg hk]; exact bot_ne_top

/-- A row's scores of the reference are the kernel's, moved by one number. -/
theorem score_shift (H : Finite A G) (p : Fin 8) (n : Fin 32) (h : Fin 2) (r : Fin 512) :
    ∃ c : ℝ, score A G (headIx p h) (n.val * 512 + r.val) = fun k => scores A G p n h r k + c := by
  have hr := r.isLt
  have hh : headIx p h < 16 := by unfold headIx; omega
  obtain ⟨b, hb⟩ := H.gate (headIx p h) (n.val * 512) hh (by omega)
  obtain ⟨b', hb'⟩ := H.gate (headIx p h) (n.val * 512 + r.val) hh (by omega)
  refine ⟨b' - b, funext fun k => ?_⟩
  rw [scores_eq, score]
  by_cases hk : k ≤ n.val * 512 + r.val
  · obtain ⟨a, ha⟩ := dot_coe H hh (q := n.val * 512 + r.val) (k := k) (by omega) (by omega)
    obtain ⟨c, hc⟩ := H.gate (headIx p h) k hh (by omega)
    rw [if_pos hk, if_pos hk, ha, hb, hb', hc, show Cert.ReferenceIdeal.Ref.scale = ((1 / 8 : ℝ) : EReal) from Step.scale_eq, Step.scale_eq]
    norm_cast
    ring
  · rw [if_neg hk, if_neg hk, EReal.bot_add]

/-- **The kernel's result is the reference's.** -/
theorem result_eq (H : Finite A G) (R : Fin 16384) (C : Fin 1024) : result A G (ix2 R C) = out A G (C.val / 64) R.val (C.val % 64) := by
  obtain ⟨p, hp⟩ : ∃ p : Fin 8, p.val = C.val / 128 := ⟨⟨C.val / 128, by omega⟩, rfl⟩
  obtain ⟨n, hn⟩ : ∃ n : Fin 32, n.val = R.val / 512 := ⟨⟨R.val / 512, by omega⟩, rfl⟩
  obtain ⟨r, hr⟩ : ∃ r : Fin 512, r.val = R.val % 512 := ⟨⟨R.val % 512, by omega⟩, rfl⟩
  obtain ⟨l, hl⟩ : ∃ l : Fin 128, l.val = C.val % 128 := ⟨⟨C.val % 128, by omega⟩, rfl⟩
  have e : result A G (ix2 R C) = outTile A G p n r l := by
    show outTile A G _ _ _ _ = _
    congr 1 <;> exact Fin.ext (by first | exact hp.symm | exact hn.symm | exact hr.symm | exact hl.symm)
  obtain ⟨h, hh⟩ : ∃ h : Fin 2, h = Block.headOf l := ⟨_, rfl⟩
  have hhv : h.val = l.val / 64 := by
    rw [hh, Block.headOf]
    split
    · show 1 = l.val / 64; omega
    · show 0 = l.val / 64; omega
  have hhead : C.val / 64 = headIx p h := by unfold headIx; omega
  have hR : R.val = n.val * 512 + r.val := by omega
  have hlen : n.val * 512 + 512 ≤ 16384 := by omega
  obtain ⟨c, hc⟩ := score_shift H p n h r
  have hbot : ∀ k, n.val * 512 + 512 ≤ k → score A G (headIx p h) (n.val * 512 + r.val) k = ⊥ := fun k hk => by
    rw [score, if_neg (by omega)]
  have htop : ∀ k, score A G (headIx p h) (n.val * 512 + r.val) k ≠ ⊤ := fun k => by
    rw [hc]
    by_cases hk : k ≤ n.val * 512 + r.val
    · obtain ⟨s, hs⟩ := scores_coe H p n h r hk
      show scores A G p n h r k + c ≠ ⊤
      rw [hs, ← EReal.coe_add]; exact EReal.coe_ne_top _
    · show scores A G p n h r k + c ≠ ⊤
      rw [scores_eq, if_neg hk, EReal.bot_add]; exact bot_ne_top
  have hfirst : score A G (headIx p h) (n.val * 512 + r.val) 0 ≠ ⊥ := by
    obtain ⟨s, hs⟩ := scores_coe H p n h r (Nat.zero_le _)
    rw [hc]
    show scores A G p n h r 0 + c ≠ ⊥
    rw [hs, ← EReal.coe_add]; exact EReal.coe_ne_bot _
  rw [e, hhead, hR, out, Softmax.sum_div htop _ (by norm_num : 0 < 16384) hfirst,
    Softmax.num_masked _ hlen hbot, Softmax.den_masked hlen hbot, hc, Softmax.num_shift, Softmax.den_shift]
  have eS : Block.rowScore (Block.lanes (tileQ A p n) h) (cols A (keyBlock p)) (pairG G p) (Block.gate0 (tileG G p n) h) h
      (n.val * 512) r = scores A G p n h r := by
    funext k; unfold scores; rw [Nat.mul_comm 512]
  unfold outTile Block.rowOut
  rw [← hh, Nat.mul_comm 512, eS]
  refine congrArg (fun z : EReal => Ideal.div z (Softmax.den (scores A G p n h r) (n.val * 512 + 512))) ?_
  unfold Softmax.num
  refine Finset.sum_congr rfl fun k hk => congrArg (HMul.hMul (α := EReal) (β := EReal) _) ?_
  have hk' := Finset.mem_range.mp hk
  refine (row_cols A _ (by omega) l).trans (congrArg _ ?_)
  show (16 + p.val) * 128 + l.val = _
  unfold headIx
  omega

end Cert.Equation

end

end
-- ==== Proof.Finite.lean ====
/-
  The precondition read: where `finite_scores` holds of the arrays, the prompt's queries and keys and its gates are
  numbers.
-/
module

public import proofs.«01_k».proof.Pre_finite_scores
public import proofs.«01_k».proof.Proof.Equation

@[expose] public section

noncomputable section

namespace Cert.Pre_finite_scores

open Idealize.ShloMosaic Idealize.ShloMosaic.ValueIdx

/-- The precondition's shape facts. -/
instance facts : Facts where
  slices_S16896x3072_S16384x2048_0_0 := by decide
  bitsLt_bf16_f32 := by decide
  bcast_S_S16384x2048 := by decide
  bcast_S_S16x1x16384 := by decide

/-- An extended real between the two infinities is a number. -/
theorem coe_of_between {x : EReal} (h : (Ideal.cmp .ogt x (Ideal.ofBits .f32 0xFF800000#32)) &&& (Ideal.cmp .olt x (Ideal.ofBits .f32 0x7F800000#32)) = 1#1) :
    ∃ r : ℝ, x = r := by
  induction x with
  | coe r => exact ⟨r, rfl⟩
  | bot => simp [Ideal.cmp, Ideal.ofBits, Ideal.ieee] at h
  | top => simp [Ideal.cmp, Ideal.ofBits, Ideal.ieee] at h

/-- **The precondition gives finite queries, keys and gates.** -/
theorem finite (A : FVec Ideal S16896x3072 .bf16) (G : FVec Ideal S16x1x16384 .f32) (hA : (fn A G).1 = fun _ => 1#1)
    (hG : (fn A G).2 = fun _ => 1#1) : Equation.Finite A G where
  entry R C hR hC := by
    rw [ReferenceIdeal.Ref.entry, dif_pos ⟨by omega, by omega⟩]
    obtain ⟨r, h⟩ := coe_of_between (congrFun hA (ix2 ⟨R, hR⟩ ⟨C, hC⟩))
    refine ⟨r, Eq.trans ?_ h⟩
    exact (extractStridedSlice_apply (s := S16896x3072) (t := S16384x2048) ![0, 0] A Facts.slices_S16896x3072_S16384x2048_0_0 (ix2 ⟨R, hR⟩ ⟨C, hC⟩)
      (ix2 ⟨R, by omega⟩ ⟨C, by omega⟩) fun a => by
        match a with
        | 0 => exact (zero_add R).symm
        | 1 => exact (zero_add C).symm).symm
  gate h k hh hk := by
    rw [ReferenceIdeal.Ref.gate, dif_pos ⟨hh, hk⟩]
    exact coe_of_between (congrFun hG (ix3 ⟨h, hh⟩ 0 ⟨k, hk⟩))

end Cert.Pre_finite_scores

end

end
-- ==== Proof.Cross.lean ====
/-
  The attention to the memory: for a query and a head, the 256 memory tokens' values mixed by the softmax of their
  scores. The kernel takes the four heads of a tile of queries one after another, each in its own 256 columns, and
  divides once at the end. A tile has 512 queries of the prompt, or 16 of one sequence of the sample; what is said of a
  tile holds of any number of queries.
-/
module

public import proofs.«01_k».proof.Proof.Step
public import proofs.«01_k».proof.Proof.Ref
public import proofs.«01_k».proof.Proof.Gen.Kernel10Ideal.Value
public import Idealize.ShloMosaic.Lib.Pipeline.ValueKit.Tiles

@[expose] public section

noncomputable section

namespace Cert.Cross

open Idealize.ShloMosaic Idealize.ShloMosaic.ValueIdx

/-- The scale of the scores. -/
abbrev scale : EReal := Ideal.ofBits .f32 0x3D800000#32

/-- It is the number 1/16. -/
theorem scale_eq : scale = ((1 / 16 : ℝ) : EReal) := by
  simp [scale, Ideal.ofBits, Ideal.ieee, -EReal.coe_mul]; norm_num

/-- The column of a head's lane. -/
def lane (h : Fin 4) (d : Fin 256) : Fin 1024 := ⟨h.val * 256 + d.val, by omega⟩

variable {M N : ℕ}

/-- Arrays of queries, and the memory's arrays. -/
abbrev Rows (M : ℕ) := (⟨2, ![M, 1024]⟩ : Shape).Idx → EReal
abbrev Memory := (⟨3, ![1, 256, 1024]⟩ : Shape).Idx → EReal

/-- The score of memory token `k` for the query at row `r` and head `h`: their lanes' product, scaled. -/
def score (Q : Rows M) (K : Memory) (h : Fin 4) (r : Fin M) (k : ℕ) : EReal :=
  if hk : k < 256 then (∑ d : Fin 256, Q (ix2 r (lane h d)) * K (ix3 0 ⟨k, hk⟩ (lane h d))) * scale else 0

/-- A memory token's value at a head's lane. -/
def value (V : Memory) (h : Fin 4) (d : Fin 256) (k : ℕ) : EReal := if hk : k < 256 then V (ix3 0 ⟨k, hk⟩ (lane h d)) else 0

/-- The attention's entry for the query at row `r`, head `h` and lane `d`. -/
def out (Q : Rows M) (K V : Memory) (r : Fin M) (h : Fin 4) (d : Fin 256) : EReal :=
  Ideal.div (Softmax.num (score Q K h r) (value V h d) 256) (Softmax.den (score Q K h r) 256)

/-- The attention's entry at a column: its head and lane. -/
def entry (Q : Rows M) (K V : Memory) (r : Fin M) (C : Fin 1024) : EReal :=
  out Q K V r ⟨C.val / 256, by omega⟩ ⟨C.val % 256, Nat.mod_lt _ (by norm_num)⟩

/-- At a head's lane's column. -/
theorem entry_lane (Q : Rows M) (K V : Memory) (r : Fin M) (h : Fin 4) (d : Fin 256) : entry Q K V r (lane h d) = out Q K V r h d := by
  have hd := d.isLt
  unfold entry
  congr 1 <;> refine Fin.ext ?_
  · show (h.val * 256 + d.val) / 256 = h.val; omega
  · show (h.val * 256 + d.val) % 256 = d.val; omega

/-- A query's entry is the same in any array that holds it, over the same memory. -/
theorem entry_congr {Q : Rows M} {Q' : Rows N} {K K' V V' : Memory} {r : Fin M} {r' : Fin N} (C : Fin 1024) (hQ : ∀ C, Q (ix2 r C) = Q' (ix2 r' C))
    (hK : ∀ k C, K (ix3 0 k C) = K' (ix3 0 k C)) (hV : ∀ k C, V (ix3 0 k C) = V' (ix3 0 k C)) : entry Q K V r C = entry Q' K' V' r' C := by
  have hs (h : Fin 4) : score Q K h r = score Q' K' h r' := funext fun k => by
    unfold score
    split
    · exact congrArg (fun z : EReal => z * scale) (Finset.sum_congr rfl fun d _ => congrArg₂ (fun y z : EReal => y * z) (hQ _) (hK _ _))
    · rfl
  have hv (h : Fin 4) (d : Fin 256) : value V h d = value V' h d := funext fun k => by
    unfold value
    split
    · exact hV _ _
    · rfl
  unfold entry out
  rw [hs, hv]

/-- Where a query and the keys are numbers, so is each score. -/
theorem score_coe {Q : Rows M} {K : Memory} {r : Fin M} (hQ : ∀ C, ∃ x : ℝ, Q (ix2 r C) = x) (hK : ∀ k C, ∃ x : ℝ, K (ix3 0 k C) = x)
    (h : Fin 4) (k : ℕ) : ∃ s : ℝ, score Q K h r k = s := by
  unfold score
  split
  · rename_i hk
    choose f hf using hQ
    choose g hg using hK
    refine ⟨(∑ d : Fin 256, f (lane h d) * g ⟨k, hk⟩ (lane h d)) * (1 / 16), ?_⟩
    rw [scale_eq, EReal.coe_mul]
    refine congrArg (fun z : EReal => z * _) ?_
    refine (Finset.sum_congr rfl fun d _ => show _ = ((f (lane h d) * g ⟨k, hk⟩ (lane h d) : ℝ) : EReal) by rw [hf, hg, EReal.coe_mul]).trans ?_
    exact (map_sum (⟨⟨((↑) : ℝ → EReal), EReal.coe_zero⟩, EReal.coe_add⟩ : ℝ →+ EReal) (fun d => f (lane h d) * g ⟨k, hk⟩ (lane h d)) Finset.univ).symm
  · exact ⟨0, rfl⟩

/-- There the values mixed by weights divided one by one make the entry. -/
theorem mixed_eq {Q : Rows M} {K : Memory} {r : Fin M} (hQ : ∀ C, ∃ x : ℝ, Q (ix2 r C) = x) (hK : ∀ k C, ∃ x : ℝ, K (ix3 0 k C) = x)
    (V : Memory) (h : Fin 4) (d : Fin 256) :
    ∑ k : Fin 256, V (ix3 0 k (lane h d)) * Ideal.div (Ideal.exp (score Q K h r k.val - Softmax.top (score Q K h r) 256)) (Softmax.den (score Q K h r) 256)
      = out Q K V r h d := by
  have hs := score_coe hQ hK h
  have hn : ∀ k, score Q K h r k ≠ ⊤ := fun k => by obtain ⟨s, e⟩ := hs k; rw [e]; exact EReal.coe_ne_top s
  have hb : score Q K h r 0 ≠ ⊥ := by obtain ⟨s, e⟩ := hs 0; rw [e]; exact EReal.coe_ne_bot s
  unfold out
  rw [← Softmax.sum_div hn (value V h d) (by norm_num : 0 < 256) hb, Finset.sum_range]
  refine Finset.sum_congr rfl fun k _ => congrArg (fun z : EReal => z * _) ?_
  rw [value, dif_pos k.isLt]

/-! ## A head of a tile of `n` queries -/

/-- The shape facts of a tile of `n` queries. -/
structure Tile (n : ℕ) : Prop where
  square : (⟨3, ![1, 256, 256]⟩ : Shape).ShapeCasts ⟨2, ![256, 256]⟩
  narrow : FTy.bits .bf16 < FTy.bits .f32
  drop : (⟨2, ![n, 256]⟩ : Shape).Reduces [1] ⟨1, ![n]⟩
  column : (⟨1, ![n]⟩ : Shape).ShapeCasts ⟨2, ![n, 1]⟩
  spread : (⟨2, ![n, 1]⟩ : Shape).Broadcasts ⟨2, ![n, 256]⟩

/-- A head's queries, weights or results; its keys or values; one number a query. -/
abbrev Head (n : ℕ) : Shape := ⟨2, ![n, 256]⟩
abbrev Lanes : Shape := ⟨3, ![1, 256, 256]⟩
abbrev Column (n : ℕ) : Shape := ⟨2, ![n, 1]⟩

variable {n : ℕ} (T : Tile n)

/-- The scores of a tile's queries, -/
def scores (q : FVec Ideal (Head n) .bf16) (k : FVec Ideal Lanes .f32) : FVec Ideal (Head n) .f32 :=
  mulf (matmul (DotDims.transposedRhs n 256 256) none q (truncf .bf16 (shapeCast ⟨2, ![256, 256]⟩ k T.square) T.narrow)
    (constant (Head n) .f32 0x00000000#32)) (broadcast (Head n) (Scalar.ofBits .f32 0x3D800000#32))

/-- each query's greatest, -/
def greatest (s : FVec Ideal (Head n) .f32) : FVec Ideal (Column n) .f32 :=
  shapeCast (Column n) (multiReduction .maximumf [1] ⟨1, ![n]⟩ s 0xFF800000#32 T.drop (.inl rfl) rfl) T.column

/-- the exponentials under it, -/
def weights (s : FVec Ideal (Head n) .f32) : FVec Ideal (Head n) .f32 :=
  exp (subf s (broadcastTo (Head n) (greatest T s) T.spread))

/-- each query's sum, -/
def total (w : FVec Ideal (Head n) .f32) : FVec Ideal (Column n) .f32 :=
  shapeCast (Column n) (multiReduction .add [1] ⟨1, ![n]⟩ w 0x00000000#32 T.drop (.inl rfl) rfl) T.column

/-- and the values mixed, over the sum. -/
def mix (w : FVec Ideal (Head n) .f32) (v : FVec Ideal Lanes .f32) : FVec Ideal (Head n) .bf16 :=
  truncf .bf16 (divf (matmul (DotDims.plain n 256 256) none (truncf .bf16 w T.narrow)
      (truncf .bf16 (shapeCast ⟨2, ![256, 256]⟩ v T.square) T.narrow) (constant (Head n) .f32 0x00000000#32))
    (broadcastTo (Head n) (total T w) T.spread)) T.narrow

/-- A head's result. -/
def head (q : FVec Ideal (Head n) .bf16) (k v : FVec Ideal Lanes .f32) : FVec Ideal (Head n) .bf16 := mix T (weights T (scores T q k)) v

/-- A score of a tile. -/
theorem scores_apply (q : FVec Ideal (Head n) .bf16) (k : FVec Ideal Lanes .f32) (r : Fin n) (j : Fin 256) :
    scores T q k (ix2 r j) = (∑ d : Fin 256, q (ix2 r d) * k (ix3 0 j d)) * scale := by
  show (FloatOps.matmul (DotDims.transposedRhs n 256 256) none q _ _ (ix2 r j)) * scale = _
  rw [Ideal.matmul_transposedRhs_apply, constant_apply, KernelIdeal.Step.zero_f32, zero_add]
  refine congrArg (fun z : EReal => z * scale) (Finset.sum_congr rfl fun d _ => congrArg (fun z : EReal => q (ix2 r d) * z) ?_)
  exact shapeCast_1ab_ab_apply (a := 256) (b := 256) k _ j d

/-- The index of a row's element. -/
theorem lift_row (r : Fin n) (j : Fin 256) : T.drop.lift (ix1 r) j = ix2 r j := by
  funext a; apply Fin.ext
  match a with
  | 0 => rfl
  | 1 => rfl

/-- A column over the queries, spread over the memory, read at an index. -/
theorem spread_apply (v : FVec Ideal (Column n) .f32) (r : Fin n) (j : Fin 256) : broadcastTo (Head n) v T.spread (ix2 r j) = v (ix2 r 0) :=
  broadcastTo_apply v T.spread _ (ix2 r 0) fun a => by
    match a with
    | 0 =>
      show r.val = if n = 1 then 0 else r.val
      have hr := r.isLt
      split <;> omega
    | 1 => rfl

/-- A query's greatest score. -/
theorem greatest_apply (s : FVec Ideal (Head n) .f32) (r : Fin n) (x : ℕ → EReal) (hx : ∀ j : Fin 256, s (ix2 r j) = x j.val) :
    greatest T s (ix2 r 0) = Softmax.top x 256 := by
  unfold greatest
  rw [shapeCast_a_a1_apply (a := n)]
  refine (Ideal.multiReduction_maximumf_single s _ T.drop _ rfl (ix1 r)).trans ?_
  show Finset.fold max (Ideal.ofBits .f32 0xFF800000#32) _ _ = _
  rw [KernelIdeal.Step.negInf, ← ReferenceIdeal.Ref.top_eq_fold]
  exact congrArg (fun f => Finset.fold max ⊥ f Finset.univ) (funext fun j => (congrArg s (lift_row T r j)).trans (hx j))

/-- A weight. -/
theorem weights_apply (s : FVec Ideal (Head n) .f32) (r : Fin n) (x : ℕ → EReal) (hx : ∀ j : Fin 256, s (ix2 r j) = x j.val) (j : Fin 256) :
    weights T s (ix2 r j) = Ideal.exp (x j.val - Softmax.top x 256) := by
  show Ideal.exp (s (ix2 r j) - broadcastTo (Head n) (greatest T s) T.spread (ix2 r j)) = _
  rw [spread_apply T, hx, greatest_apply T s r x hx]

/-- A query's sum. -/
theorem total_apply (s : FVec Ideal (Head n) .f32) (r : Fin n) (x : ℕ → EReal) (hx : ∀ j : Fin 256, s (ix2 r j) = x j.val) :
    total T (weights T s) (ix2 r 0) = Softmax.den x 256 := by
  unfold total Softmax.den
  rw [shapeCast_a_a1_apply (a := n), Finset.sum_range]
  refine (Ideal.multiReduction_add_single _ _ T.drop _ rfl (ix1 r)).trans (Finset.sum_congr rfl fun j _ => ?_)
  exact (congrArg (weights T s) (lift_row T r j)).trans (weights_apply T s r x hx j)

/-- A head's entry: the weighted sum of the values over the sum of the weights. -/
theorem mix_apply (s : FVec Ideal (Head n) .f32) (v : FVec Ideal Lanes .f32) (r : Fin n) (d : Fin 256) (x y : ℕ → EReal)
    (hx : ∀ j : Fin 256, s (ix2 r j) = x j.val) (hy : ∀ j : Fin 256, v (ix3 0 j d) = y j.val) :
    mix T (weights T s) v (ix2 r d) = Ideal.div (Softmax.num x y 256) (Softmax.den x 256) := by
  unfold mix
  rw [truncf_apply, divf_apply, spread_apply T, total_apply T s r x hx]
  refine congrArg (fun z : EReal => Ideal.div z (Softmax.den x 256)) ?_
  show FloatOps.matmul (DotDims.plain n 256 256) none _ _ _ (ix2 r d) = _
  unfold Softmax.num
  rw [Ideal.matmul_plain_apply, constant_apply, KernelIdeal.Step.zero_f32, zero_add, Finset.sum_range]
  refine Finset.sum_congr rfl fun j _ => congrArg₂ (fun a b : EReal => a * b) (weights_apply T s r x hx j) ?_
  exact (shapeCast_1ab_ab_apply (a := 256) (b := 256) v _ j d).trans (hy j)

/-- A tile's queries, and the memory it attends to. -/
abbrev Wide (n : ℕ) : Shape := ⟨2, ![n, 1024]⟩
abbrev WholeMemory : Shape := ⟨3, ![1, 256, 1024]⟩

/-- A head's result, from its columns of the blocks, is the attention at those columns. -/
theorem head_apply (x : Vec Ideal (Wide n) .bf16) (k v : Vec Ideal WholeMemory .f32) (h : Fin 4)
    (i2 : ∀ a, (![0, h.val * 256] : Fin 2 → Nat) a + (Head n).size a ≤ (Wide n).size a)
    (i3 : ∀ a, (![0, 0, h.val * 256] : Fin 3 → Nat) a + Lanes.size a ≤ WholeMemory.size a) (i : (Head n).Idx) :
    head T (View.ld (Val := Elt Ideal) (e' := .bf16) x (Rect.unit (s := Wide n) ![0, h.val * 256] (Head n).size i2))
      (View.ld (Val := Elt Ideal) (e' := .f32) k (Rect.unit (s := WholeMemory) ![0, 0, h.val * 256] Lanes.size i3))
      (View.ld (Val := Elt Ideal) (e' := .f32) v (Rect.unit (s := WholeMemory) ![0, 0, h.val * 256] Lanes.size i3)) i
    = entry (M := n) x k v ((Rect.unit (s := Wide n) ![0, h.val * 256] (Head n).size i2).emb i 0)
        ((Rect.unit (s := Wide n) ![0, h.val * 256] (Head n).size i2).emb i 1) := by
  obtain ⟨r, d, rfl⟩ : ∃ (r : Fin n) (d : Fin 256), i = ix2 r d := ⟨i 0, i 1, eq_ix2 (n0 := n) (n1 := 256) i⟩
  have er : (Rect.unit (s := Wide n) ![0, h.val * 256] (Head n).size i2).emb (ix2 r d) 0 = r :=
    Fin.ext (show 0 + 1 * r.val = r.val by omega)
  have ed : (Rect.unit (s := Wide n) ![0, h.val * 256] (Head n).size i2).emb (ix2 r d) 1 = lane h d :=
    Fin.ext (show h.val * 256 + 1 * d.val = h.val * 256 + d.val by omega)
  have hq (d : Fin 256) : View.ld (Val := Elt Ideal) (e' := .bf16) x (Rect.unit (s := Wide n) ![0, h.val * 256] (Head n).size i2) (ix2 r d)
      = x (ix2 r (lane h d)) :=
    View.ld_unit_apply_of (Val := Elt Ideal) (e := .bf16) x _ _ i2 (ix2 r d) (ix2 r (lane h d)) fun a => by
      match a with
      | 0 => exact (zero_add _).symm
      | 1 => rfl
  have hm (z : Vec Ideal WholeMemory .f32) (j d : Fin 256) :
      View.ld (Val := Elt Ideal) (e' := .f32) z (Rect.unit (s := WholeMemory) ![0, 0, h.val * 256] Lanes.size i3) (ix3 0 j d) = z (ix3 0 j (lane h d)) :=
    View.ld_unit_apply_of (Val := Elt Ideal) (e := .f32) z _ _ i3 (ix3 0 j d) (ix3 0 j (lane h d)) fun a => by
      match a with
      | 0 => rfl
      | 1 => exact (zero_add _).symm
      | 2 => rfl
  refine Eq.trans ?_ (congrArg₂ (entry (M := n) x k v) er ed).symm
  rw [entry_lane, head]
  refine mix_apply T _ _ r d (score x k h r) (value v h d) (fun j => ?_) fun j => ?_
  · rw [scores_apply, score, dif_pos j.isLt]
    exact congrArg (fun z : EReal => z * scale) (Finset.sum_congr rfl fun d _ => congrArg₂ (fun a b : EReal => a * b) (hq d) (hm k j d))
  · rw [value, dif_pos j.isLt]
    exact hm v j d

end Cert.Cross

namespace Cert.Kernel10Ideal.Cross

open Idealize.ShloMosaic Idealize.ShloMosaic.ValueIdx Idealize.ShloMosaic.TcCoe Idealize.SL.Sem
open Cert.Kernel10Ideal Cert.Kernel10Ideal.Gen Cert.Cross

/-! ## The tile -/

/-- The prompt's tile. -/
theorem tile : Tile 512 where
  square := shapeCasts_S1x256x256_S256x256
  narrow := bitsLt_bf16_f32
  drop := reduces_S512x256_S512
  column := shapeCasts_S512_S512x1
  spread := broadcasts_S512x1_S512x256

/-- The body's result is the attention of its tile of queries. -/
theorem out_apply (x : Vec Ideal S512x1024 .bf16) (k v : Vec Ideal S1x256x1024 .f32) (i : S512x1024.Idx) :
    out0_3 x k v i = entry (M := 512) x k v (i 0) (i 1) := by
  refine View.canon_apply_of_pieces (Val := Elt Ideal) (e := .bf16) (fun i : S512x1024.Idx => entry (M := 512) x k v (i 0) (i 1)) _ ?_ i (cover0_3 _ _ _ _ i)
  intro p hp
  rcases List.mem_cons.mp hp with rfl | hp
  · exact fun y => head_apply tile x k v 3 _ _ y
  rcases List.mem_cons.mp hp with rfl | hp
  · exact fun y => head_apply tile x k v 2 _ _ y
  rcases List.mem_cons.mp hp with rfl | hp
  · exact fun y => head_apply tile x k v 1 _ _ y
  rcases List.mem_cons.mp hp with rfl | hp
  · exact fun y => head_apply tile x k v 0 _ _ y
  exact absurd hp List.not_mem_nil

/-! ## The array -/

variable (m : (ℓ : Loc nD τ sig) → Buf (Elt Ideal) ℓ) (c : Dev nD)

/-- A point's tile: its rows of the queries and of the result, and the whole memory. -/
theorem index0 (t : Fin cfg0.N) : win0_0.index t 0 = t.val ∧ win0_0.index t 1 = 0 := by
  revert t; decide +kernel
theorem index1 (t : Fin cfg0.N) : win0_1.index t 0 = 0 ∧ win0_1.index t 1 = 0 ∧ win0_1.index t 2 = 0 := by
  revert t; decide +kernel
theorem index2 (t : Fin cfg0.N) : win0_2.index t 0 = 0 ∧ win0_2.index t 1 = 0 ∧ win0_2.index t 2 = 0 := by
  revert t; decide +kernel
theorem index3 (t : Fin cfg0.N) : win0_3.index t 0 = t.val ∧ win0_3.index t 1 = 0 := by
  revert t; decide +kernel

/-- The prompt's attention to the memory. -/
def attention (Q : Rows 16896) (K V : Memory) : S16384x1024.Idx → EReal :=
  fun i => entry Q K V (Fin.castLE (by norm_num) (i 0 : Fin 16384)) (i 1)

/-- The block written back at a point is that point's tile of the attention. -/
theorem flushed_eq (t : Fin cfg0.N) : (dats m 0 c).flushed 3 t
    = ((cfg0.win 3).blk t).view.read (Elt Ideal) (attention (m (c.tc.loc main_arg0)) (m (c.tc.loc main_arg1)) (m (c.tc.loc main_arg2))) := by
  funext i
  rw [View.read_apply, Value.flushed3 m c t]
  obtain ⟨r, j, rfl⟩ : ∃ (r : Fin 512) (j : Fin 1024), i = ix2 r j := ⟨i 0, i 1, eq_ix2 (n0 := 512) (n1 := 1024) i⟩
  refine (out_apply (iblk m c 0 t) (iblk m c 1 t) (iblk m c 2 t) (ix2 r j)).trans ?_
  have ej : j = (((cfg0.win 3).blk t).view.emb (ix2 r j) : S16384x1024.Idx) 1 :=
    Fin.ext (by show j.val = win0_3.index t 1 * 1024 + 1 * j.val; rw [(index3 t).2]; omega)
  refine Eq.trans (entry_congr j (fun C => ?_) (fun k C => ?_) fun k C => ?_) (congrArg (entry (M := 16896) _ _ _ _) ej)
  · unfold iblk
    rw [View.read_apply]
    refine (congrFun (V_main_arg0 m c) _).trans (congrArg (m (c.tc.loc main_arg0)) (funext fun a => Fin.ext ?_))
    match a with
    | 0 => show win0_0.index t 0 * 512 + 1 * r.val = win0_3.index t 0 * 512 + 1 * r.val; rw [(index0 t).1, (index3 t).1]
    | 1 => show win0_0.index t 1 * 1024 + 1 * C.val = C.val; rw [(index0 t).2]; omega
  · unfold iblk
    rw [View.read_apply]
    refine (congrFun (V_main_arg1 m c) _).trans (congrArg (m (c.tc.loc main_arg1)) (funext fun a => Fin.ext ?_))
    match a with
    | 0 => show win0_1.index t 0 * 1 + 1 * 0 = 0; rw [(index1 t).1]
    | 1 => show win0_1.index t 1 * 256 + 1 * k.val = k.val; rw [(index1 t).2.1]; omega
    | 2 => show win0_1.index t 2 * 1024 + 1 * C.val = C.val; rw [(index1 t).2.2]; omega
  · unfold iblk
    rw [View.read_apply]
    refine (congrFun (V_main_arg2 m c) _).trans (congrArg (m (c.tc.loc main_arg2)) (funext fun a => Fin.ext ?_))
    match a with
    | 0 => show win0_2.index t 0 * 1 + 1 * 0 = 0; rw [(index2 t).1]
    | 1 => show win0_2.index t 1 * 256 + 1 * k.val = k.val; rw [(index2 t).2.1]; omega
    | 2 => show win0_2.index t 2 * 1024 + 1 * C.val = C.val; rw [(index2 t).2.2]; omega

/-- The tiles cover the array, so it ends holding the attention. -/
theorem final : (dats m 0 c).arrAt 3 cfg0.N = attention (m (c.tc.loc main_arg0)) (m (c.tc.loc main_arg1)) (m (c.tc.loc main_arg2)) :=
  (dats m 0 c).arrAt_eq_of_cover 3 _ (fun t _ => flushed_eq m c t) fun (i : S16384x1024.Idx) => by
    have h0 : (i 0).val < 16384 := (i 0).isLt
    have h1 : (i 1).val < 1024 := (i 1).isLt
    obtain ⟨t, ht⟩ : ∃ t : Fin cfg0.N, t.val = (i 0).val / 512 :=
      ⟨⟨(i 0).val / 512, lt_of_lt_of_eq (b := 32) (by omega) (show cfg0.N = 32 from N_0).symm⟩, rfl⟩
    refine ⟨t, flush0_3 t, ?_⟩
    show i ∈ ((View.whole main_v0).slice (win0_3.rect t)).set
    rw [View.set_slice_whole, Rect.mem_set_unit]
    intro a
    match a with
    | ⟨0, _⟩ => show win0_3.index t 0 * 512 ≤ (i 0).val ∧ (i 0).val < win0_3.index t 0 * 512 + 512
                rw [(index3 t).1, ht]; omega
    | ⟨1, _⟩ => show win0_3.index t 1 * 1024 ≤ (i 1).val ∧ (i 1).val < win0_3.index t 1 * 1024 + 1024
                rw [(index3 t).2]; omega

end Cert.Kernel10Ideal.Cross

end

end
-- ==== Proof.CrossRef.lean ====
/-
  What the reference of the attention to the memory computes: for every query and head, the values times the softmax
  weights of the scores, each weight divided before the sum. Where queries and keys are numbers that is the kernel's
  quotient.
-/
module

public import proofs.«01_k».proof.Proof.Cross
public import proofs.«01_k».proof.Proof.Gen.Reference10Ideal.Run

@[expose] public section

noncomputable section

namespace Cert.Reference10Ideal.Cross

open Idealize.ShloMosaic Idealize.ShloMosaic.ValueIdx
open Cert.Reference10Ideal Cert.Reference10Ideal.Gen Cert.Cross

/-! ## The reference's own stages -/

/-- The prompt's queries by heads, -/
def queries (Q : FVec Ideal S16896x1024 .bf16) : FVec Ideal S16384x4x256 .f32 :=
  shapeCast _ (extf .f32 (extractStridedSlice S16384x1024 ![0, 0] Q slices_S16896x1024_S16384x1024_0_0) bitsLt_bf16_f32)
    shapeCasts_S16384x1024_S16384x4x256

/-- the memory by heads, -/
def memory (K : FVec Ideal S1x256x1024 .f32) : FVec Ideal S256x4x256 .f32 := shapeCast _ K shapeCasts_S1x256x1024_S256x4x256

/-- the scores, -/
def scores (q : FVec Ideal S16384x4x256 .f32) (k : FVec Ideal S256x4x256 .f32) : FVec Ideal S4x16384x256 .f32 :=
  mulf (Host.dotGeneral dot_S16384x4x256_S256x4x256_S4x16384x256_2_2_0_0_1_1 none q k)
    (broadcastInDim S4x16384x256 ![] bcast_S_S4x16384x256 (constant S_ .f32 0x3D800000#32))

/-- a query's quantity along the memory, -/
abbrev along (x : FVec Ideal S4x16384 .f32) : FVec Ideal S4x16384x256 .f32 :=
  broadcastInDim S4x16384x256 ![0, 1, 2] bcast_S4x16384x1_S4x16384x256_0_1_2 (broadcastInDim S4x16384x1 ![0, 1] bcast_S4x16384_S4x16384x1_0_1 x)

/-- the exponentials under each query's greatest score, -/
def exps (s : FVec Ideal S4x16384x256 .f32) : FVec Ideal S4x16384x256 .f32 :=
  Host.exp (subf s (along (maximumf (broadcastInDim S4x16384 ![] bcast_S_S4x16384 (constant (F := Ideal) S_ .f32 0xFF800000#32))
    (Host.reduce FloatOps.maximumf s (constant (F := Ideal) S_ .f32 0xFF800000#32) reducesTo_S4x16384x256_S4x16384_d2 h_S_))))

/-- each over its query's sum, -/
def shares (e : FVec Ideal S4x16384x256 .f32) : FVec Ideal S4x16384x256 .f32 :=
  Host.divf e (along (Host.reduceAdd e (constant (F := Ideal) S_ .f32 0x00000000#32) reducesTo_S4x16384x256_S4x16384_d2 h_S_))

/-- and the values mixed by them, the heads side by side. -/
def joined (v : FVec Ideal S256x4x256 .f32) (p : FVec Ideal S4x16384x256 .f32) : FVec Ideal S16384x1024 .bf16 :=
  truncf .bf16 (shapeCast _ (transpose S16384x4x256 [2, 0, 1] (Host.dotGeneral dot_S256x4x256_S4x16384x256_S4x256x16384_0_2_2_1_1_0 none v p)
    transposes_S4x256x16384_S16384x4x256_2_0_1) shapeCasts_S16384x4x256_S16384x1024) bitsLt_bf16_f32

/-! ## The stages, entry by entry -/

/-- A query's row in the array of all of them. -/
abbrev row (q : Fin 16384) : Fin 16896 := Fin.castLE (by norm_num) q

/-- A head's lane of a query. -/
theorem queries_apply (Q : FVec Ideal S16896x1024 .bf16) (q : Fin 16384) (h : Fin 4) (d : Fin 256) :
    queries Q (ix3 q h d) = Q (ix2 (row q) (lane h d)) := by
  refine (shapeCast_apply _ _ (ix3 q h d) (ix2 q (lane h d)) ?_).trans
    (extractStridedSlice_apply (s := S16896x1024) (t := S16384x1024) ![0, 0] Q slices_S16896x1024_S16384x1024_0_0 (ix2 q (lane h d))
      (ix2 (row q) (lane h d)) fun a => ?_)
  · rw [Shape.rowMajor_val_two, Shape.rowMajor_val_three]
    show q.val * 1024 + (h.val * 256 + d.val) = (q.val * 4 + h.val) * 256 + d.val
    omega
  · match a with
    | 0 => exact (zero_add q.val).symm
    | 1 => exact (zero_add (lane h d).val).symm

/-- A head's lane of a memory token. -/
theorem memory_apply (K : FVec Ideal S1x256x1024 .f32) (k : Fin 256) (h : Fin 4) (d : Fin 256) : memory K (ix3 k h d) = K (ix3 0 k (lane h d)) := by
  refine shapeCast_apply _ _ (ix3 k h d) (ix3 0 k (lane h d)) ?_
  rw [Shape.rowMajor_val_three, Shape.rowMajor_val_three]
  show (0 * 256 + k.val) * 1024 + (h.val * 256 + d.val) = (k.val * 4 + h.val) * 256 + d.val
  omega

/-- A score. -/
theorem scores_apply (Q : FVec Ideal S16896x1024 .bf16) (K : FVec Ideal S1x256x1024 .f32) (h : Fin 4) (q : Fin 16384) (k : Fin 256) :
    scores (queries Q) (memory K) (ix3 h q k) = score (M := 16896) Q K h (row q) k.val := by
  unfold score
  rw [dif_pos k.isLt]
  refine congrArg (fun z : EReal => z * scale) ?_
  show FloatOps.dotGeneral _ _ _ _ _ _ = _
  have hr : dot_S16384x4x256_S256x4x256_S4x16384x256_2_2_0_0_1_1.contr.rank = 1 := rfl
  rw [Ideal.dotGeneral_apply, ← Equiv.sum_comp (contrEquiv1 dot_S16384x4x256_S256x4x256_S4x16384x256_2_2_0_0_1_1 256 hr rfl).symm]
  refine Finset.sum_congr rfl fun d _ => ?_
  have hd := contrEquiv1_symm_val dot_S16384x4x256_S256x4x256_S4x16384x256_2_2_0_0_1_1 256 hr rfl d
  refine congrArg₂ (fun a b : EReal => a * b) ((congrArg (queries Q) ?_).trans (queries_apply Q q h d)) ((congrArg (memory K) ?_).trans (memory_apply K k h d))
  · funext a; apply Fin.ext
    match a with
    | ⟨0, _⟩ => rfl
    | ⟨1, _⟩ => rfl
    | ⟨2, _⟩ => exact hd
  · funext a; apply Fin.ext
    match a with
    | ⟨0, _⟩ => rfl
    | ⟨1, _⟩ => rfl
    | ⟨2, _⟩ => exact hd

/-- A query's quantity along the memory is the query's. -/
theorem along_apply (x : FVec Ideal S4x16384 .f32) (h : Fin 4) (q : Fin 16384) (k : Fin 256) : along x (ix3 h q k) = x (ix2 h q) := by
  refine (broadcastInDim_apply _ _ _ _ (ix3 h q 0) fun a => ?_).trans (broadcastInDim_apply _ _ _ _ (ix2 h q) fun a => ?_)
  · match a with
    | 0 => rfl
    | 1 => rfl
    | 2 => rfl
  · match a with
    | 0 => rfl
    | 1 => rfl

/-- The memory's axis of the scores is the last. -/
theorem dropToken : S4x16384x256.Reduces [2] S4x16384 := by decide

/-- The number of memory tokens. -/
abbrev tokens : ℕ := S4x16384x256.size 2

/-- The index of a row with a token inserted. -/
theorem lift_eq (hR : S4x16384x256.Reduces [2] S4x16384) (h : Fin 4) (q : Fin 16384) (k : Fin 256) : hR.lift (ix2 h q) k = ix3 h q k := by
  funext a; apply Fin.ext
  match a with
  | 0 => rfl
  | 1 => rfl
  | 2 => rfl

/-- An exponential. -/
theorem exps_apply (s : FVec Ideal S4x16384x256 .f32) (h : Fin 4) (q : Fin 16384) (x : ℕ → EReal) (hx : ∀ k : Fin 256, s (ix3 h q k) = x k.val)
    (k : Fin 256) : exps s (ix3 h q k) = Ideal.exp (x k.val - Softmax.top x 256) := by
  refine congrArg₂ (fun a b : EReal => Ideal.exp (a - b)) (hx k) ((along_apply _ h q k).trans ((maximumf_apply _ _ _).trans ?_))
  rw [ReferenceIdeal.Ref.reduce_max s _ _ dropToken, broadcastInDim_scalar_apply]
  refine (congrArg₂ max ReferenceIdeal.Ref.least (congrArg₂ (fun (z : EReal) (f : Fin tokens → EReal) => Finset.univ.fold max z f)
    ReferenceIdeal.Ref.least (funext fun k => (congrArg s (lift_eq dropToken h q k)).trans (hx k)))).trans ((max_eq_right bot_le).trans ?_)
  exact ReferenceIdeal.Ref.top_eq_fold x tokens

/-- A share: the softmax's weight. -/
theorem shares_apply (s : FVec Ideal S4x16384x256 .f32) (h : Fin 4) (q : Fin 16384) (x : ℕ → EReal) (hx : ∀ k : Fin 256, s (ix3 h q k) = x k.val)
    (k : Fin 256) : shares (exps s) (ix3 h q k) = Ideal.div (Ideal.exp (x k.val - Softmax.top x 256)) (Softmax.den x 256) := by
  refine (hostDivf_apply _ _ _).trans (congrArg₂ (fun a b : EReal => Ideal.div a b) (exps_apply s h q x hx k) ((along_apply _ h q k).trans ?_))
  refine (Ideal.hostReduceAdd_single reducesTo_S4x16384x256_S4x16384_d2 dropToken (exps s) _ (ix2 h q)).trans ?_
  refine (congrArg (fun z : EReal => z + _) KernelIdeal.Step.zero_f32).trans ((zero_add _).trans ?_)
  unfold Softmax.den
  rw [Finset.sum_range]
  exact Finset.sum_congr rfl fun k _ => (congrArg (exps s) (lift_eq dropToken h q k)).trans (exps_apply s h q x hx k)

/-- The mixed values at a query and a column: head `C / 256`, lane `C % 256`. -/
theorem joined_apply (v : FVec Ideal S256x4x256 .f32) (p : FVec Ideal S4x16384x256 .f32) (q : Fin 16384) (h : Fin 4) (d : Fin 256) :
    joined v p (ix2 q (lane h d)) = ∑ k : Fin 256, v (ix3 k h d) * p (ix3 h q k) := by
  show shapeCast S16384x1024 (transpose S16384x4x256 [2, 0, 1] (Host.dotGeneral dot_S256x4x256_S4x16384x256_S4x256x16384_0_2_2_1_1_0 none v p)
    transposes_S4x256x16384_S16384x4x256_2_0_1) shapeCasts_S16384x4x256_S16384x1024 (ix2 q (lane h d)) = _
  refine (shapeCast_apply _ _ (ix2 q (lane h d)) (ix3 q h d) ?_).trans ((transpose_apply _ _ _ _ (ix3 h d q) fun a => ?_).trans ?_)
  · rw [Shape.rowMajor_val_two, Shape.rowMajor_val_three]
    show (q.val * 4 + h.val) * 256 + d.val = q.val * 1024 + (h.val * 256 + d.val)
    omega
  · match a with
    | 0 => rfl
    | 1 => rfl
    | 2 => rfl
  show FloatOps.dotGeneral _ _ _ _ _ _ = _
  have hr : dot_S256x4x256_S4x16384x256_S4x256x16384_0_2_2_1_1_0.contr.rank = 1 := rfl
  rw [Ideal.dotGeneral_apply, ← Equiv.sum_comp (contrEquiv1 dot_S256x4x256_S4x16384x256_S4x256x16384_0_2_2_1_1_0 256 hr rfl).symm]
  refine Finset.sum_congr rfl fun k _ => ?_
  have hk := contrEquiv1_symm_val dot_S256x4x256_S4x16384x256_S4x256x16384_0_2_2_1_1_0 256 hr rfl k
  refine congrArg₂ (fun a b : EReal => a * b) (congrArg v ?_) (congrArg p ?_)
  · funext a; apply Fin.ext
    match a with
    | ⟨0, _⟩ => exact hk
    | ⟨1, _⟩ => rfl
    | ⟨2, _⟩ => rfl
  · funext a; apply Fin.ext
    match a with
    | ⟨0, _⟩ => rfl
    | ⟨1, _⟩ => rfl
    | ⟨2, _⟩ => exact hk

/-- Every column is a head's lane. -/
theorem exists_lane (C : Fin 1024) : ∃ (h : Fin 4) (d : Fin 256), C = lane h d :=
  ⟨⟨C.val / 256, by omega⟩, ⟨C.val % 256, by omega⟩, Fin.ext (show C.val = C.val / 256 * 256 + C.val % 256 by omega)⟩

/-- **The reference's result is the attention**, where the prompt's queries and the memory's keys are numbers. -/
theorem result_eq (Q : FVec Ideal S16896x1024 .bf16) (K V : FVec Ideal S1x256x1024 .f32) (hQ : ∀ (q : Fin 16384) C, ∃ x : ℝ, Q (ix2 (row q) C) = x)
    (hK : ∀ k C, ∃ x : ℝ, K (ix3 0 k C) = x) :
    joined (memory V) (shares (exps (scores (queries Q) (memory K)))) = Kernel10Ideal.Cross.attention Q K V := by
  funext i
  obtain ⟨q, C, rfl⟩ : ∃ (q : Fin 16384) (C : Fin 1024), i = ix2 q C := ⟨i 0, i 1, eq_ix2 (n0 := 16384) (n1 := 1024) i⟩
  obtain ⟨h, d, rfl⟩ := exists_lane C
  refine (joined_apply _ _ q h d).trans (Eq.trans ?_ ((mixed_eq (M := 16896) (hQ q) hK V h d).trans (entry_lane (M := 16896) Q K V (row q) h d).symm))
  exact Finset.sum_congr rfl fun k _ => congrArg₂ (fun a b : EReal => a * b) (memory_apply V k h d)
    (shares_apply _ h q (score (M := 16896) Q K h (row q)) (fun k => scores_apply Q K h q k) k)

end Cert.Reference10Ideal.Cross

end

end
-- ==== Proof.FiniteQueries.lean ====
/-
  The precondition of the attention to the memory read: where `finite_queries` holds of the arrays, the prompt's queries
  and the memory's keys are numbers.
-/
module

public import proofs.«01_k».proof.Pre_finite_queries
public import proofs.«01_k».proof.Proof.Finite
public import proofs.«01_k».proof.Proof.CrossRef

@[expose] public section

noncomputable section

namespace Cert.Pre_finite_queries

open Idealize.ShloMosaic Idealize.ShloMosaic.ValueIdx
open Cert.Reference10Ideal.Cross (row)

/-- The precondition's shape facts. -/
instance facts : Facts where
  slices_S16896x1024_S16384x1024_0_0 := by decide
  bitsLt_bf16_f32 := by decide
  bcast_S_S16384x1024 := by decide
  bcast_S_S1x256x1024 := by decide

variable (Q : FVec Ideal S16896x1024 .bf16) (K V : FVec Ideal S1x256x1024 .f32)

/-- It gives finite queries, -/
theorem queries (h : (fn Q K V).1 = fun _ => 1#1) (q : Fin 16384) (C : Fin 1024) : ∃ x : ℝ, Q (ix2 (row q) C) = x := by
  obtain ⟨r, hr⟩ := Cert.Pre_finite_scores.coe_of_between (congrFun h (ix2 q C))
  refine ⟨r, Eq.trans ?_ hr⟩
  exact (extractStridedSlice_apply (s := S16896x1024) (t := S16384x1024) ![0, 0] Q Facts.slices_S16896x1024_S16384x1024_0_0 (ix2 q C)
    (ix2 (row q) C) fun a => by
      match a with
      | 0 => exact (zero_add q.val).symm
      | 1 => exact (zero_add C.val).symm).symm

/-- and finite keys. -/
theorem keys (h : (fn Q K V).2 = fun _ => 1#1) (k : Fin 256) (C : Fin 1024) : ∃ x : ℝ, K (ix3 0 k C) = x :=
  Cert.Pre_finite_scores.coe_of_between (congrFun h (ix3 0 k C))

end Cert.Pre_finite_queries

end

end
-- ==== Proof.CrossSample.lean ====
/-
  The sample's attention to its memories: 32 sequences of 16 queries each, every sequence over its own 256 memory
  tokens. The kernel takes one sequence at a grid point.
-/
module

public import proofs.«01_k».proof.Proof.Cross
public import proofs.«01_k».proof.Proof.Gen.Kernel11Ideal.Value

@[expose] public section

noncomputable section

namespace Cert.Kernel11Ideal.Cross

open Idealize.ShloMosaic Idealize.ShloMosaic.ValueIdx Idealize.ShloMosaic.TcCoe Idealize.SL.Sem
open Cert.Kernel11Ideal Cert.Kernel11Ideal.Gen Cert.Cross

/-! ## The result -/

/-- The memories of all sequences, and one sequence's. -/
abbrev Memories := (⟨3, ![32, 256, 1024]⟩ : Shape).Idx → EReal
def own (K : Memories) (b : Fin 32) : Memory := fun i => K (ix3 b (i 1) (i 2))

/-- A result row's sequence, and its row among all queries: the sample's follow the prompt's. -/
abbrev sequence (r : Fin 512) : Fin 32 := ⟨r.val / 16, by omega⟩
abbrev row (r : Fin 512) : Fin 16896 := ⟨16384 + r.val, by omega⟩

/-- The sample's attention to its memories. -/
def attention (Q : Rows 16896) (K V : Memories) : S512x1024.Idx → EReal :=
  fun i => entry Q (own K (sequence (i 0))) (own V (sequence (i 0))) (row (i 0)) (i 1)

/-! ## A sequence's tile -/

/-- The sample's tile. -/
theorem tile : Tile 16 where
  square := shapeCasts_S1x256x256_S256x256
  narrow := bitsLt_bf16_f32
  drop := reduces_S16x256_S16
  column := shapeCasts_S16_S16x1
  spread := broadcasts_S16x1_S16x256

/-- The body's result is the attention of its sequence's queries. -/
theorem out_apply (x : Vec Ideal S16x1024 .bf16) (k v : Vec Ideal S1x256x1024 .f32) (i : S16x1024.Idx) :
    out0_3 x k v i = entry (M := 16) x k v (i 0) (i 1) := by
  refine View.canon_apply_of_pieces (Val := Elt Ideal) (e := .bf16) (fun i : S16x1024.Idx => entry (M := 16) x k v (i 0) (i 1)) _ ?_ i (cover0_3 _ _ _ _ i)
  intro p hp
  rcases List.mem_cons.mp hp with rfl | hp
  · exact fun y => head_apply tile x k v 3 _ _ y
  rcases List.mem_cons.mp hp with rfl | hp
  · exact fun y => head_apply tile x k v 2 _ _ y
  rcases List.mem_cons.mp hp with rfl | hp
  · exact fun y => head_apply tile x k v 1 _ _ y
  rcases List.mem_cons.mp hp with rfl | hp
  · exact fun y => head_apply tile x k v 0 _ _ y
  exact absurd hp List.not_mem_nil

/-! ## The array -/

variable (m : (ℓ : Loc nD τ sig) → Buf (Elt Ideal) ℓ) (c : Dev nD)

/-- A point's sequence: its rows of the queries, after the prompt's 1024 tiles of 16; its memory; its rows of the result. -/
theorem index0 (t : Fin cfg0.N) : win0_0.index t 0 = 1024 + t.val ∧ win0_0.index t 1 = 0 := by
  revert t; decide +kernel
theorem index1 (t : Fin cfg0.N) : win0_1.index t 0 = t.val ∧ win0_1.index t 1 = 0 ∧ win0_1.index t 2 = 0 := by
  revert t; decide +kernel
theorem index2 (t : Fin cfg0.N) : win0_2.index t 0 = t.val ∧ win0_2.index t 1 = 0 ∧ win0_2.index t 2 = 0 := by
  revert t; decide +kernel
theorem index3 (t : Fin cfg0.N) : win0_3.index t 0 = t.val ∧ win0_3.index t 1 = 0 := by
  revert t; decide +kernel

/-- The block written back at a point is that sequence's part of the attention. -/
theorem flushed_eq (t : Fin cfg0.N) : (dats m 0 c).flushed 3 t
    = ((cfg0.win 3).blk t).view.read (Elt Ideal) (attention (m (c.tc.loc main_arg0)) (m (c.tc.loc main_arg1)) (m (c.tc.loc main_arg2))) := by
  funext i
  rw [View.read_apply, Value.flushed3 m c t]
  obtain ⟨r, j, rfl⟩ : ∃ (r : Fin 16) (j : Fin 1024), i = ix2 r j := ⟨i 0, i 1, eq_ix2 (n0 := 16) (n1 := 1024) i⟩
  have hr := r.isLt
  refine (out_apply (iblk m c 0 t) (iblk m c 1 t) (iblk m c 2 t) (ix2 r j)).trans ?_
  have ej : j = (((cfg0.win 3).blk t).view.emb (ix2 r j) : S512x1024.Idx) 1 :=
    Fin.ext (by show j.val = win0_3.index t 1 * 1024 + 1 * j.val; rw [(index3 t).2]; omega)
  refine Eq.trans (entry_congr j (fun C => ?_) (fun k C => ?_) fun k C => ?_) (congrArg (entry (M := 16896) _ _ _ _) ej)
  · unfold iblk
    rw [View.read_apply]
    refine (congrFun (V_main_arg0 m c) _).trans (congrArg (m (c.tc.loc main_arg0)) (funext fun a => Fin.ext ?_))
    match a with
    | 0 => show win0_0.index t 0 * 16 + 1 * r.val = 16384 + (win0_3.index t 0 * 16 + 1 * r.val); rw [(index0 t).1, (index3 t).1]; omega
    | 1 => show win0_0.index t 1 * 1024 + 1 * C.val = C.val; rw [(index0 t).2]; omega
  · unfold iblk
    rw [View.read_apply]
    refine (congrFun (V_main_arg1 m c) _).trans (congrArg (m (c.tc.loc main_arg1)) (funext fun a => Fin.ext ?_))
    match a with
    | 0 => show win0_1.index t 0 * 1 + 1 * 0 = (win0_3.index t 0 * 16 + 1 * r.val) / 16; rw [(index1 t).1, (index3 t).1]; omega
    | 1 => show win0_1.index t 1 * 256 + 1 * k.val = k.val; rw [(index1 t).2.1]; omega
    | 2 => show win0_1.index t 2 * 1024 + 1 * C.val = C.val; rw [(index1 t).2.2]; omega
  · unfold iblk
    rw [View.read_apply]
    refine (congrFun (V_main_arg2 m c) _).trans (congrArg (m (c.tc.loc main_arg2)) (funext fun a => Fin.ext ?_))
    match a with
    | 0 => show win0_2.index t 0 * 1 + 1 * 0 = (win0_3.index t 0 * 16 + 1 * r.val) / 16; rw [(index2 t).1, (index3 t).1]; omega
    | 1 => show win0_2.index t 1 * 256 + 1 * k.val = k.val; rw [(index2 t).2.1]; omega
    | 2 => show win0_2.index t 2 * 1024 + 1 * C.val = C.val; rw [(index2 t).2.2]; omega

/-- The sequences cover the array, so it ends holding the attention. -/
theorem final : (dats m 0 c).arrAt 3 cfg0.N = attention (m (c.tc.loc main_arg0)) (m (c.tc.loc main_arg1)) (m (c.tc.loc main_arg2)) :=
  (dats m 0 c).arrAt_eq_of_cover 3 _ (fun t _ => flushed_eq m c t) fun (i : S512x1024.Idx) => by
    have h0 : (i 0).val < 512 := (i 0).isLt
    have h1 : (i 1).val < 1024 := (i 1).isLt
    obtain ⟨t, ht⟩ : ∃ t : Fin cfg0.N, t.val = (i 0).val / 16 :=
      ⟨⟨(i 0).val / 16, lt_of_lt_of_eq (b := 32) (by omega) (show cfg0.N = 32 from N_0).symm⟩, rfl⟩
    refine ⟨t, flush0_3 t, ?_⟩
    show i ∈ ((View.whole main_v0).slice (win0_3.rect t)).set
    rw [View.set_slice_whole, Rect.mem_set_unit]
    intro a
    match a with
    | ⟨0, _⟩ => show win0_3.index t 0 * 16 ≤ (i 0).val ∧ (i 0).val < win0_3.index t 0 * 16 + 16
                rw [(index3 t).1, ht]; omega
    | ⟨1, _⟩ => show win0_3.index t 1 * 1024 ≤ (i 1).val ∧ (i 1).val < win0_3.index t 1 * 1024 + 1024
                rw [(index3 t).2]; omega

end Cert.Kernel11Ideal.Cross

end

end
-- ==== Proof.CrossSampleRef.lean ====
/-
  What the reference of the sample's attention to its memories computes, with the axis of the sequences; and its
  precondition read.
-/
module

public import proofs.«01_k».proof.Pre_finite_sample_queries
public import proofs.«01_k».proof.Proof.Finite
public import proofs.«01_k».proof.Proof.CrossRef
public import proofs.«01_k».proof.Proof.CrossSample
public import proofs.«01_k».proof.Proof.Gen.Reference11Ideal.Run

@[expose] public section

noncomputable section

namespace Cert.Reference11Ideal.Cross

open Idealize.ShloMosaic Idealize.ShloMosaic.ValueIdx
open Cert.Reference11Ideal Cert.Reference11Ideal.Gen Cert.Cross
open Cert.Kernel11Ideal.Cross (Memories own row)

/-! ## The reference's own stages -/

/-- The sample's queries by sequences and heads, -/
def queries (Q : FVec Ideal S16896x1024 .bf16) : FVec Ideal S32x16x4x256 .f32 :=
  shapeCast _ (extf .f32 (extractStridedSlice S512x1024 ![16384, 0] Q slices_S16896x1024_S512x1024_16384_0) bitsLt_bf16_f32)
    shapeCasts_S512x1024_S32x16x4x256

/-- the memories by heads, -/
def memory (K : FVec Ideal S32x256x1024 .f32) : FVec Ideal S32x256x4x256 .f32 := shapeCast _ K shapeCasts_S32x256x1024_S32x256x4x256

/-- the scores, -/
def scores (q : FVec Ideal S32x16x4x256 .f32) (k : FVec Ideal S32x256x4x256 .f32) : FVec Ideal S32x4x16x256 .f32 :=
  mulf (Host.dotGeneral dot_S32x16x4x256_S32x256x4x256_S32x4x16x256_3_3_1_1_02_02 none q k)
    (broadcastInDim S32x4x16x256 ![] bcast_S_S32x4x16x256 (constant S_ .f32 0x3D800000#32))

/-- a query's quantity along its memory, -/
abbrev along (x : FVec Ideal S32x4x16 .f32) : FVec Ideal S32x4x16x256 .f32 :=
  broadcastInDim S32x4x16x256 ![0, 1, 2, 3] bcast_S32x4x16x1_S32x4x16x256_0_1_2_3
    (broadcastInDim S32x4x16x1 ![0, 1, 2] bcast_S32x4x16_S32x4x16x1_0_1_2 x)

/-- the exponentials under each query's greatest score, -/
def exps (s : FVec Ideal S32x4x16x256 .f32) : FVec Ideal S32x4x16x256 .f32 :=
  Host.exp (subf s (along (maximumf (broadcastInDim S32x4x16 ![] bcast_S_S32x4x16 (constant (F := Ideal) S_ .f32 0xFF800000#32))
    (Host.reduce FloatOps.maximumf s (constant (F := Ideal) S_ .f32 0xFF800000#32) reducesTo_S32x4x16x256_S32x4x16_d3 h_S_))))

/-- each over its query's sum, -/
def shares (e : FVec Ideal S32x4x16x256 .f32) : FVec Ideal S32x4x16x256 .f32 :=
  Host.divf e (along (Host.reduceAdd e (constant (F := Ideal) S_ .f32 0x00000000#32) reducesTo_S32x4x16x256_S32x4x16_d3 h_S_))

/-- and the values mixed by them, the sequences one after another and the heads side by side. -/
def joined (v : FVec Ideal S32x256x4x256 .f32) (p : FVec Ideal S32x4x16x256 .f32) : FVec Ideal S512x1024 .bf16 :=
  truncf .bf16 (shapeCast _ (transpose S32x16x4x256 [0, 3, 1, 2]
    (Host.dotGeneral dot_S32x256x4x256_S32x4x16x256_S32x4x256x16_1_3_3_2_02_01 none v p)
    transposes_S32x4x256x16_S32x16x4x256_0_3_1_2) shapeCasts_S32x16x4x256_S512x1024) bitsLt_bf16_f32

/-! ## The stages, entry by entry -/

/-- The result's row of a sequence's query. -/
abbrev place (b : Fin 32) (t : Fin 16) : Fin 512 := ⟨b.val * 16 + t.val, by omega⟩

/-- A head's lane of a query. -/
theorem queries_apply (Q : FVec Ideal S16896x1024 .bf16) (b : Fin 32) (t : Fin 16) (h : Fin 4) (d : Fin 256) :
    queries Q (ix4 b t h d) = Q (ix2 (row (place b t)) (lane h d)) := by
  refine (shapeCast_apply _ _ (ix4 b t h d) (ix2 (place b t) (lane h d)) ?_).trans
    (extractStridedSlice_apply (s := S16896x1024) (t := S512x1024) ![16384, 0] Q slices_S16896x1024_S512x1024_16384_0 (ix2 (place b t) (lane h d))
      (ix2 (row (place b t)) (lane h d)) fun a => ?_)
  · rw [Shape.rowMajor_val_two, Shape.rowMajor_val_four]
    show (b.val * 16 + t.val) * 1024 + (h.val * 256 + d.val) = ((b.val * 16 + t.val) * 4 + h.val) * 256 + d.val
    omega
  · match a with
    | 0 => rfl
    | 1 => exact (zero_add (lane h d).val).symm

/-- A head's lane of a memory token. -/
theorem memory_apply (K : FVec Ideal S32x256x1024 .f32) (b : Fin 32) (k : Fin 256) (h : Fin 4) (d : Fin 256) :
    memory K (ix4 b k h d) = own K b (ix3 0 k (lane h d)) := by
  refine shapeCast_apply _ _ (ix4 b k h d) (ix3 b k (lane h d)) ?_
  rw [Shape.rowMajor_val_three, Shape.rowMajor_val_four]
  show (b.val * 256 + k.val) * 1024 + (h.val * 256 + d.val) = ((b.val * 256 + k.val) * 4 + h.val) * 256 + d.val
  omega

/-- A score. -/
theorem scores_apply (Q : FVec Ideal S16896x1024 .bf16) (K : FVec Ideal S32x256x1024 .f32) (b : Fin 32) (h : Fin 4) (t : Fin 16) (k : Fin 256) :
    scores (queries Q) (memory K) (ix4 b h t k) = score (M := 16896) Q (own K b) h (row (place b t)) k.val := by
  unfold score
  rw [dif_pos k.isLt]
  refine congrArg (fun z : EReal => z * scale) ?_
  show FloatOps.dotGeneral _ _ _ _ _ _ = _
  have hr : dot_S32x16x4x256_S32x256x4x256_S32x4x16x256_3_3_1_1_02_02.contr.rank = 1 := rfl
  rw [Ideal.dotGeneral_apply, ← Equiv.sum_comp (contrEquiv1 dot_S32x16x4x256_S32x256x4x256_S32x4x16x256_3_3_1_1_02_02 256 hr rfl).symm]
  refine Finset.sum_congr rfl fun d _ => ?_
  have hd := contrEquiv1_symm_val dot_S32x16x4x256_S32x256x4x256_S32x4x16x256_3_3_1_1_02_02 256 hr rfl d
  refine congrArg₂ (fun a b : EReal => a * b) ((congrArg (queries Q) ?_).trans (queries_apply Q b t h d))
    ((congrArg (memory K) ?_).trans (memory_apply K b k h d))
  · funext a; apply Fin.ext
    match a with
    | ⟨0, _⟩ => rfl
    | ⟨1, _⟩ => rfl
    | ⟨2, _⟩ => rfl
    | ⟨3, _⟩ => exact hd
  · funext a; apply Fin.ext
    match a with
    | ⟨0, _⟩ => rfl
    | ⟨1, _⟩ => rfl
    | ⟨2, _⟩ => rfl
    | ⟨3, _⟩ => exact hd

/-- A query's quantity along the memory is the query's. -/
theorem along_apply (x : FVec Ideal S32x4x16 .f32) (b : Fin 32) (h : Fin 4) (t : Fin 16) (k : Fin 256) : along x (ix4 b h t k) = x (ix3 b h t) := by
  refine (broadcastInDim_apply _ _ _ _ (ix4 b h t 0) fun a => ?_).trans (broadcastInDim_apply _ _ _ _ (ix3 b h t) fun a => ?_)
  · match a with
    | 0 => rfl
    | 1 => rfl
    | 2 => rfl
    | 3 => rfl
  · match a with
    | 0 => rfl
    | 1 => rfl
    | 2 => rfl

/-- The memory's axis of the scores is the last. -/
theorem dropToken : S32x4x16x256.Reduces [3] S32x4x16 := by decide

/-- The number of memory tokens. -/
abbrev tokens : ℕ := S32x4x16x256.size 3

/-- The index of a query with a token inserted. -/
theorem lift_eq (hR : S32x4x16x256.Reduces [3] S32x4x16) (b : Fin 32) (h : Fin 4) (t : Fin 16) (k : Fin 256) :
    hR.lift (ix3 b h t) k = ix4 b h t k := by
  funext a; apply Fin.ext
  match a with
  | 0 => rfl
  | 1 => rfl
  | 2 => rfl
  | 3 => rfl

section

variable (s : FVec Ideal S32x4x16x256 .f32) (b : Fin 32) (h : Fin 4) (t : Fin 16) (x : ℕ → EReal) (hx : ∀ k : Fin 256, s (ix4 b h t k) = x k.val)
include hx

/-- An exponential. -/
theorem exps_apply (k : Fin 256) : exps s (ix4 b h t k) = Ideal.exp (x k.val - Softmax.top x 256) := by
  refine congrArg₂ (fun a b : EReal => Ideal.exp (a - b)) (hx k) ((along_apply _ b h t k).trans ((maximumf_apply _ _ _).trans ?_))
  rw [ReferenceIdeal.Ref.reduce_max s _ _ dropToken, broadcastInDim_scalar_apply]
  refine (congrArg₂ max ReferenceIdeal.Ref.least (congrArg₂ (fun (z : EReal) (f : Fin tokens → EReal) => Finset.univ.fold max z f)
    ReferenceIdeal.Ref.least (funext fun k => (congrArg s (lift_eq dropToken b h t k)).trans (hx k)))).trans ((max_eq_right bot_le).trans ?_)
  exact ReferenceIdeal.Ref.top_eq_fold x tokens

/-- A share: the softmax's weight. -/
theorem shares_apply (k : Fin 256) :
    shares (exps s) (ix4 b h t k) = Ideal.div (Ideal.exp (x k.val - Softmax.top x 256)) (Softmax.den x 256) := by
  refine (hostDivf_apply _ _ _).trans (congrArg₂ (fun a b : EReal => Ideal.div a b) (exps_apply s b h t x hx k) ((along_apply _ b h t k).trans ?_))
  refine (Ideal.hostReduceAdd_single reducesTo_S32x4x16x256_S32x4x16_d3 dropToken (exps s) _ (ix3 b h t)).trans ?_
  refine (congrArg (fun z : EReal => z + _) KernelIdeal.Step.zero_f32).trans ((zero_add _).trans ?_)
  unfold Softmax.den
  rw [Finset.sum_range]
  exact Finset.sum_congr rfl fun k _ => (congrArg (exps s) (lift_eq dropToken b h t k)).trans (exps_apply s b h t x hx k)

end

/-- The mixed values at a sequence's query and a head's lane. -/
theorem joined_apply (v : FVec Ideal S32x256x4x256 .f32) (p : FVec Ideal S32x4x16x256 .f32) (b : Fin 32) (t : Fin 16) (h : Fin 4) (d : Fin 256) :
    joined v p (ix2 (place b t) (lane h d)) = ∑ k : Fin 256, v (ix4 b k h d) * p (ix4 b h t k) := by
  show shapeCast S512x1024 (transpose S32x16x4x256 [0, 3, 1, 2]
    (Host.dotGeneral dot_S32x256x4x256_S32x4x16x256_S32x4x256x16_1_3_3_2_02_01 none v p)
    transposes_S32x4x256x16_S32x16x4x256_0_3_1_2) shapeCasts_S32x16x4x256_S512x1024 (ix2 (place b t) (lane h d)) = _
  refine (shapeCast_apply _ _ (ix2 (place b t) (lane h d)) (ix4 b t h d) ?_).trans ((transpose_apply _ _ _ _ (ix4 b h d t) fun a => ?_).trans ?_)
  · rw [Shape.rowMajor_val_two, Shape.rowMajor_val_four]
    show ((b.val * 16 + t.val) * 4 + h.val) * 256 + d.val = (b.val * 16 + t.val) * 1024 + (h.val * 256 + d.val)
    omega
  · match a with
    | 0 => rfl
    | 1 => rfl
    | 2 => rfl
    | 3 => rfl
  show FloatOps.dotGeneral _ _ _ _ _ _ = _
  have hr : dot_S32x256x4x256_S32x4x16x256_S32x4x256x16_1_3_3_2_02_01.contr.rank = 1 := rfl
  rw [Ideal.dotGeneral_apply, ← Equiv.sum_comp (contrEquiv1 dot_S32x256x4x256_S32x4x16x256_S32x4x256x16_1_3_3_2_02_01 256 hr rfl).symm]
  refine Finset.sum_congr rfl fun k _ => ?_
  have hk := contrEquiv1_symm_val dot_S32x256x4x256_S32x4x16x256_S32x4x256x16_1_3_3_2_02_01 256 hr rfl k
  refine congrArg₂ (fun a b : EReal => a * b) (congrArg v ?_) (congrArg p ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

/-- Every result row is a sequence's query. -/
theorem exists_place (r : Fin 512) : ∃ (b : Fin 32) (t : Fin 16), r = place b t :=
  ⟨⟨r.val / 16, by omega⟩, ⟨r.val % 16, by omega⟩, Fin.ext (show r.val = r.val / 16 * 16 + r.val % 16 by omega)⟩

/-- Its sequence. -/
theorem sequence_place (b : Fin 32) (t : Fin 16) : Kernel11Ideal.Cross.sequence (place b t) = b :=
  Fin.ext (by have := t.isLt; show (b.val * 16 + t.val) / 16 = b.val; omega)

/-- **The reference's result is the attention**, where the sample's queries and the memories' keys are numbers. -/
theorem result_eq (Q : FVec Ideal S16896x1024 .bf16) (K V : FVec Ideal S32x256x1024 .f32) (hQ : ∀ r C, ∃ x : ℝ, Q (ix2 (row r) C) = x)
    (hK : ∀ b k C, ∃ x : ℝ, K (ix3 b k C) = x) :
    joined (memory V) (shares (exps (scores (queries Q) (memory K)))) = Kernel11Ideal.Cross.attention Q K V := by
  funext i
  obtain ⟨r, C, rfl⟩ : ∃ (r : Fin 512) (C : Fin 1024), i = ix2 r C := ⟨i 0, i 1, eq_ix2 (n0 := 512) (n1 := 1024) i⟩
  obtain ⟨h, d, rfl⟩ := Reference10Ideal.Cross.exists_lane C
  obtain ⟨b, t, rfl⟩ := exists_place r
  refine (joined_apply _ _ b t h d).trans (Eq.trans ?_ ((mixed_eq (M := 16896) (K := own K b) (hQ (place b t)) (hK b) (own V b) h d).trans ?_))
  · exact Finset.sum_congr rfl fun k _ => congrArg₂ (fun a b : EReal => a * b) (memory_apply V b k h d)
      (shares_apply _ b h t (score (M := 16896) Q (own K b) h (row (place b t))) (fun k => scores_apply Q K b h t k) k)
  · refine (entry_lane (M := 16896) Q (own K b) (own V b) (row (place b t)) h d).symm.trans ?_
    exact congrArg (fun b' => entry (M := 16896) Q (own K b') (own V b') (row (place b t)) (lane h d)) (sequence_place b t).symm

end Cert.Reference11Ideal.Cross

namespace Cert.Pre_finite_sample_queries

open Idealize.ShloMosaic Idealize.ShloMosaic.ValueIdx
open Cert.Kernel11Ideal.Cross (row)

/-- The precondition's shape facts. -/
instance facts : Facts where
  slices_S16896x1024_S512x1024_16384_0 := by decide
  bitsLt_bf16_f32 := by decide
  bcast_S_S512x1024 := by decide
  bcast_S_S32x256x1024 := by decide

variable (Q : FVec Ideal S16896x1024 .bf16) (K V : FVec Ideal S32x256x1024 .f32)

/-- It gives finite queries, -/
theorem queries (h : (fn Q K V).1 = fun _ => 1#1) (r : Fin 512) (C : Fin 1024) : ∃ x : ℝ, Q (ix2 (row r) C) = x := by
  obtain ⟨x, hx⟩ := Cert.Pre_finite_scores.coe_of_between (congrFun h (ix2 r C))
  refine ⟨x, Eq.trans ?_ hx⟩
  exact (extractStridedSlice_apply (s := S16896x1024) (t := S512x1024) ![16384, 0] Q Facts.slices_S16896x1024_S512x1024_16384_0 (ix2 r C)
    (ix2 (row r) C) fun a => by
      match a with
      | 0 => rfl
      | 1 => exact (zero_add C.val).symm).symm

/-- and finite keys. -/
theorem keys (h : (fn Q K V).2 = fun _ => 1#1) (b : Fin 32) (k : Fin 256) (C : Fin 1024) : ∃ x : ℝ, K (ix3 b k C) = x :=
  Cert.Pre_finite_scores.coe_of_between (congrFun h (ix3 b k C))

end Cert.Pre_finite_sample_queries

end

end
-- ==== Proof.Cumulate.lean ====
/-
  The cumulated gates: for a head, the sum of its gates up to a place. The kernel lays a head's gates in rows of 128, sums
  within the rows by a product with the triangle of ones, and adds the totals of the rows before by a second product. Sums
  of extended reals may be regrouped, so nothing is asked of the gates. A head has 128 rows in the prompt and 40 in a
  sequence of the sample; what is said here holds of any number of rows.
-/
module

public import proofs.«01_k».proof.Proof.Step
public import Idealize.ShloMosaic.Lib.WordCmp
public import Idealize.ShloMosaic.Lib.Pipeline.ValueKit.Tiles

@[expose] public section

noncomputable section

namespace Cert.Cumulate

open Idealize.ShloMosaic Idealize.ShloMosaic.ValueIdx

/-! ## The sum up to a place -/

/-- A place of a head: row `s`, column `k`. -/
abbrev place {n N : ℕ} (hN : n * 128 = N) (s : Fin n) (k : Fin 128) : Fin N := ⟨s.val * 128 + k.val, by omega⟩

/-- The sum of `g` up to a place. -/
def upTo {N : ℕ} (g : Fin N → EReal) (q : Fin N) : EReal := ∑ k : Fin N, if k ≤ q then g k else 0

/-- A sum over the places is the sum over the rows of the sums over their columns. -/
theorem sum_places {n N : ℕ} (hN : n * 128 = N) (f : Fin N → EReal) : ∑ q, f q = ∑ s : Fin n, ∑ k : Fin 128, f (place hN s k) := by
  rw [← Fintype.sum_prod_type (f := fun p : Fin n × Fin 128 => f (place hN p.1 p.2))]
  subst hN
  refine (Fintype.sum_equiv (finProdFinEquiv (m := n) (n := 128)) _ _ fun p => congrArg f (Fin.ext ?_)).symm
  show p.1.val * 128 + p.2.val = p.2.val + 128 * p.1.val
  omega

/-- The sum up to a place: what its row holds up to its column, and the totals of the rows before. -/
theorem upTo_place {n N : ℕ} (hN : n * 128 = N) (g : Fin N → EReal) (r : Fin n) (l : Fin 128) : upTo g (place hN r l)
    = (∑ k : Fin 128, if k ≤ l then g (place hN r k) else 0) + ∑ s : Fin n, if s < r then ∑ k : Fin 128, g (place hN s k) else 0 := by
  have row (s : Fin n) : (∑ k : Fin 128, if place hN s k ≤ place hN r l then g (place hN s k) else 0)
      = (if s = r then ∑ k : Fin 128, (if k ≤ l then g (place hN s k) else 0) else 0) + if s < r then ∑ k : Fin 128, g (place hN s k) else 0 := by
    have le (k : Fin 128) : place hN s k ≤ place hN r l ↔ s.val * 128 + k.val ≤ r.val * 128 + l.val := Iff.rfl
    rcases lt_trichotomy s r with h | h | h
    · rw [if_neg h.ne, if_pos h, zero_add]
      refine Finset.sum_congr rfl fun k _ => if_pos ((le k).2 ?_)
      have : s.val < r.val := h
      omega
    · subst h
      rw [if_pos rfl, if_neg (lt_irrefl _), add_zero]
      refine Finset.sum_congr rfl fun k _ => if_congr ((le k).trans ?_) rfl rfl
      rw [Fin.le_def]
      omega
    · rw [if_neg h.ne', if_neg (not_lt.2 h.le), add_zero]
      refine Finset.sum_eq_zero fun k _ => if_neg fun hk => ?_
      have := (le k).1 hk
      have : r.val < s.val := h
      omega
  rw [upTo, sum_places hN, Finset.sum_congr rfl fun s _ => row s, Finset.sum_add_distrib, Finset.sum_ite_eq' Finset.univ r, if_pos (Finset.mem_univ _)]

/-! ## A head -/

/-- A head's gates in their rows; one number a row; a head's rows and all heads', as the kernel holds them. -/
abbrev Flat (n : ℕ) : Shape := ⟨2, ![n, 128]⟩
abbrev Column (n : ℕ) : Shape := ⟨2, ![n, 1]⟩
abbrev Block (n : ℕ) : Shape := ⟨3, ![1, n, 128]⟩
abbrev Square (n : ℕ) : Shape := ⟨2, ![n, n]⟩

/-- Sixteen heads of `n` rows of 128: `M` rows in all, `N` gates a head, and what the shapes of the kernel's operations ask. -/
structure Rows (n M N : ℕ) : Prop where
  gates : n * 128 = N
  all : 16 * n = M
  few : n < 2 ^ 31
  flat : (Block n).ShapeCasts (Flat n)
  deep : (Flat n).ShapeCasts (Block n)
  last : (Flat n).Slices ![0, 127] (Column n)
  same : (Column n).ShapeCasts (Column n)
  spread : (Column n).Broadcasts (Flat n)
  lane0 : (Square 128).Iotas .tc 32 [0]
  lane1 : (Square 128).Iotas .tc 32 [1]
  row0 : (Square n).Iotas .tc 32 [0]
  row1 : (Square n).Iotas .tc 32 [1]
  wide : 1 < 32

/-- A word of one bit, as a number. -/
theorem bit_number (b : Bool) : FloatOps.sitofp (F := Ideal) .f32 ((BitVec.ofBool b).setWidth 32) = if b then (1 : EReal) else 0 := by
  cases b
  · show (((0#32 : BitVec 32).toInt : ℝ) : EReal) = _
    simp
  · show (((1#32 : BitVec 32).toInt : ℝ) : EReal) = _
    simp

variable {n M N : ℕ} (T : Rows n M N)
include T

/-- The triangle of ones: on the diagonal and to its right, -/
def upper : FVec Ideal (Square 128) .f32 := sitofp .f32 (extui 32 (cmpi .sle (iota .tc (Square 128) 32 [0] T.lane0) (iota .tc (Square 128) 32 [1] T.lane1)) T.wide)

theorem upper_apply (k l : Fin 128) : upper T (ix2 k l) = if k ≤ l then (1 : EReal) else 0 := by
  show FloatOps.sitofp (F := Ideal) .f32 ((IntOp.cmpi .sle (iota .tc (Square 128) 32 [0] T.lane0 (ix2 k l)) (iota .tc (Square 128) 32 [1] T.lane1 (ix2 k l))).setWidth 32) = _
  rw [iota_single_apply, iota_single_apply, WordCmp.cmpi_sle_ofNat (by show k.val < _; omega) (by show l.val < _; omega), bit_number]
  simp only [decide_eq_true_eq]
  rfl

/-- and strictly to its left. -/
def before : FVec Ideal (Square n) .f32 := sitofp .f32 (extui 32 (cmpi .slt (iota .tc (Square n) 32 [1] T.row1) (iota .tc (Square n) 32 [0] T.row0)) T.wide)

theorem before_apply (r s : Fin n) : before T (ix2 r s) = if s < r then (1 : EReal) else 0 := by
  have hn := T.few
  show FloatOps.sitofp (F := Ideal) .f32 ((IntOp.cmpi .slt (iota .tc (Square n) 32 [1] T.row1 (ix2 r s)) (iota .tc (Square n) 32 [0] T.row0 (ix2 r s))).setWidth 32) = _
  rw [iota_single_apply, iota_single_apply, WordCmp.cmpi_slt_ofNat (by show s.val < _; omega) (by show r.val < _; omega), bit_number]
  simp only [decide_eq_true_eq]
  rfl

omit T in
/-- A product, from zero. -/
theorem product_apply {K : ℕ} (A : FVec Ideal ⟨2, ![n, K]⟩ .f32) (B : FVec Ideal ⟨2, ![K, 128]⟩ .f32) (r : Fin n) (l : Fin 128) :
    matmul (DotDims.plain n K 128) (some .fp32) A B (constant (Flat n) .f32 0x00000000#32) (ix2 r l) = ∑ k : Fin K, A (ix2 r k) * B (ix2 k l) := by
  show FloatOps.matmul (DotDims.plain n K 128) _ A B _ _ = _
  rw [Ideal.matmul_plain_apply, constant_apply, KernelIdeal.Step.zero_f32, zero_add]

/-- The sums within the rows. -/
def within (x : Vec Ideal (Block n) .f32) : FVec Ideal (Flat n) .f32 :=
  matmul (DotDims.plain n 128 128) (some .fp32) (shapeCast (Flat n) x T.flat : FVec Ideal (Flat n) .f32) (upper T) (constant (Flat n) .f32 0x00000000#32)

theorem within_apply (x : Vec Ideal (Block n) .f32) (r : Fin n) (l : Fin 128) : within T x (ix2 r l) = ∑ k : Fin 128, if k ≤ l then x (ix3 0 r k) else 0 := by
  rw [within, product_apply]
  refine Finset.sum_congr rfl fun k _ => ?_
  rw [upper_apply, mul_ite, mul_one, mul_zero]
  refine if_congr Iff.rfl (shapeCast_apply _ _ (ix2 r k) (ix3 0 r k) ?_) rfl
  rw [Shape.rowMajor_val_three, Shape.rowMajor_val_two]
  show (0 * n + r.val) * 128 + k.val = r.val * 128 + k.val
  rw [zero_mul, zero_add]

/-- The rows' totals, on every column. -/
def totals (x : Vec Ideal (Block n) .f32) : FVec Ideal (Flat n) .f32 :=
  broadcastTo (Flat n) (shapeCast (Column n) (extractStridedSlice (Column n) ![0, 127] (within T x) T.last) T.same) T.spread

theorem totals_apply (x : Vec Ideal (Block n) .f32) (s : Fin n) (l : Fin 128) : totals T x (ix2 s l) = ∑ k : Fin 128, x (ix3 0 s k) := by
  refine (broadcastTo_apply _ T.spread (ix2 s l) (ix2 s (0 : Fin 1)) fun a => ?_).trans ?_
  · match a with
    | 0 =>
      show s.val = if n = 1 then 0 else s.val
      have := s.isLt
      split <;> omega
    | 1 => rfl
  refine (shapeCast_apply _ _ (ix2 s (0 : Fin 1)) (ix2 s (0 : Fin 1)) rfl).trans ?_
  refine (extractStridedSlice_apply (s := Flat n) (t := Column n) ![0, 127] (within T x) T.last (ix2 s (0 : Fin 1)) (ix2 s (127 : Fin 128)) fun a => ?_).trans ?_
  · match a with
    | 0 => exact (zero_add _).symm
    | 1 => rfl
  rw [within_apply]
  exact Finset.sum_congr rfl fun k _ => if_pos (Fin.le_def.2 (by show k.val ≤ 127; omega))

/-- A head's result. -/
def head (x : Vec Ideal (Block n) .f32) : FVec Ideal (Block n) .f32 :=
  shapeCast (Block n) (addf (within T x) (matmul (DotDims.plain n n 128) (some .fp32) (before T) (totals T x) (constant (Flat n) .f32 0x00000000#32))) T.deep

/-- It is the sum of its gates up to each place. -/
theorem head_place (x : Vec Ideal (Block n) .f32) (g : Fin N → EReal) (hg : ∀ (s : Fin n) (k : Fin 128), x (ix3 0 s k) = g (place T.gates s k)) (r : Fin n)
    (l : Fin 128) : head T x (ix3 0 r l) = upTo g (place T.gates r l) := by
  refine (shapeCast_apply _ _ (ix3 0 r l) (ix2 r l) ?_).trans ?_
  · rw [Shape.rowMajor_val_three, Shape.rowMajor_val_two]
    show r.val * 128 + l.val = (0 * n + r.val) * 128 + l.val
    rw [zero_mul, zero_add]
  rw [upTo_place]
  refine congrArg₂ (fun a b : EReal => a + b) ?_ ?_
  · rw [within_apply]
    exact Finset.sum_congr rfl fun k _ => if_congr Iff.rfl (hg r k) rfl
  · rw [product_apply]
    refine Finset.sum_congr rfl fun s _ => ?_
    rw [before_apply, totals_apply, ite_mul, one_mul, zero_mul, Finset.sum_congr rfl fun k _ => hg s k]

/-! ## All heads -/

/-- All heads' rows, one sequence's. -/
abbrev Whole (M : ℕ) : Shape := ⟨3, ![1, M, 128]⟩

/-- A row's head, and its place there. -/
def headOf (R : Fin M) : Fin 16 := ⟨R.val / n, Nat.div_lt_of_lt_mul (by have := T.all; have := R.isLt; omega)⟩
def rowOf (R : Fin M) : Fin n := ⟨R.val % n, Nat.mod_lt _ (Nat.pos_of_ne_zero fun h => by have := T.all; have := R.isLt; subst h; omega)⟩

/-- A head's row among all. -/
def rowIn (h : Fin 16) (s : Fin n) : Fin M :=
  ⟨h.val * n + s.val, lt_of_lt_of_le (Nat.add_lt_add_left s.isLt _) (by rw [← Nat.succ_mul, ← T.all]; exact Nat.mul_le_mul_right n h.isLt)⟩

theorem headOf_eq (R : Fin M) (h : Fin 16) (s : Fin n) (e : R.val = h.val * n + s.val) : headOf T R = h := Fin.ext (by
  show R.val / n = h.val
  rw [e, Nat.mul_comm, Nat.mul_add_div (Nat.lt_of_le_of_lt (Nat.zero_le _) s.isLt), Nat.div_eq_of_lt s.isLt, add_zero])
theorem rowOf_eq (R : Fin M) (h : Fin 16) (s : Fin n) (e : R.val = h.val * n + s.val) : rowOf T R = s := Fin.ext (by
  show R.val % n = s.val
  rw [e, Nat.mul_comm, Nat.mul_add_mod, Nat.mod_eq_of_lt s.isLt])

/-- All heads' sums, from their gates. -/
def sumsOf (g : Fin 16 → Fin N → EReal) (R : Fin M) (l : Fin 128) : EReal := upTo (g (headOf T R)) (place T.gates (rowOf T R) l)

theorem sumsOf_row (g : Fin 16 → Fin N → EReal) (R : Fin M) (h : Fin 16) (s : Fin n) (l : Fin 128) (e : R.val = h.val * n + s.val) :
    sumsOf T g R l = upTo (g h) (place T.gates s l) := by
  unfold sumsOf
  rw [headOf_eq T R h s e, rowOf_eq T R h s e]

/-- A head's rows lie among all. -/
theorem inside (h : Fin 16) (a : Fin 3) : (![0, h.val * n, 0] : Fin 3 → ℕ) a + (Block n).size a ≤ (Whole M).size a := by
  match a with
  | 0 => show 0 + 1 ≤ 1; omega
  | 1 => show h.val * n + n ≤ M; rw [← Nat.succ_mul, ← T.all]; exact Nat.mul_le_mul_right n h.isLt
  | 2 => show 0 + 128 ≤ 128; omega

/-- What the kernel stores for a head: the head's result at its rows. -/
def piece (x : Vec Ideal (Whole M) .f32) (h : Fin 16) : View.Piece (Elt Ideal) (Whole M) .f32 :=
  ⟨Rect.unit (s := Whole M) ![0, h.val * n, 0] (Block n).size (inside T h),
    head T (View.ld (Val := Elt Ideal) (e' := .f32) x (Rect.unit (s := Whole M) ![0, h.val * n, 0] (Block n).size (inside T h)))⟩

/-- It is the sums of that head. -/
theorem piece_apply (x : Vec Ideal (Whole M) .f32) (g : Fin 16 → Fin N → EReal) (hx : ∀ h s k, x (ix3 0 (rowIn T h s) k) = g h (place T.gates s k)) (h : Fin 16)
    (i : (Block n).Idx) : (piece T x h).2 i = sumsOf T g ((piece T x h).1.emb i 1) ((piece T x h).1.emb i 2) := by
  obtain ⟨r, l, rfl⟩ : ∃ (r : Fin n) (l : Fin 128), i = ix3 (0 : Fin 1) r l :=
    ⟨i 1, i 2, (eq_ix3 (n0 := 1) (n1 := n) (n2 := 128) i).trans (congrArg (fun a : Fin 1 => ix3 a (i 1 : Fin n) (i 2 : Fin 128)) (Subsingleton.elim _ _))⟩
  have e1 : ((piece T x h).1.emb (ix3 (0 : Fin 1) r l) 1 : Fin M).val = h.val * n + r.val :=
    show h.val * n + 1 * r.val = h.val * n + r.val by rw [one_mul]
  have e2 : ((piece T x h).1.emb (ix3 (0 : Fin 1) r l) 2 : Fin 128) = l := Fin.ext (show 0 + 1 * l.val = l.val by omega)
  refine (head_place T _ (g h) (fun s k => ?_) r l).trans ?_
  · refine (View.ld_unit_apply_of (Val := Elt Ideal) (e := .f32) x _ _ (inside T h) (ix3 (0 : Fin 1) s k) (ix3 (0 : Fin 1) (rowIn T h s) k) fun a => ?_).trans (hx h s k)
    match a with
    | 0 => rfl
    | 1 => rfl
    | 2 => exact (zero_add _).symm
  · exact (sumsOf_row T g _ h r l e1).symm.trans (congrArg (sumsOf T g _) e2.symm)

/-- The sixteen heads' pieces, the last one first. -/
def pieces (x : Vec Ideal (Whole M) .f32) : List (View.Piece (Elt Ideal) (Whole M) .f32) :=
  ([15, 14, 13, 12, 11, 10, 9, 8, 7, 6, 5, 4, 3, 2, 1, 0] : List (Fin 16)).map (piece T x)

/-- Together they leave all heads' sums wherever they cover. -/
theorem pieces_apply (x : Vec Ideal (Whole M) .f32) (g : Fin 16 → Fin N → EReal) (hx : ∀ h s k, x (ix3 0 (rowIn T h s) k) = g h (place T.gates s k))
    (i : (Whole M).Idx) (hi : ∃ p ∈ pieces T x, i ∈ p.1.set) : View.canon (pieces T x) i = sumsOf T g (i 1) (i 2) := by
  refine View.canon_apply_of_pieces (Val := Elt Ideal) (e := .f32) (fun i : (Whole M).Idx => sumsOf T g (i 1) (i 2)) _ ?_ i hi
  intro p hp
  obtain ⟨h, -, rfl⟩ := List.mem_map.1 hp
  exact fun y => piece_apply T x g hx h y

/-! ## All sequences -/

/-- The gates of `B` sequences, and one head's. -/
abbrev Gates (B N : ℕ) : Shape := ⟨3, ![B, 16, N]⟩
abbrev Lanes (B M : ℕ) : Shape := ⟨3, ![B, M, 128]⟩

omit T in
/-- A head's gates. -/
def own {B : ℕ} (G : (Gates B N).Idx → EReal) (b : Fin B) (h : Fin 16) : Fin N → EReal := fun q => G (ix3 b h q)

/-- The cumulated gates, in the kernel's rows. -/
def sums {B : ℕ} (G : (Gates B N).Idx → EReal) : (Lanes B M).Idx → EReal := fun i => sumsOf T (own G (i 0)) (i 1) (i 2)

/-- The host's reshape into rows of 128, at an index. -/
theorem lanes_apply {B : ℕ} (G : (Gates B N).Idx → EReal) (c : (Gates B N).ShapeCasts (Lanes B M)) (b : Fin B) (h : Fin 16) (R : Fin M) (s : Fin n) (k : Fin 128)
    (hR : R.val = h.val * n + s.val) : shapeCast (Lanes B M) G c (ix3 b R k) = own G b h (place T.gates s k) := by
  refine shapeCast_apply _ _ (ix3 b R k) (ix3 b h (place T.gates s k)) ?_
  rw [Shape.rowMajor_val_three, Shape.rowMajor_val_three]
  show (b.val * 16 + h.val) * N + (s.val * 128 + k.val) = (b.val * M + R.val) * 128 + k.val
  rw [hR, ← T.gates, ← T.all]
  ring

/-- A row is its head's row of its place. -/
theorem row_eq (R : Fin M) : R.val = (headOf T R).val * n + (rowOf T R).val := (Nat.div_add_mod' R.val n).symm

end Cert.Cumulate

end

end
-- ==== Proof.CumulatePrompt.lean ====
/-
  The prompt's cumulated gates: one point takes all sixteen heads, each of 128 rows of 128 gates.
-/
module

public import proofs.«01_k».proof.Proof.Cumulate
public import proofs.«01_k».proof.Proof.Gen.Kernel12Ideal.Value

@[expose] public section

noncomputable section

namespace Cert.Kernel12Ideal.Cumulate

open Idealize.ShloMosaic Idealize.ShloMosaic.ValueIdx Idealize.ShloMosaic.TcCoe Idealize.SL.Sem
open Cert.Kernel12Ideal Cert.Kernel12Ideal.Gen Cert.Cumulate

/-- The prompt's rows. -/
theorem rows : Rows 128 2048 16384 where
  gates := by norm_num
  all := by norm_num
  few := by norm_num
  flat := shapeCasts_S1x128x128_S128x128
  deep := shapeCasts_S128x128_S1x128x128
  last := slices_S128x128_o0_127_S128x1
  same := shapeCasts_S128x1_S128x1
  spread := broadcasts_S128x1_S128x128
  lane0 := iota_S128x128_d0_w32
  lane1 := iota_S128x128_d1_w32
  row0 := iota_S128x128_d0_w32
  row1 := iota_S128x128_d1_w32
  wide := natLt_1_32

/-- The body's result is the sums of its gates. -/
theorem out_apply (x : Vec Ideal S1x2048x128 .f32) (g : Fin 16 → Fin 16384 → EReal) (hx : ∀ h s k, x (ix3 0 (rowIn rows h s) k) = g h (place rows.gates s k))
    (i : S1x2048x128.Idx) : out0_1 x i = sumsOf rows g (i 1) (i 2) :=
  pieces_apply rows x g hx i (cover0_1 _ _ _ _ _ _ _ _ _ _ _ _ _ _ _ _ i)

variable (m : (ℓ : Loc nD τ sig) → Buf (Elt Ideal) ℓ) (c : Dev nD)

/-- The region finds the gates laid in rows. -/
theorem V_v0 : (V m c main_v0 : Vec Ideal S1x2048x128 .f32)
    = shapeCast S1x2048x128 (m (c.tc.loc main_arg0) : Vec Ideal S1x16x16384 .f32) shapeCasts_S1x16x16384_S1x2048x128 := by
  show StableHlo.after hostOps0 _ (Proc.devRef .tc main_v0) = _
  after_results
  rfl

/-- The one point takes everything. -/
theorem index0 (t : Fin cfg0.N) : win0_0.index t 0 = 0 ∧ win0_0.index t 1 = 0 ∧ win0_0.index t 2 = 0 := by
  revert t; decide +kernel
theorem index1 (t : Fin cfg0.N) : win0_1.index t 0 = 0 ∧ win0_1.index t 1 = 0 ∧ win0_1.index t 2 = 0 := by
  revert t; decide +kernel

/-- Its block holds the heads' gates. -/
theorem block_apply (t : Fin cfg0.N) (h : Fin 16) (s k : Fin 128) : (iblk m c 0 t : Vec Ideal S1x2048x128 .f32) (ix3 0 (rowIn rows h s) k)
    = own (B := 1) (m (c.tc.loc main_arg0)) 0 h (place rows.gates s k) := by
  unfold iblk
  rw [View.read_apply]
  refine (congrFun (V_v0 m c) _).trans (Eq.trans (congrArg _ (funext fun a => Fin.ext ?_))
    (lanes_apply rows (B := 1) _ shapeCasts_S1x16x16384_S1x2048x128 0 h (rowIn rows h s) s k rfl))
  match a with
  | 0 => show win0_0.index t 0 * 1 + 1 * 0 = 0; rw [(index0 t).1]
  | 1 => show win0_0.index t 1 * 2048 + 1 * (rowIn rows h s).val = (rowIn rows h s).val; rw [(index0 t).2.1]; omega
  | 2 => show win0_0.index t 2 * 128 + 1 * k.val = k.val; rw [(index0 t).2.2]; omega

/-- The block written back is the cumulated gates. -/
theorem flushed_eq (t : Fin cfg0.N) : (dats m 0 c).flushed 1 t
    = ((cfg0.win 1).blk t).view.read (Elt Ideal) (sums rows (B := 1) (m (c.tc.loc main_arg0))) := by
  funext i
  rw [View.read_apply, Value.flushed1 m c t]
  obtain ⟨R, l, rfl⟩ : ∃ (R : Fin 2048) (l : Fin 128), i = ix3 (0 : Fin 1) R l :=
    ⟨i 1, i 2, (eq_ix3 (n0 := 1) (n1 := 2048) (n2 := 128) i).trans (congrArg (fun a : Fin 1 => ix3 a (i 1 : Fin 2048) (i 2 : Fin 128)) (Subsingleton.elim _ _))⟩
  have e : (((cfg0.win 1).blk t).view.emb (ix3 (0 : Fin 1) R l) : S1x2048x128.Idx) = ix3 (0 : Fin 1) R l := funext fun a => Fin.ext (by
    match a with
    | 0 => show win0_1.index t 0 * 1 + 1 * 0 = 0; rw [(index1 t).1]
    | 1 => show win0_1.index t 1 * 2048 + 1 * R.val = R.val; rw [(index1 t).2.1]; omega
    | 2 => show win0_1.index t 2 * 128 + 1 * l.val = l.val; rw [(index1 t).2.2]; omega)
  refine Eq.trans (out_apply (iblk m c 0 t) (own (B := 1) (m (c.tc.loc main_arg0)) 0) (block_apply m c t) (ix3 (0 : Fin 1) R l)) ?_
  rw [e]
  exact (cast_eq _ _).symm

/-- It covers the array, so the array ends holding the cumulated gates. -/
theorem final : (dats m 0 c).arrAt 1 cfg0.N = sums rows (B := 1) (m (c.tc.loc main_arg0)) :=
  (dats m 0 c).arrAt_eq_of_cover 1 _ (fun t _ => flushed_eq m c t) fun (i : S1x2048x128.Idx) => by
    refine ⟨t0_0, flush0_1 t0_0, ?_⟩
    show i ∈ ((View.whole main_v1).slice (win0_1.rect t0_0)).set
    rw [View.set_slice_whole, Rect.mem_set_unit]
    have h0 : (i 0).val < 1 := (i 0).isLt
    have h1 : (i 1).val < 2048 := (i 1).isLt
    have h2 : (i 2).val < 128 := (i 2).isLt
    intro a
    match a with
    | ⟨0, _⟩ => show win0_1.index t0_0 0 * 1 ≤ (i 0).val ∧ (i 0).val < win0_1.index t0_0 0 * 1 + 1
                rw [(index1 t0_0).1]; omega
    | ⟨1, _⟩ => show win0_1.index t0_0 1 * 2048 ≤ (i 1).val ∧ (i 1).val < win0_1.index t0_0 1 * 2048 + 2048
                rw [(index1 t0_0).2.1]; omega
    | ⟨2, _⟩ => show win0_1.index t0_0 2 * 128 ≤ (i 2).val ∧ (i 2).val < win0_1.index t0_0 2 * 128 + 128
                rw [(index1 t0_0).2.2]; omega

end Cert.Kernel12Ideal.Cumulate

end

end
-- ==== Proof.CumulateSample.lean ====
/-
  The sample's cumulated gates: a point takes one sequence's sixteen heads, each of 40 rows of 128 gates, the cached ones
  and the new ones with zeros after them.
-/
module

public import proofs.«01_k».proof.Proof.Cumulate
public import proofs.«01_k».proof.Proof.Gen.Kernel13Ideal.Value

@[expose] public section

noncomputable section

namespace Cert.Kernel13Ideal.Cumulate

open Idealize.ShloMosaic Idealize.ShloMosaic.ValueIdx Idealize.ShloMosaic.TcCoe Idealize.SL.Sem
open Cert.Kernel13Ideal Cert.Kernel13Ideal.Gen Cert.Cumulate

/-- A sequence's rows. -/
theorem rows : Rows 40 640 5120 where
  gates := by norm_num
  all := by norm_num
  few := by norm_num
  flat := shapeCasts_S1x40x128_S40x128
  deep := shapeCasts_S40x128_S1x40x128
  last := slices_S40x128_o0_127_S40x1
  same := shapeCasts_S40x1_S40x1
  spread := broadcasts_S40x1_S40x128
  lane0 := iota_S128x128_d0_w32
  lane1 := iota_S128x128_d1_w32
  row0 := iota_S40x40_d0_w32
  row1 := iota_S40x40_d1_w32
  wide := natLt_1_32

/-- The body's result is the sums of its sequence's gates. -/
theorem out_apply (x : Vec Ideal S1x640x128 .f32) (g : Fin 16 → Fin 5120 → EReal) (hx : ∀ h s k, x (ix3 0 (rowIn rows h s) k) = g h (place rows.gates s k))
    (i : S1x640x128.Idx) : out0_1 x i = sumsOf rows g (i 1) (i 2) :=
  pieces_apply rows x g hx i (cover0_1 _ _ _ _ _ _ _ _ _ _ _ _ _ _ _ _ i)

variable (m : (ℓ : Loc nD τ sig) → Buf (Elt Ideal) ℓ) (c : Dev nD)

/-- The region finds every sequence's gates laid in rows. -/
theorem V_v0 : (V m c main_v0 : Vec Ideal S32x640x128 .f32)
    = shapeCast S32x640x128 (m (c.tc.loc main_arg0) : Vec Ideal S32x16x5120 .f32) shapeCasts_S32x16x5120_S32x640x128 := by
  show StableHlo.after hostOps0 _ (Proc.devRef .tc main_v0) = _
  after_results
  rfl

/-- A point's sequence, in the gates and in the result. -/
abbrev sequence (t : Fin cfg0.N) : Fin 32 := ⟨t.val, lt_of_lt_of_eq t.isLt (show cfg0.N = 32 from N_0)⟩
theorem index0 (t : Fin cfg0.N) : win0_0.index t 0 = t.val ∧ win0_0.index t 1 = 0 ∧ win0_0.index t 2 = 0 := by
  revert t; decide +kernel
theorem index1 (t : Fin cfg0.N) : win0_1.index t 0 = t.val ∧ win0_1.index t 1 = 0 ∧ win0_1.index t 2 = 0 := by
  revert t; decide +kernel

/-- A point's block holds its sequence's gates. -/
theorem block_apply (t : Fin cfg0.N) (h : Fin 16) (s : Fin 40) (k : Fin 128) : (iblk m c 0 t : Vec Ideal S1x640x128 .f32) (ix3 0 (rowIn rows h s) k)
    = own (B := 32) (m (c.tc.loc main_arg0)) (sequence t) h (place rows.gates s k) := by
  unfold iblk
  rw [View.read_apply]
  refine (congrFun (V_v0 m c) _).trans (Eq.trans (congrArg _ (funext fun a => Fin.ext ?_))
    (lanes_apply rows (B := 32) _ shapeCasts_S32x16x5120_S32x640x128 (sequence t) h (rowIn rows h s) s k rfl))
  match a with
  | 0 => show win0_0.index t 0 * 1 + 1 * 0 = t.val; rw [(index0 t).1]; omega
  | 1 => show win0_0.index t 1 * 640 + 1 * (rowIn rows h s).val = (rowIn rows h s).val; rw [(index0 t).2.1]; omega
  | 2 => show win0_0.index t 2 * 128 + 1 * k.val = k.val; rw [(index0 t).2.2]; omega

/-- The block written back at a point is its sequence's cumulated gates. -/
theorem flushed_eq (t : Fin cfg0.N) : (dats m 0 c).flushed 1 t
    = ((cfg0.win 1).blk t).view.read (Elt Ideal) (sums rows (B := 32) (m (c.tc.loc main_arg0))) := by
  funext i
  rw [View.read_apply, Value.flushed1 m c t]
  obtain ⟨R, l, rfl⟩ : ∃ (R : Fin 640) (l : Fin 128), i = ix3 (0 : Fin 1) R l :=
    ⟨i 1, i 2, (eq_ix3 (n0 := 1) (n1 := 640) (n2 := 128) i).trans (congrArg (fun a : Fin 1 => ix3 a (i 1 : Fin 640) (i 2 : Fin 128)) (Subsingleton.elim _ _))⟩
  have e : (((cfg0.win 1).blk t).view.emb (ix3 (0 : Fin 1) R l) : S32x640x128.Idx) = ix3 (sequence t) R l := funext fun a => Fin.ext (by
    match a with
    | 0 => show win0_1.index t 0 * 1 + 1 * 0 = t.val; rw [(index1 t).1]; omega
    | 1 => show win0_1.index t 1 * 640 + 1 * R.val = R.val; rw [(index1 t).2.1]; omega
    | 2 => show win0_1.index t 2 * 128 + 1 * l.val = l.val; rw [(index1 t).2.2]; omega)
  refine Eq.trans (out_apply (iblk m c 0 t) (own (B := 32) (m (c.tc.loc main_arg0)) (sequence t)) (block_apply m c t) (ix3 (0 : Fin 1) R l)) ?_
  rw [e]
  exact (cast_eq _ _).symm

/-- The sequences cover the array, so it ends holding the cumulated gates. -/
theorem final : (dats m 0 c).arrAt 1 cfg0.N = sums rows (B := 32) (m (c.tc.loc main_arg0)) :=
  (dats m 0 c).arrAt_eq_of_cover 1 _ (fun t _ => flushed_eq m c t) fun (i : S32x640x128.Idx) => by
    have h0 : (i 0).val < 32 := (i 0).isLt
    have h1 : (i 1).val < 640 := (i 1).isLt
    have h2 : (i 2).val < 128 := (i 2).isLt
    obtain ⟨t, ht⟩ : ∃ t : Fin cfg0.N, t.val = (i 0).val := ⟨⟨(i 0).val, lt_of_lt_of_eq h0 (show cfg0.N = 32 from N_0).symm⟩, rfl⟩
    refine ⟨t, flush0_1 t, ?_⟩
    show i ∈ ((View.whole main_v1).slice (win0_1.rect t)).set
    rw [View.set_slice_whole, Rect.mem_set_unit]
    intro a
    match a with
    | ⟨0, _⟩ => show win0_1.index t 0 * 1 ≤ (i 0).val ∧ (i 0).val < win0_1.index t 0 * 1 + 1
                rw [(index1 t).1, ht]; omega
    | ⟨1, _⟩ => show win0_1.index t 1 * 640 ≤ (i 1).val ∧ (i 1).val < win0_1.index t 1 * 640 + 640
                rw [(index1 t).2.1]; omega
    | ⟨2, _⟩ => show win0_1.index t 2 * 128 ≤ (i 2).val ∧ (i 2).val < win0_1.index t 2 * 128 + 128
                rw [(index1 t).2.2]; omega

end Cert.Kernel13Ideal.Cumulate

end

end
-- ==== Proof.CumulateRef.lean ====
/-
  What the references of the cumulated gates compute, the prompt's and the sample's. The host's cumulated sum slides a window as long as the axis over
  the gates, with one place less of zeros put before them; what lies in the window is the gates up to the place.
-/
module

public import proofs.«01_k».proof.Proof.CumulatePrompt
public import proofs.«01_k».proof.Proof.CumulateSample
public import proofs.«01_k».proof.Proof.Gen.Reference12Ideal.Run
public import proofs.«01_k».proof.Proof.Gen.Reference13Ideal.Run

@[expose] public section

noncomputable section

namespace Cert.Cumulate

open Idealize.ShloMosaic Idealize.ShloMosaic.ValueIdx

/-! ## A window's sum -/

/-- Adding one term after another is adding their sum. -/
theorem fold_add {ι : Type} (f : ι → EReal) (L : List ι) (v : EReal) : L.foldl (fun a n => a + f n) v = v + (L.map f).sum := by
  induction L generalizing v with
  | nil => exact (add_zero v).symm
  | cons n L ih => rw [List.foldl_cons, ih, List.map_cons, List.sum_cons, add_assoc]

/-- A window along the last axis has one index for each place. -/
def places (N : ℕ) : (⟨3, ![1, 1, N]⟩ : Shape).Idx ≃ Fin N where
  toFun w := w 2
  invFun k := ix3 (0 : Fin 1) (0 : Fin 1) k
  left_inv w := by
    refine Eq.trans ?_ (eq_ix3 (n0 := 1) (n1 := 1) (n2 := N) w).symm
    exact congrArg₂ (fun a b : Fin 1 => ix3 a b (w 2 : Fin N)) (Subsingleton.elim _ _) (Subsingleton.elim _ _)
  right_inv _ := rfl

/-- The window that ends at `q`, its `n`-th place holding the gate `q + n - M`, sums the gates up to `q`. -/
theorem slide {N M : ℕ} (hM : M + 1 = N) (g : Fin N → EReal) (q : Fin N) :
    (∑ n : Fin N, if h : M ≤ q.val + n.val ∧ q.val + n.val - M < N then g ⟨q.val + n.val - M, h.2⟩ else 0) = ∑ k : Fin N, if k ≤ q then g k else 0 := by
  have hq := q.isLt
  rw [← Finset.sum_filter, ← Finset.sum_filter_of_ne (p := fun n : Fin N => M ≤ q.val + n.val)]
  · refine Finset.sum_bij' (fun n _ => (⟨(q.val + n.val - M) % N, Nat.mod_lt _ (by omega)⟩ : Fin N))
      (fun k _ => (⟨(k.val + M - q.val) % N, Nat.mod_lt _ (by omega)⟩ : Fin N)) ?_ ?_ ?_ ?_ ?_
    · intro n hn
      have hn := (Finset.mem_filter.1 hn).2
      have := n.isLt
      refine Finset.mem_filter.2 ⟨Finset.mem_univ _, ?_⟩
      rw [Fin.le_def]
      show (q.val + n.val - M) % N ≤ q.val
      rw [Nat.mod_eq_of_lt (by omega)]
      omega
    · intro k hk
      have hk : k.val ≤ q.val := Fin.le_def.1 (Finset.mem_filter.1 hk).2
      refine Finset.mem_filter.2 ⟨Finset.mem_univ _, ?_⟩
      show M ≤ q.val + (k.val + M - q.val) % N
      rw [Nat.mod_eq_of_lt (by omega)]
      omega
    · intro n hn
      have hn := (Finset.mem_filter.1 hn).2
      have := n.isLt
      refine Fin.ext ?_
      show ((q.val + n.val - M) % N + M - q.val) % N = n.val
      rw [Nat.mod_eq_of_lt (a := q.val + n.val - M) (by omega), Nat.mod_eq_of_lt (by omega)]
      omega
    · intro k hk
      have hk : k.val ≤ q.val := Fin.le_def.1 (Finset.mem_filter.1 hk).2
      refine Fin.ext ?_
      show (q.val + (k.val + M - q.val) % N - M) % N = k.val
      rw [Nat.mod_eq_of_lt (a := k.val + M - q.val) (by omega), Nat.mod_eq_of_lt (by omega)]
      omega
    · intro n hn
      have hn := (Finset.mem_filter.1 hn).2
      have := n.isLt
      rw [dif_pos ⟨hn, by omega⟩]
      refine congrArg g (Fin.ext ?_)
      exact (Nat.mod_eq_of_lt (by omega)).symm
  · intro n _ hn
    by_contra hc
    exact hn (dif_neg fun h => hc h.1)

/-- A coordinate of a window's index, by its number. -/
abbrev coordinate (N : ℕ) (n : Fin (⟨3, ![1, 1, N]⟩ : Shape).numel) (a : Fin 3) : ℕ := ((⟨3, ![1, 1, N]⟩ : Shape).rowMajor.symm n a).val

/-- The host's cumulated sum along the last axis, at an index. -/
theorem cumulated {B H N M : ℕ} (hM : M + 1 = N) (x : (⟨3, ![B, H, N]⟩ : Shape).Idx → EReal) (v : (⟨0, ![]⟩ : Shape).Idx → EReal)
    (hu : 0 < (⟨0, ![]⟩ : Shape).numel) (hv : v (Shape.Idx.first hu) = 0)
    (hw : (⟨3, ![B, H, N]⟩ : Shape).ReduceWindows (![1, 1, N] : Fin 3 → ℕ) ![1, 1, 1] ![0, 0, M] ![0, 0, 0] ⟨3, ![B, H, N]⟩) (b : Fin B) (j : Fin H) (q : Fin N) :
    Host.reduceWindow (· + ·) (![1, 1, N] : Fin 3 → ℕ) ![1, 1, 1] ![0, 0, M] ![0, 0, 0] x v hw hu (ix3 b j q)
      = ∑ k : Fin N, if k ≤ q then x (ix3 b j k) else 0 := by
  have hb := b.isLt
  have hj := j.isLt
  unfold Host.reduceWindow
  refine (fold_add _ _ _).trans ?_
  rw [hv, zero_add, ← Fin.sum_univ_def, ← slide hM (fun k => x (ix3 b j k)) q]
  refine Fintype.sum_equiv ((⟨3, ![1, 1, N]⟩ : Shape).rowMajor.symm.trans (places N)) _ _ fun n => ?_
  show _ = if h : M ≤ q.val + coordinate N n 2 ∧ q.val + coordinate N n 2 - M < N then x (ix3 b j ⟨q.val + coordinate N n 2 - M, h.2⟩) else 0
  have w0 : coordinate N n 0 = 0 := Nat.lt_one_iff.1 ((⟨3, ![1, 1, N]⟩ : Shape).rowMajor.symm n 0).isLt
  have w1 : coordinate N n 1 = 0 := Nat.lt_one_iff.1 ((⟨3, ![1, 1, N]⟩ : Shape).rowMajor.symm n 1).isLt
  by_cases h : M ≤ q.val + coordinate N n 2 ∧ q.val + coordinate N n 2 - M < N
  · rw [dif_pos h, dif_pos fun a => ?_]
    · refine congrArg x (funext fun a => Fin.ext ?_)
      match a with
      | 0 => show b.val * 1 + coordinate N n 0 - 0 = b.val; omega
      | 1 => show j.val * 1 + coordinate N n 1 - 0 = j.val; omega
      | 2 => show q.val * 1 + coordinate N n 2 - M = q.val + coordinate N n 2 - M; omega
    · match a with
      | 0 => show 0 ≤ b.val * 1 + coordinate N n 0 ∧ b.val * 1 + coordinate N n 0 - 0 < B; omega
      | 1 => show 0 ≤ j.val * 1 + coordinate N n 1 ∧ j.val * 1 + coordinate N n 1 - 0 < H; omega
      | 2 => show M ≤ q.val * 1 + coordinate N n 2 ∧ q.val * 1 + coordinate N n 2 - M < N; omega
  · rw [dif_neg h, dif_neg fun hc => h ?_]
    have h2 : M ≤ q.val * 1 + coordinate N n 2 ∧ q.val * 1 + coordinate N n 2 - M < N := hc 2
    omega

/-- The host's cumulated sum of extended reals, from zero. -/
theorem host_cumulated {B H N M : ℕ} (hM : M + 1 = N) (x : FVec Ideal ⟨3, ![B, H, N]⟩ .f32) (v : FVec Ideal ⟨0, ![]⟩ .f32)
    (hu : 0 < (⟨0, ![]⟩ : Shape).numel) (hv : v (Shape.Idx.first hu) = (0 : EReal))
    (hw : (⟨3, ![B, H, N]⟩ : Shape).ReduceWindows (![1, 1, N] : Fin 3 → ℕ) ![1, 1, 1] ![0, 0, M] ![0, 0, 0] ⟨3, ![B, H, N]⟩) (b : Fin B) (j : Fin H) (q : Fin N) :
    Host.reduceWindowAdd (![1, 1, N] : Fin 3 → ℕ) ![1, 1, 1] ![0, 0, M] ![0, 0, 0] x v hw hu (ix3 b j q)
      = ∑ k : Fin N, if k ≤ q then x (ix3 b j k) else (0 : EReal) :=
  cumulated hM x (fun _ => v (Shape.Idx.first hu)) (by decide) hv hw b j q

/-- The cumulated sums laid in rows are the cumulated gates. -/
theorem lanes_eq {n M N B : ℕ} (T : Rows n M N) (G C : (Gates B N).Idx → EReal) (hC : ∀ b h q, C (ix3 b h q) = upTo (own G b h) q)
    (c : (Gates B N).ShapeCasts (Lanes B M)) : shapeCast (Lanes B M) C c = sums T G := by
  funext i
  obtain ⟨b, R, l, rfl⟩ : ∃ (b : Fin B) (R : Fin M) (l : Fin 128), i = ix3 b R l := ⟨i 0, i 1, i 2, eq_ix3 (n0 := B) (n1 := M) (n2 := 128) i⟩
  exact (lanes_apply T C c b (headOf T R) R (rowOf T R) l (row_eq T R)).trans (hC b _ _)

end Cert.Cumulate

/-! ## The prompt's -/

namespace Cert.Reference12Ideal.Cumulate

open Idealize.ShloMosaic Idealize.ShloMosaic.ValueIdx
open Cert.Reference12Ideal Cert.Reference12Ideal.Gen Cert.Cumulate

/-- The prompt's cumulated gates, by heads. -/
def cumulate (G : FVec Ideal S1x16x16384 .f32) : FVec Ideal S1x16x16384 .f32 :=
  Host.reduceWindowAdd ![1, 1, 16384] ![1, 1, 1] ![0, 0, 16383] ![0, 0, 0] G (broadcastInDim S_ ![] bcast_S_S_ (constant S_ .f32 0x00000000#32))
    reduceWindows_S1x16x16384_S1x16x16384_w1s1p0_0_w1s1p0_0_w16384s1p16383_0 h_S_

theorem cumulate_apply (G : FVec Ideal S1x16x16384 .f32) (b : Fin 1) (h : Fin 16) (q : Fin 16384) : cumulate G (ix3 b h q) = upTo (own G b h) q := by
  unfold cumulate upTo own
  exact host_cumulated (B := 1) (H := 16) (N := 16384) (M := 16383) (by norm_num) G _ h_S_ KernelIdeal.Step.zero_f32
    reduceWindows_S1x16x16384_S1x16x16384_w1s1p0_0_w1s1p0_0_w16384s1p16383_0 b h q

/-- The reference's result is the prompt's cumulated gates. -/
theorem result_eq (G : FVec Ideal S1x16x16384 .f32) :
    shapeCast S1x2048x128 (cumulate G) shapeCasts_S1x16x16384_S1x2048x128 = sums Cert.Kernel12Ideal.Cumulate.rows (B := 1) G :=
  lanes_eq Cert.Kernel12Ideal.Cumulate.rows G (cumulate G) (cumulate_apply G) _

end Cert.Reference12Ideal.Cumulate

/-! ## The sample's -/

namespace Cert.Reference13Ideal.Cumulate

open Idealize.ShloMosaic Idealize.ShloMosaic.ValueIdx
open Cert.Reference13Ideal Cert.Reference13Ideal.Gen Cert.Cumulate

/-- The sample's cumulated gates, by sequences and heads. -/
def cumulate (G : FVec Ideal S32x16x5120 .f32) : FVec Ideal S32x16x5120 .f32 :=
  Host.reduceWindowAdd ![1, 1, 5120] ![1, 1, 1] ![0, 0, 5119] ![0, 0, 0] G (broadcastInDim S_ ![] bcast_S_S_ (constant S_ .f32 0x00000000#32))
    reduceWindows_S32x16x5120_S32x16x5120_w1s1p0_0_w1s1p0_0_w5120s1p5119_0 h_S_

theorem cumulate_apply (G : FVec Ideal S32x16x5120 .f32) (b : Fin 32) (h : Fin 16) (q : Fin 5120) : cumulate G (ix3 b h q) = upTo (own G b h) q := by
  unfold cumulate upTo own
  exact host_cumulated (B := 32) (H := 16) (N := 5120) (M := 5119) (by norm_num) G _ h_S_ KernelIdeal.Step.zero_f32
    reduceWindows_S32x16x5120_S32x16x5120_w1s1p0_0_w1s1p0_0_w5120s1p5119_0 b h q

/-- The reference's result is the sample's cumulated gates. -/
theorem result_eq (G : FVec Ideal S32x16x5120 .f32) :
    shapeCast S32x640x128 (cumulate G) shapeCasts_S32x16x5120_S32x640x128 = sums Cert.Kernel13Ideal.Cumulate.rows (B := 32) G :=
  lanes_eq Cert.Kernel13Ideal.Cumulate.rows G (cumulate G) (cumulate_apply G) _

end Cert.Reference13Ideal.Cumulate

end

end
-- ==== Proof.Experts.lean ====
/-
  A mixture of gated units and the norm after it, as functions of numbers. A token's row is multiplied by an expert's two
  first matrices, gated, multiplied by its third; the experts' rows are summed with the token's weights, the token's own
  row is added, and the sum is normalized. Taking the hidden axis in two halves gives the same sum of the weighted rows,
  provided that no weight is negative or infinite.
-/
module

public import Idealize.ShloMosaic.PureOps.Ideal.Laws
public import Idealize.ShloMosaic.Lib.IdealHost

@[expose] public section

noncomputable section

namespace Cert.Experts

open Idealize.ShloMosaic Idealize.ShloMosaic.ValueIdx

/-- An array of rank three read at natural numbers (zero outside it). -/
def at3 {n0 n1 n2 : ℕ} (W : (⟨3, ![n0, n1, n2]⟩ : Shape).Idx → EReal) (a b c : ℕ) : EReal :=
  if h : a < n0 ∧ b < n1 ∧ c < n2 then W (ix3 ⟨a, h.1⟩ ⟨b, h.2.1⟩ ⟨c, h.2.2⟩) else 0

/-- An array of rank two read at natural numbers. -/
def at2 {n0 n1 : ℕ} (W : (⟨2, ![n0, n1]⟩ : Shape).Idx → EReal) (a b : ℕ) : EReal :=
  if h : a < n0 ∧ b < n1 then W (ix2 ⟨a, h.1⟩ ⟨b, h.2⟩) else 0

/-- An array of rank one read at a natural number. -/
def at1 {n0 : ℕ} (W : (⟨1, ![n0]⟩ : Shape).Idx → EReal) (a : ℕ) : EReal := if h : a < n0 then W (ix1 ⟨a, h⟩) else 0

theorem at3_of {n0 n1 n2 : ℕ} (W : (⟨3, ![n0, n1, n2]⟩ : Shape).Idx → EReal) {a b c : ℕ} (ha : a < n0) (hb : b < n1) (hc : c < n2) :
    at3 W a b c = W (ix3 ⟨a, ha⟩ ⟨b, hb⟩ ⟨c, hc⟩) := dif_pos ⟨ha, hb, hc⟩

theorem at2_of {n0 n1 : ℕ} (W : (⟨2, ![n0, n1]⟩ : Shape).Idx → EReal) {a b : ℕ} (ha : a < n0) (hb : b < n1) :
    at2 W a b = W (ix2 ⟨a, ha⟩ ⟨b, hb⟩) := dif_pos ⟨ha, hb⟩

theorem at1_of {n0 : ℕ} (W : (⟨1, ![n0]⟩ : Shape).Idx → EReal) {a : ℕ} (ha : a < n0) : at1 W a = W (ix1 ⟨a, ha⟩) := dif_pos ha

/-- The gate's nonlinearity: a number times its logistic. -/
def silu (h : EReal) : EReal := h * Ideal.div 1 (1 + Ideal.exp (-h))

/-- Hidden unit `f` of expert `e` for token `t`. -/
def unit (x : ℕ → ℕ → EReal) (w1 w3 : ℕ → ℕ → ℕ → EReal) (t e f : ℕ) : EReal :=
  silu (∑ d : Fin 1024, x t d * w1 e d f) * ∑ d : Fin 1024, x t d * w3 e d f

variable (x : ℕ → ℕ → EReal) (w1 w3 w2 : ℕ → ℕ → ℕ → EReal)

/-- What half `b` of an expert's hidden units gives a token, at column `j`, -/
def half (t j e b : ℕ) : EReal := ∑ f : Fin 1408, unit x w1 w3 t e (b * 1408 + f) * w2 e (b * 1408 + f) j

/-- and all of them. -/
def whole (t j e : ℕ) : EReal := ∑ f : Fin 2816, unit x w1 w3 t e f * w2 e f j

/-- A sum cut in two. -/
theorem sum_cut (F : ℕ → EReal) (n m : ℕ) : ∀ k : ℕ, k = n + m →
    ∑ f : Fin k, F f = (∑ f : Fin n, F f) + ∑ f : Fin m, F (n + f) := by
  rintro _ rfl
  exact Fin.sum_univ_add fun f : Fin (n + m) => F f

/-- An expert's row is the sum of the two halves'. -/
theorem whole_eq (t j e : ℕ) : whole x w1 w3 w2 t j e = half x w1 w3 w2 t j e 0 + half x w1 w3 w2 t j e 1 := by
  unfold whole half
  simp only [zero_mul, zero_add, one_mul]
  exact sum_cut (fun f => unit x w1 w3 t e f * w2 e f j) 1408 1408 2816 (by norm_num)

/-- The weighted sum over the halves of the experts, one after the other, is the weighted sum over the experts. -/
theorem mix_eq (c : ℕ → EReal) (t j : ℕ) (E : ℕ) (hc : ∀ e < E, 0 ≤ c e ∧ c e ≠ ⊤) :
    ∑ n ∈ Finset.range (2 * E), c (n / 2) * half x w1 w3 w2 t j (n / 2) (n % 2)
      = ∑ e ∈ Finset.range E, c e * whole x w1 w3 w2 t j e := by
  induction E with
  | zero => rw [Nat.mul_zero, Finset.sum_range_zero, Finset.sum_range_zero]
  | succ E ih =>
    rw [show 2 * (E + 1) = 2 * E + 1 + 1 by ring, Finset.sum_range_succ, Finset.sum_range_succ, Finset.sum_range_succ,
      ih fun e he => hc e (by omega), show 2 * E / 2 = E by omega, show 2 * E % 2 = 0 by omega, show (2 * E + 1) / 2 = E by omega,
      show (2 * E + 1) % 2 = 1 by omega, whole_eq, add_assoc,
      EReal.left_distrib_of_nonneg_of_ne_top (hc E (by omega)).1 (hc E (by omega)).2]

/-- The mean of a row. -/
def mean (z : ℕ → EReal) : EReal := Ideal.div (∑ j : Fin 1024, z j) (Ideal.ofBits .f32 0x44800000#32)

theorem mean_congr {z z' : ℕ → EReal} (h : ∀ j < 1024, z j = z' j) : mean z = mean z' :=
  congrArg (fun s => Ideal.div s (Ideal.ofBits .f32 0x44800000#32)) (Finset.sum_congr rfl fun j _ => h j.val j.isLt)

/-- The norm of a row: its distance from its mean, over the root of their mean square, scaled and shifted. -/
def norm (z g b : ℕ → EReal) (j : ℕ) : EReal :=
  (z j - mean z) * Ideal.rsqrt (mean (fun k => (z k - mean z) * (z k - mean z)) + Ideal.ofBits .f32 0x3727C5AC#32) * g j + b j

/-- The norm of a row depends on the row's entries alone. -/
theorem norm_congr {z z' : ℕ → EReal} (g b : ℕ → EReal) (h : ∀ j < 1024, z j = z' j) {j : ℕ} (hj : j < 1024) :
    norm z g b j = norm z' g b j := by
  have hm : mean z = mean z' := mean_congr h
  unfold norm
  rw [hm, h j hj, mean_congr (z := fun k => (z k - mean z') * (z k - mean z')) (z' := fun k => (z' k - mean z') * (z' k - mean z'))
    fun k hk => congrArg (fun y => (y - mean z') * (y - mean z')) (h k hk)]

/-- The row that is normalized: the token's own, scaled, and the experts' sum. -/
def row (own : ℕ → ℕ → EReal) (sub : ℕ → EReal) (t j : ℕ) : EReal := Ideal.ofBits .f32 0x3FB504F3#32 * own t j + sub j

/-- The layer with the hidden axis in halves, -/
def halved (E : ℕ) (c : ℕ → ℕ → EReal) (g b : ℕ → EReal) (t j : ℕ) : EReal :=
  norm (row x (fun j => ∑ n ∈ Finset.range (2 * E), c (n / 2) t * half x w1 w3 w2 t j (n / 2) (n % 2)) t) g b j

/-- and with the hidden axis whole. -/
def plain (E : ℕ) (c : ℕ → ℕ → EReal) (g b : ℕ → EReal) (t j : ℕ) : EReal :=
  norm (row x (fun j => ∑ e ∈ Finset.range E, c e t * whole x w1 w3 w2 t j e) t) g b j

/-- The two are equal when no weight is negative or infinite. -/
theorem halved_eq (E : ℕ) (c : ℕ → ℕ → EReal) (g b : ℕ → EReal) (t j : ℕ) (hc : ∀ e < E, 0 ≤ c e t ∧ c e t ≠ ⊤) :
    halved x w1 w3 w2 E c g b t j = plain x w1 w3 w2 E c g b t j := by
  unfold halved plain
  rw [show (fun j => ∑ n ∈ Finset.range (2 * E), c (n / 2) t * half x w1 w3 w2 t j (n / 2) (n % 2))
    = fun j => ∑ e ∈ Finset.range E, c e t * whole x w1 w3 w2 t j e from
      funext fun j => mix_eq x w1 w3 w2 (fun e => c e t) t j E hc]

end Cert.Experts
-- ==== Proof.Tile.lean ====
/-
  One tile of 512 tokens met by half of an expert's hidden units: what is added to the tile's running sum, what the sum
  becomes when it is normalized, and which of the two a grid point does. Each is read at an index over the extended reals.
-/
module

public import proofs.«01_k».proof.Proof.Experts
public import proofs.«01_k».proof.Proof.Gen.Kernel2Ideal.Frame
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost

@[expose] public section

noncomputable section

namespace Cert.Kernel2Ideal.Tile

open Idealize.ShloMosaic Idealize.ShloMosaic.ValueIdx Idealize.ShloMosaic.TcCoe Idealize.ShloMosaic.Tactic
open Cert.Kernel2Ideal Cert.Kernel2Ideal.Gen

/-- The word of zero is zero. -/
theorem zero_f32 : Ideal.ofBits .f32 0x00000000#32 = (0 : EReal) := Ideal.ofBits_zero_f32

/-- The word of one is one. -/
theorem one_f32 : Ideal.ofBits .f32 0x3F800000#32 = (1 : EReal) := Ideal.ofBits_one_f32

/-- A tile of tokens times one of the expert's first two matrices, at an index. -/
theorem first_apply (x : FVec Ideal S512x1024 .bf16) (w : Vec Ideal S1x1024x1408 .bf16) (r : Fin 512) (f : Fin 1408) :
    (matmul dot_S512x1024_S1024x1408_S512x1408_1_0_0_1_n_n none x (shapeCast S1024x1408 w shapeCasts_S1x1024x1408_S1024x1408 : FVec Ideal S1024x1408 .bf16)
      (constant S512x1408 .f32 0x00000000#32) : FVec Ideal S512x1408 .f32) (ix2 r f) = ∑ d : Fin 1024, x (ix2 r d) * w (ix3 0 d f) := by
  show FloatOps.matmul (DotDims.plain 512 1024 1408) none x _ _ (ix2 r f) = _
  rw [Ideal.matmul_plain_apply, constant_apply]
  refine (congrArg (· + _) zero_f32).trans ((zero_add _).trans (Finset.sum_congr rfl fun d _ => ?_))
  exact congrArg (fun y : EReal => x (ix2 r d) * y) (shapeCast_1ab_ab_apply (a := 1024) (b := 1408) w _ d f)

/-- The hidden units times the expert's third matrix, at an index. -/
theorem second_apply (x : FVec Ideal S512x1408 .bf16) (w : Vec Ideal S1x1408x1024 .bf16) (r : Fin 512) (j : Fin 1024) :
    (matmul dot_S512x1408_S1408x1024_S512x1024_1_0_0_1_n_n none x (shapeCast S1408x1024 w shapeCasts_S1x1408x1024_S1408x1024 : FVec Ideal S1408x1024 .bf16)
      (constant S512x1024 .f32 0x00000000#32) : FVec Ideal S512x1024 .f32) (ix2 r j) = ∑ f : Fin 1408, x (ix2 r f) * w (ix3 0 f j) := by
  show FloatOps.matmul (DotDims.plain 512 1408 1024) none x _ _ (ix2 r j) = _
  rw [Ideal.matmul_plain_apply, constant_apply]
  refine (congrArg (· + _) zero_f32).trans ((zero_add _).trans (Finset.sum_congr rfl fun f _ => ?_))
  exact congrArg (fun y : EReal => x (ix2 r f) * y) (shapeCast_1ab_ab_apply (a := 1408) (b := 1024) w _ f j)

/-- A column over the rows' axis, broadcast over the lanes, at an index. -/
theorem column_apply (v : FVec Ideal S512x1 .f32) (r : Fin 512) (j : Fin 1024) :
    (broadcastTo S512x1024 v broadcasts_S512x1_S512x1024 : FVec Ideal S512x1024 .f32) (ix2 r j) = v (ix2 r 0) :=
  broadcastTo_apply v _ _ (ix2 r 0) fun a => by match a with | 0 => rfl | 1 => rfl

/-- The tile's running sum after half of an expert's hidden units. -/
theorem added_apply (x : Vec Ideal S512x1024 .f32) (w1 w3 : Vec Ideal S1x1024x1408 .bf16) (w2 : Vec Ideal S1x1408x1024 .bf16)
    (acc : Vec Ideal S512x1024 .f32) (c : Vec Ideal S1x512x1 .f32) (r : Fin 512) (j : Fin 1024) :
    k0_pay3 (F := Ideal) x w1 w3 w2 acc c (ix2 r j) = acc (ix2 r j) + c (ix3 0 r 0) * ∑ f : Fin 1408,
      (Experts.silu (∑ d : Fin 1024, x (ix2 r d) * w1 (ix3 0 d f)) * ∑ d : Fin 1024, x (ix2 r d) * w3 (ix3 0 d f)) * w2 (ix3 0 f j) := by
  unfold k0_pay3
  simp only [shapeCast_self]
  rw [addf_apply, mulf_apply, column_apply, second_apply]
  refine congrArg (fun y : EReal => acc (ix2 r j) + y) (congrArg₂ (fun y z : EReal => y * z) ?_ (Finset.sum_congr rfl fun f _ => ?_))
  · exact shapeCast_1ab_ab_apply (a := 512) (b := 1) c _ r 0
  · refine congrArg (fun y : EReal => y * w2 (ix3 0 f j)) ?_
    refine (mulf_apply _ _ _).trans (congrArg₂ (fun y z : EReal => y * z) ?_ (first_apply _ w3 r f))
    refine (mulf_apply _ _ _).trans (congrArg₂ (fun y z : EReal => y * z) (first_apply _ w1 r f) ?_)
    exact congrArg Ideal.logistic (first_apply _ w1 r f)

/-- The mean of each row of a tile, as a column. -/
def meanCol (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

/-- The index of a row's element. -/
theorem lift_row (r : Fin 512) (j : Fin 1024) : reduces_S512x1024_S512.lift (ix1 r) j = ix2 r j := by
  funext a; apply Fin.ext
  match a with
  | 0 => rfl
  | 1 => rfl

/-- The mean of a row. -/
theorem meanCol_apply (z : FVec Ideal S512x1024 .f32) (y : ℕ → EReal) (r : Fin 512) (h : ∀ j : Fin 1024, z (ix2 r j) = y j) :
    meanCol z (ix2 r 0) = Experts.mean y := by
  refine congrArg (fun s => Ideal.div s (Ideal.ofBits .f32 0x44800000#32)) ?_
  rw [shapeCast_a_a1_apply (a := 512)]
  exact (Ideal.multiReduction_add_single z _ reduces_S512x1024_S512 _ rfl (ix1 r)).trans
    (Finset.sum_congr rfl fun j _ => (congrArg z (lift_row r j)).trans (h j))

/-- A row over the lanes' axis, broadcast over the rows, at an index. -/
theorem lanes_apply (v : FVec Ideal S1x1024 .f32) (r : Fin 512) (j : Fin 1024) :
    (broadcastTo S512x1024 v broadcasts_S1x1024_S512x1024 : FVec Ideal S512x1024 .f32) (ix2 r j) = v (ix2 0 j) :=
  broadcastTo_apply v _ _ (ix2 0 j) fun a => by match a with | 0 => rfl | 1 => rfl

/-- What a normalized tile is. -/
theorem normed_eq (x acc : Vec Ideal S512x1024 .f32) (g b : Vec Ideal S1x1024 .f32) (z zc : FVec Ideal S512x1024 .f32)
    (hz : z = addf (mulf (broadcast S512x1024 (Scalar.ofBits .f32 0x3FB504F3#32)) x) acc)
    (hc : zc = subf z (broadcastTo S512x1024 (meanCol z) broadcasts_S512x1_S512x1024)) :
    k0_pay1 (F := Ideal) x acc g b = addf (mulf (mulf zc (broadcastTo S512x1024
        (rsqrt (addf (meanCol (mulf zc zc)) (broadcast S512x1 (Scalar.ofBits .f32 0x3727C5AC#32)))) broadcasts_S512x1_S512x1024))
      (broadcastTo S512x1024 g broadcasts_S1x1024_S512x1024)) (broadcastTo S512x1024 b broadcasts_S1x1024_S512x1024) := by
  subst hc hz
  unfold k0_pay1
  simp only [shapeCast_self]
  rfl

/-- A normalized tile, at an index. -/
theorem normed_apply (x acc : Vec Ideal S512x1024 .f32) (g b : Vec Ideal S1x1024 .f32) (y gs bs : ℕ → EReal) (r : Fin 512) (j : Fin 1024)
    (h : ∀ j : Fin 1024, Ideal.ofBits .f32 0x3FB504F3#32 * x (ix2 r j) + acc (ix2 r j) = y j)
    (hg : g (ix2 0 j) = gs j) (hb : b (ix2 0 j) = bs j) :
    k0_pay1 (F := Ideal) x acc g b (ix2 r j) = Experts.norm y gs bs j := by
  rw [normed_eq x acc g b _ _ rfl rfl, addf_apply, mulf_apply, mulf_apply, lanes_apply, lanes_apply, hg, hb, column_apply]
  have hm := meanCol_apply (addf (mulf (broadcast S512x1024 (Scalar.ofBits .f32 0x3FB504F3#32)) x) acc) y r h
  have hs : ∀ k : Fin 1024, (subf (addf (mulf (broadcast S512x1024 (Scalar.ofBits .f32 0x3FB504F3#32)) x) acc)
      (broadcastTo S512x1024 (meanCol (addf (mulf (broadcast S512x1024 (Scalar.ofBits .f32 0x3FB504F3#32)) x) acc)) broadcasts_S512x1_S512x1024)
        : FVec Ideal S512x1024 .f32) (ix2 r k) = y k - Experts.mean y := fun k => by
    rw [subf_apply, column_apply, hm]
    exact congrArg (fun u : EReal => u - Experts.mean y) (h k)
  have hv := meanCol_apply _ (fun k => (y k - Experts.mean y) * (y k - Experts.mean y)) r fun k =>
    (mulf_apply _ _ _).trans (congrArg₂ (fun u v : EReal => u * v) (hs k) (hs k))
  refine congrArg (fun u : EReal => u * gs j + bs j) (congrArg₂ (fun u v : EReal => u * v) (hs j) ?_)
  exact congrArg (fun u : EReal => Ideal.rsqrt (u + Ideal.ofBits .f32 0x3727C5AC#32)) hv

/-! ## What a grid point leaves -/

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (c : Dev nD) (i : grid0.Coords) (a3 : Memref sig .tc .vmem S512x1024 .f32) (h3 : a3.IsWhole)
  (a4 : Memref sig .tc .vmem S1x512x1 .f32) (h4 : a4.IsWhole) (a5 : Memref sig .tc .vmem S1x1024x1408 .bf16) (h5 : a5.IsWhole)
  (a6 : Memref sig .tc .vmem S1x1024x1408 .bf16) (h6 : a6.IsWhole) (a7 : Memref sig .tc .vmem S1x1408x1024 .bf16) (h7 : a7.IsWhole)
  (a8 : Memref sig .tc .vmem S1x1024 .f32) (h8 : a8.IsWhole) (a9 : Memref sig .tc .vmem S1x1024 .f32) (h9 : a9.IsWhole)
  (a10 : Memref sig .tc .vmem S512x1024 .f32) (h10 : a10.IsWhole) (a11 : Memref sig .tc .vmem S512x1024 .f32) (h11 : a11.IsWhole)
  (x0 : Vec Ideal S512x1024 .f32) (x1 : Vec Ideal S1x512x1 .f32) (x2 x3 : Vec Ideal S1x1024x1408 .bf16)
  (x4 : Vec Ideal S1x1408x1024 .bf16) (x5 x6 : Vec Ideal S1x1024 .f32) (xs : Vec Ideal S512x1024 .f32)

/-- The first point of a tile leaves the sum started from zero. -/
theorem sum_A (hc0 : cond0_0 i) (hc1 : ¬cond0_1 i) :
    sout0_A_0 c i a3 h3 a4 h4 a5 h5 a6 h6 a7 h7 a8 h8 a9 h9 a10 h10 a11 h11 hc0 hc1 x0 x1 x2 x3 x4 x5 x6
      = k0_pay3 x0 x2 x3 x4 (k0_pay2 (F := Ideal)) x1 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S512x1024) hz2, View.readCov_unit_zero (S := S512x1024) _ hz2]
  simp only [View.readAt_eq_ld, h3.read_unread, h4.read_unread, h5.read_unread, h6.read_unread, h7.read_unread,
    View.ld_unit_zero (S := S512x1024) hz2, View.ld_unit_zero (S := S1x512x1) hz3, View.ld_unit_zero (S := S1x1024x1408) hz3,
    View.ld_unit_zero (S := S1x1408x1024) hz3]

/-- A later point leaves the sum it found, added to; -/
theorem sum_B (hc0 : ¬cond0_0 i) (hc1 : ¬cond0_1 i) :
    sout0_B_0 c i a3 h3 a4 h4 a5 h5 a6 h6 a7 h7 a8 h8 a9 h9 a10 h10 a11 h11 hc0 hc1 x0 x1 x2 x3 x4 x5 x6 xs
      = k0_pay3 x0 x2 x3 x4 xs x1 := by
  unfold sout0_B_0
  rw [View.read_writes_eq_canon _ _ _ (scover0_B_0 c i a3 h3 a4 h4 a5 h5 a6 h6 a7 h7 a8 h8 a9 h9 a10 h10 a11 h11 hc0 hc1 x0 x1 x2 x3 x4 x5 x6 xs)]
  unfold kernelRun0_B
  dsimp only
  rw [View.canon_unit_zero hz2]
  simp only [View.readAt_eq_ld, h3.read_unread, h4.read_unread, h5.read_unread, h6.read_unread, h7.read_unread, h11.read_unread,
    View.ld_unit_zero (S := S512x1024) hz2, View.ld_unit_zero (S := S1x512x1) hz3, View.ld_unit_zero (S := S1x1024x1408) hz3,
    View.ld_unit_zero (S := S1x1408x1024) hz3]

/-- the last one too, -/
theorem sum_C (hc0 : ¬cond0_0 i) (hc1 : cond0_1 i) :
    sout0_C_0 c i a3 h3 a4 h4 a5 h5 a6 h6 a7 h7 a8 h8 a9 h9 a10 h10 a11 h11 hc0 hc1 x0 x1 x2 x3 x4 x5 x6 xs
      = k0_pay3 x0 x2 x3 x4 xs x1 := by
  unfold sout0_C_0
  rw [View.read_writes_eq_canon _ _ _ (scover0_C_0 c i a3 h3 a4 h4 a5 h5 a6 h6 a7 h7 a8 h8 a9 h9 a10 h10 a11 h11 hc0 hc1 x0 x1 x2 x3 x4 x5 x6 xs)]
  unfold kernelRun0_C
  dsimp only
  sl_unfold_words
  rw [View.canon_unit_zero hz2]
  simp only [View.readAt_eq_ld, h3.read_unread, h4.read_unread, h5.read_unread, h6.read_unread, h7.read_unread, h11.read_unread,
    View.ld_unit_zero (S := S512x1024) hz2, View.ld_unit_zero (S := S1x512x1) hz3, View.ld_unit_zero (S := S1x1024x1408) hz3,
    View.ld_unit_zero (S := S1x1408x1024) hz3]

/-- and it stores the sum normalized. -/
theorem out_C (hc0 : ¬cond0_0 i) (hc1 : cond0_1 i) :
    out0_C_7 c i a3 h3 a4 h4 a5 h5 a6 h6 a7 h7 a8 h8 a9 h9 a10 h10 a11 h11 hc0 hc1 x0 x1 x2 x3 x4 x5 x6 xs
      = k0_pay1 x0 (k0_pay3 x0 x2 x3 x4 xs x1) x5 x6 := by
  unfold out0_C_7
  rw [View.read_writes_eq_canon _ _ _ (cover0_C_7 c i a3 h3 a4 h4 a5 h5 a6 h6 a7 h7 a8 h8 a9 h9 a10 h10 a11 h11 hc0 hc1 x0 x1 x2 x3 x4 x5 x6 xs)]
  unfold kernelRun0_C
  dsimp only
  sl_unfold_words
  rw [View.canon_unit_zero hz2, View.readCov_unit_zero (S := S512x1024) _ hz2]
  simp only [View.readAt_eq_ld, h3.read_unread, h4.read_unread, h5.read_unread, h6.read_unread, h7.read_unread, h8.read_unread, h9.read_unread,
    h11.read_unread, View.ld_unit_zero (S := S512x1024) hz2, View.ld_unit_zero (S := S1x512x1) hz3, View.ld_unit_zero (S := S1x1024x1408) hz3,
    View.ld_unit_zero (S := S1x1408x1024) hz3, View.ld_unit_zero (S := S1x1024) hz2]

end Cases

end Cert.Kernel2Ideal.Tile
-- ==== Proof.Layer.lean ====
/-
  What the mixture's kernel leaves in its result array, read off the arguments. The sixteen points of a tile of 512 tokens
  meet eight experts, each in two halves of its hidden units; the tile's sum after each point is a sum over the points so
  far, and the last point writes it normalized.
-/
module

public import proofs.«01_k».proof.Proof.Tile
public import proofs.«01_k».proof.Proof.Gen.Kernel2Ideal.Value

@[expose] public section

noncomputable section

namespace Cert.Kernel2Ideal.Layer

open Idealize.ShloMosaic Idealize.ShloMosaic.ValueIdx Idealize.ShloMosaic.TcCoe Idealize.SL.Sem
open Cert.Kernel2Ideal Cert.Kernel2Ideal.Gen Cert.Experts

variable (m : (ℓ : Loc nD τ sig) → Buf (Elt Ideal) ℓ) (c : Dev nD)

/-- The tokens' rows, the weights of the experts, the experts' matrices, and the norm's scale and shift. -/
abbrev tokens : ℕ → ℕ → EReal := at2 (n0 := 16896) (n1 := 1024) (m (c.tc.loc main_arg0))
abbrev weight (e t : ℕ) : EReal := at3 (n0 := 8) (n1 := 16896) (n2 := 1) (m (c.tc.loc main_arg1)) e t 0
abbrev mat1 : ℕ → ℕ → ℕ → EReal := at3 (n0 := 8) (n1 := 1024) (n2 := 2816) (m (c.tc.loc main_arg2))
abbrev mat3 : ℕ → ℕ → ℕ → EReal := at3 (n0 := 8) (n1 := 1024) (n2 := 2816) (m (c.tc.loc main_arg3))
abbrev mat2 : ℕ → ℕ → ℕ → EReal := at3 (n0 := 8) (n1 := 2816) (n2 := 1024) (m (c.tc.loc main_arg4))
abbrev scale : ℕ → EReal := at1 (n0 := 1024) (m (c.tc.loc main_arg5))
abbrev shift : ℕ → EReal := at1 (n0 := 1024) (m (c.tc.loc main_arg6))

/-! ## What the host makes of the arguments -/

theorem V_v0 : (V m c main_v0 : Vec Ideal S8x1024x2816 .bf16) = m (c.tc.loc main_arg2) := by
  show StableHlo.after hostOps0 _ (Proc.devRef .tc main_v0) = _
  after_results
  rfl

theorem V_v1 : (V m c main_v1 : Vec Ideal S8x1024x2816 .bf16) = m (c.tc.loc main_arg3) := by
  show StableHlo.after hostOps0 _ (Proc.devRef .tc main_v1) = _
  after_results
  rfl

theorem V_v2 : (V m c main_v2 : Vec Ideal S8x2816x1024 .bf16) = m (c.tc.loc main_arg4) := by
  show StableHlo.after hostOps0 _ (Proc.devRef .tc main_v2) = _
  after_results
  rfl

theorem V_v3 : (V m c main_v3 : Vec Ideal S1x1024 .f32)
    = shapeCast S1x1024 (m (c.tc.loc main_arg5) : Vec Ideal S1024 .f32) shapeCasts_S1024_S1x1024 := by
  show StableHlo.after hostOps0 _ (Proc.devRef .tc main_v3) = _
  after_results
  rfl

theorem V_v4 : (V m c main_v4 : Vec Ideal S1x1024 .f32)
    = shapeCast S1x1024 (m (c.tc.loc main_arg6) : Vec Ideal S1024 .f32) shapeCasts_S1024_S1x1024 := by
  show StableHlo.after hostOps0 _ (Proc.devRef .tc main_v4) = _
  after_results
  rfl

/-! ## The blocks of a point -/

theorem index0 (t : Fin cfg0.N) : win0_0.index t 0 = t.val / 16 ∧ win0_0.index t 1 = 0 := by
  revert t; decide +kernel
theorem index1 (t : Fin cfg0.N) : win0_1.index t 0 = t.val % 16 / 2 ∧ win0_1.index t 1 = t.val / 16 ∧ win0_1.index t 2 = 0 := by
  revert t; decide +kernel
theorem index2 (t : Fin cfg0.N) : win0_2.index t 0 = t.val % 16 / 2 ∧ win0_2.index t 1 = 0 ∧ win0_2.index t 2 = t.val % 16 % 2 := by
  revert t; decide +kernel
theorem index3 (t : Fin cfg0.N) : win0_3.index t 0 = t.val % 16 / 2 ∧ win0_3.index t 1 = 0 ∧ win0_3.index t 2 = t.val % 16 % 2 := by
  revert t; decide +kernel
theorem index4 (t : Fin cfg0.N) : win0_4.index t 0 = t.val % 16 / 2 ∧ win0_4.index t 1 = t.val % 16 % 2 ∧ win0_4.index t 2 = 0 := by
  revert t; decide +kernel
theorem index5 (t : Fin cfg0.N) : win0_5.index t 0 = 0 ∧ win0_5.index t 1 = 0 := by
  revert t; decide +kernel
theorem index6 (t : Fin cfg0.N) : win0_6.index t 0 = 0 ∧ win0_6.index t 1 = 0 := by
  revert t; decide +kernel

/-- A point's tile is among the 33. -/
theorem tile_lt (t : Fin cfg0.N) : t.val / 16 < 33 := by
  have h : t.val < 528 := lt_of_lt_of_eq t.isLt (show cfg0.N = 528 from N_0)
  omega

/-- The token of row `r` of a point's tile. -/
abbrev token (t : Fin cfg0.N) (r : Fin 512) : ℕ := t.val / 16 * 512 + r.val

theorem token_lt (t : Fin cfg0.N) (r : Fin 512) : token t r < 16896 := by
  have := tile_lt t; have := r.isLt; unfold token; omega

theorem block0 (t : Fin cfg0.N) (r : Fin 512) (d : Fin 1024) :
    (iblk m c 0 t : Vec Ideal S512x1024 .f32) (ix2 r d) = tokens m c (token t r) d := by
  refine Eq.trans ?_ (at2_of _ (token_lt t r) d.isLt).symm
  unfold iblk
  rw [View.read_apply]
  refine (congrFun (V_main_arg0 m c) _).trans (congrArg (m (c.tc.loc main_arg0)) (funext fun a => Fin.ext ?_))
  match a with
  | 0 => show win0_0.index t 0 * 512 + 1 * r.val = _; rw [(index0 t).1, one_mul]; rfl
  | 1 => show win0_0.index t 1 * 1024 + 1 * d.val = _; rw [(index0 t).2, one_mul, zero_mul, zero_add]; rfl

theorem block1 (t : Fin cfg0.N) (r : Fin 512) :
    (iblk m c 1 t : Vec Ideal S1x512x1 .f32) (ix3 0 r 0) = weight m c (t.val % 16 / 2) (token t r) := by
  refine Eq.trans ?_ (at3_of _ (by omega) (token_lt t r) (by omega)).symm
  unfold iblk
  rw [View.read_apply]
  refine (congrFun (V_main_arg1 m c) _).trans (congrArg (m (c.tc.loc main_arg1)) (funext fun a => Fin.ext ?_))
  match a with
  | 0 => show win0_1.index t 0 * 1 + 1 * 0 = _; rw [(index1 t).1, mul_one, mul_zero, add_zero]; rfl
  | 1 => show win0_1.index t 1 * 512 + 1 * r.val = _; rw [(index1 t).2.1, one_mul]; rfl
  | 2 => show win0_1.index t 2 * 1 + 1 * 0 = _; rw [(index1 t).2.2]; rfl

theorem block2 (t : Fin cfg0.N) (d : Fin 1024) (f : Fin 1408) :
    (iblk m c 2 t : Vec Ideal S1x1024x1408 .bf16) (ix3 0 d f) = mat1 m c (t.val % 16 / 2) d (t.val % 16 % 2 * 1408 + f) := by
  refine Eq.trans ?_ (at3_of _ (by omega) d.isLt (by have := f.isLt; omega)).symm
  unfold iblk
  rw [View.read_apply]
  refine (congrFun (V_v0 m c) _).trans (congrArg (m (c.tc.loc main_arg2)) (funext fun a => Fin.ext ?_))
  match a with
  | 0 => show win0_2.index t 0 * 1 + 1 * 0 = _; rw [(index2 t).1, mul_one, mul_zero, add_zero]; rfl
  | 1 => show win0_2.index t 1 * 1024 + 1 * d.val = _; rw [(index2 t).2.1, one_mul, zero_mul, zero_add]; rfl
  | 2 => show win0_2.index t 2 * 1408 + 1 * f.val = _; rw [(index2 t).2.2, one_mul]; rfl

theorem block3 (t : Fin cfg0.N) (d : Fin 1024) (f : Fin 1408) :
    (iblk m c 3 t : Vec Ideal S1x1024x1408 .bf16) (ix3 0 d f) = mat3 m c (t.val % 16 / 2) d (t.val % 16 % 2 * 1408 + f) := by
  refine Eq.trans ?_ (at3_of _ (by omega) d.isLt (by have := f.isLt; omega)).symm
  unfold iblk
  rw [View.read_apply]
  refine (congrFun (V_v1 m c) _).trans (congrArg (m (c.tc.loc main_arg3)) (funext fun a => Fin.ext ?_))
  match a with
  | 0 => show win0_3.index t 0 * 1 + 1 * 0 = _; rw [(index3 t).1, mul_one, mul_zero, add_zero]; rfl
  | 1 => show win0_3.index t 1 * 1024 + 1 * d.val = _; rw [(index3 t).2.1, one_mul, zero_mul, zero_add]; rfl
  | 2 => show win0_3.index t 2 * 1408 + 1 * f.val = _; rw [(index3 t).2.2, one_mul]; rfl

theorem block4 (t : Fin cfg0.N) (f : Fin 1408) (j : Fin 1024) :
    (iblk m c 4 t : Vec Ideal S1x1408x1024 .bf16) (ix3 0 f j) = mat2 m c (t.val % 16 / 2) (t.val % 16 % 2 * 1408 + f) j := by
  refine Eq.trans ?_ (at3_of _ (by omega) (by have := f.isLt; omega) j.isLt).symm
  unfold iblk
  rw [View.read_apply]
  refine (congrFun (V_v2 m c) _).trans (congrArg (m (c.tc.loc main_arg4)) (funext fun a => Fin.ext ?_))
  match a with
  | 0 => show win0_4.index t 0 * 1 + 1 * 0 = _; rw [(index4 t).1, mul_one, mul_zero, add_zero]; rfl
  | 1 => show win0_4.index t 1 * 1408 + 1 * f.val = _; rw [(index4 t).2.1, one_mul]; rfl
  | 2 => show win0_4.index t 2 * 1024 + 1 * j.val = _; rw [(index4 t).2.2, one_mul, zero_mul, zero_add]; rfl

theorem block5 (t : Fin cfg0.N) (j : Fin 1024) : (iblk m c 5 t : Vec Ideal S1x1024 .f32) (ix2 0 j) = scale m c j := by
  refine Eq.trans ?_ (at1_of _ j.isLt).symm
  unfold iblk
  rw [View.read_apply]
  refine (congrFun (V_v3 m c) _).trans (Eq.trans (congrArg _ (funext fun a => Fin.ext ?_))
    (shapeCast_a_1a_apply (a := 1024) (m (c.tc.loc main_arg5)) _ (0 : Fin 1) j))
  match a with
  | 0 => show win0_5.index t 0 * 1 + 1 * 0 = _; rw [(index5 t).1]; rfl
  | 1 => show win0_5.index t 1 * 1024 + 1 * j.val = _; rw [(index5 t).2, one_mul, zero_mul, zero_add]; rfl

theorem block6 (t : Fin cfg0.N) (j : Fin 1024) : (iblk m c 6 t : Vec Ideal S1x1024 .f32) (ix2 0 j) = shift m c j := by
  refine Eq.trans ?_ (at1_of _ j.isLt).symm
  unfold iblk
  rw [View.read_apply]
  refine (congrFun (V_v4 m c) _).trans (Eq.trans (congrArg _ (funext fun a => Fin.ext ?_))
    (shapeCast_a_1a_apply (a := 1024) (m (c.tc.loc main_arg6)) _ (0 : Fin 1) j))
  match a with
  | 0 => show win0_6.index t 0 * 1 + 1 * 0 = _; rw [(index6 t).1]; rfl
  | 1 => show win0_6.index t 1 * 1024 + 1 * j.val = _; rw [(index6 t).2, one_mul, zero_mul, zero_add]; rfl

/-! ## The sum of a tile -/

/-- What point `t` adds at row `r` and column `j` of its tile. -/
def gain (n : ℕ) (T j : ℕ) : EReal :=
  weight m c (n / 2) T * half (tokens m c) (mat1 m c) (mat3 m c) (mat2 m c) T j (n / 2) (n % 2)

/-- A point adds its expert's half, weighted, to the tile's sum. -/
theorem point_adds (t : Fin cfg0.N) (acc : Vec Ideal S512x1024 .f32) (r : Fin 512) (j : Fin 1024) :
    k0_pay3 (F := Ideal) (iblk m c 0 t) (iblk m c 2 t) (iblk m c 3 t) (iblk m c 4 t) acc (iblk m c 1 t) (ix2 r j)
      = acc (ix2 r j) + gain m c (t.val % 16) (token t r) j := by
  refine (Tile.added_apply _ _ _ _ _ _ r j).trans (congrArg (fun y : EReal => acc (ix2 r j) + y) ?_)
  unfold gain half unit
  refine congrArg₂ (fun y z : EReal => y * z) (block1 m c t r) (Finset.sum_congr rfl fun f _ => ?_)
  refine congrArg₂ (fun y z : EReal => y * z) (congrArg₂ (fun y z : EReal => silu y * z) ?_ ?_) (block4 m c t f j)
  · exact Finset.sum_congr rfl fun d _ => congrArg₂ (fun y z : EReal => y * z) (block0 m c t r d) (block2 m c t d f)
  · exact Finset.sum_congr rfl fun d _ => congrArg₂ (fun y z : EReal => y * z) (block0 m c t r d) (block3 m c t d f)

/-- The first point of a tile starts the sum; -/
theorem first_point (t : Fin cfg0.N) (h0 : t.val % 16 = 0) (h1 : ¬ t.val % 16 = 15) :
    (outsAt0 m c t.val t.isLt).2
      = k0_pay3 (F := Ideal) (iblk m c 0 t) (iblk m c 2 t) (iblk m c 3 t) (iblk m c 4 t) (k0_pay2 (F := Ideal)) (iblk m c 1 t) := by
  rw [outsAt0_A m c t h0 h1]
  dsimp only
  rw [Tile.sum_A]

/-- a later one adds to what the point before left, -/
theorem later_point (t : Fin cfg0.N) (h0 : ¬ t.val % 16 = 0) :
    (outsAt0 m c t.val t.isLt).2
      = k0_pay3 (F := Ideal) (iblk m c 0 t) (iblk m c 2 t) (iblk m c 3 t) (iblk m c 4 t)
          (outsAt0 m c (t.val - 1) (lt_of_le_of_lt (Nat.sub_le _ _) t.isLt)).2 (iblk m c 1 t) := by
  by_cases h1 : t.val % 16 = 15
  · rw [outsAt0_C m c t h0 h1]
    dsimp only
    rw [Tile.sum_C]
  · rw [outsAt0_B m c t h0 h1]
    dsimp only
    rw [Tile.sum_B]

/-- and the last one writes the sum normalized. -/
theorem last_point (t : Fin cfg0.N) (h1 : t.val % 16 = 15) :
    (outsAt0 m c t.val t.isLt).1
      = k0_pay1 (F := Ideal) (iblk m c 0 t) (outsAt0 m c t.val t.isLt).2 (iblk m c 5 t) (iblk m c 6 t) := by
  have h0 : ¬ t.val % 16 = 0 := by omega
  rw [later_point m c t h0, outsAt0_C m c t h0 h1]
  dsimp only
  rw [Tile.out_C]

/-- The tile's sum after its first point, -/
theorem sum_first (t : Fin cfg0.N) (h0 : t.val % 16 = 0) (r : Fin 512) (j : Fin 1024) :
    (outsAt0 m c t.val t.isLt).2 (ix2 r j) = gain m c (t.val % 16) (token t r) j := by
  rw [first_point m c t h0 (by omega), point_adds]
  exact (congrArg (fun y : EReal => y + gain m c (t.val % 16) (token t r) j) Tile.zero_f32).trans (zero_add _)

/-- and after a later one. -/
theorem sum_later (t : Fin cfg0.N) (h0 : ¬ t.val % 16 = 0) (r : Fin 512) (j : Fin 1024) :
    (outsAt0 m c t.val t.isLt).2 (ix2 r j)
      = (outsAt0 m c (t.val - 1) (lt_of_le_of_lt (Nat.sub_le _ _) t.isLt)).2 (ix2 r j) + gain m c (t.val % 16) (token t r) j := by
  rw [later_point m c t h0, point_adds]

/-- The tile's sum after a point is the sum of what its points so far add. -/
theorem sum_eq : ∀ (n : ℕ) (h : n < cfg0.N) (r : Fin 512) (j : Fin 1024),
    (outsAt0 m c n h).2 (ix2 r j) = ∑ k ∈ Finset.range (n % 16 + 1), gain m c k (n / 16 * 512 + r.val) j := by
  intro n
  induction n with
  | zero =>
    intro h r j
    rw [Nat.zero_mod, zero_add, Finset.sum_range_one]
    exact sum_first m c ⟨0, h⟩ (Nat.zero_mod _) r j
  | succ n ih =>
    intro h r j
    by_cases h0 : (n + 1) % 16 = 0
    · rw [h0, zero_add, Finset.sum_range_one]
      refine (sum_first m c ⟨n + 1, h⟩ h0 r j).trans ?_
      exact congrArg (fun k => gain m c k ((n + 1) / 16 * 512 + r.val) j) h0
    · refine (sum_later m c ⟨n + 1, h⟩ h0 r j).trans ?_
      rw [Finset.sum_range_succ]
      refine congrArg (fun y : EReal => y + gain m c ((n + 1) % 16) ((n + 1) / 16 * 512 + r.val) j) ?_
      refine (ih (Nat.lt_of_succ_lt h) r j).trans ?_
      rw [show n % 16 + 1 = (n + 1) % 16 by omega, show n / 16 = (n + 1) / 16 by omega]

/-- The layer of the arguments, with the hidden units in halves. -/
abbrev out (T j : ℕ) : EReal :=
  halved (tokens m c) (mat1 m c) (mat3 m c) (mat2 m c) 8 (weight m c) (scale m c) (shift m c) T j

/-- The last point of a tile leaves the layer's rows. -/
theorem out_eq (t : Fin cfg0.N) (h1 : t.val % 16 = 15) (r : Fin 512) (j : Fin 1024) :
    (outsAt0 m c t.val t.isLt).1 (ix2 r j) = out m c (token t r) j := by
  rw [last_point m c t h1]
  refine Tile.normed_apply _ _ _ _ _ (scale m c) (shift m c) r j (fun k => ?_) (block5 m c t j) (block6 m c t j)
  refine congrArg₂ (fun y z : EReal => Ideal.ofBits .f32 0x3FB504F3#32 * y + z) (block0 m c t r k) ?_
  refine (sum_eq m c t.val t.isLt r k).trans ?_
  rw [h1]
  rfl

/-- The result array holds the layer's rows. -/
theorem result_apply (T : Fin 16896) (j : Fin 1024) :
    (Value.G7 m c : Vec Ideal S16896x1024 .f32) (ix2 T j) = out m c T j := by
  have hT := T.isLt
  have hj := j.isLt
  have hr : Value.run7Of (ix2 T j) = T.val / 512 := by
    show 1 * (T.val / 512 - 0) + 1 * (j.val / 1024 - 0) = _
    omega
  have hp : Value.pt7Of (ix2 T j) < cfg0.N := by
    rw [show cfg0.N = 528 from N_0]
    show 16 * Value.run7Of (ix2 T j) + 15 < 528
    rw [hr]; omega
  unfold Value.G7
  rw [dif_pos hp, ← Value.outsAt0_sweep m c _ hp]
  have hl : Value.loc7Of (ix2 T j) = ix2 (⟨T.val % 512, Nat.mod_lt _ (by norm_num)⟩ : Fin 512) j := funext fun a => Fin.ext (by
    match a with
    | ⟨0, _⟩ => rfl
    | ⟨1, _⟩ => exact Nat.mod_eq_of_lt hj)
  rw [hl]
  refine (out_eq m c ⟨Value.pt7Of (ix2 T j), hp⟩ ?_ _ j).trans ?_
  · show (16 * Value.run7Of (ix2 T j) + 15) % 16 = 15
    omega
  · refine congrArg (fun u => out m c u j) ?_
    show (16 * Value.run7Of (ix2 T j) + 15) / 16 * 512 + T.val % 512 = T.val
    rw [hr]; omega

end Cert.Kernel2Ideal.Layer
-- ==== Proof.LayerRef.lean ====
/-
  What the mixture's reference computes, entry by entry: every expert's gated units of every token times its third matrix,
  summed over the experts with the token's weights, the token's own row added, and the sum normalized.
-/
module

public import proofs.«01_k».proof.Proof.Experts
public import proofs.«01_k».proof.Proof.Gen.Reference2Ideal.Run
public import Idealize.ShloMosaic.Lib.IdealHost
public import Idealize.ShloMosaic.Lib.ValueLayout
public import Idealize.ShloMosaic.Lib.Pipeline.Value
public import Idealize.ShloMosaic.Lib.Pointwise.Reduce
public import Idealize.ShloMosaic.PureOps.IdealRules
public import Idealize.ShloMosaic.PureOps.Reduce

@[expose] public section

noncomputable section

namespace Cert.Reference2Ideal.Ref

open Idealize.ShloMosaic hiding ix1 ix2 ix3
open Idealize.ShloMosaic.ValueIdx Idealize.ShloMosaic.TcCoe
open Cert.Reference2Ideal Cert.Reference2Ideal.Gen Cert.Experts

/-! ## The reference's own stages -/

/-- The tokens times one of the experts' first two matrices, -/
def first (w : FVec Ideal S8x1024x2816 .f32) (x : FVec Ideal S16896x1024 .f32) : FVec Ideal S8x16896x2816 .f32 :=
  transpose S8x16896x2816 [0, 2, 1] (Host.dotGeneral dot_S8x1024x2816_S16896x1024_S8x2816x16896_1_1_02_0_n_n none w x)
    transposes_S8x2816x16896_S8x16896x2816_0_2_1

/-- the gated units, -/
def gated (h1 h3 : FVec Ideal S8x16896x2816 .f32) : FVec Ideal S8x16896x2816 .f32 :=
  mulf (mulf h1 (Host.divf (broadcastInDim S8x16896x2816 ![] bcast_S_S8x16896x2816 (constant S_ .f32 0x3F800000#32))
    (addf (broadcastInDim S8x16896x2816 ![] bcast_S_S8x16896x2816 (constant S_ .f32 0x3F800000#32)) (Host.exp (Host.negf h1))))) h3

/-- each expert's rows, -/
def second (h : FVec Ideal S8x16896x2816 .f32) (w : FVec Ideal S8x2816x1024 .f32) : FVec Ideal S8x16896x1024 .f32 :=
  Host.dotGeneral dot_S8x16896x2816_S8x2816x1024_S8x16896x1024_2_1_1_2_0_0 none h w

/-- their weighted sum, -/
def mixed (c : FVec Ideal S8x16896x1 .f32) (y : FVec Ideal S8x16896x1024 .f32) : FVec Ideal S16896x1024 .f32 :=
  Host.reduceAdd (mulf (broadcastInDim S8x16896x1024 ![0, 1, 2] bcast_S8x16896x1_S8x16896x1024_0_1_2 c) y)
    (constant (F := Ideal) S_ .f32 0x00000000#32) reducesTo_S8x16896x1024_S16896x1024_d0 h_S_

/-- the tokens' own rows added, -/
def total (x s : FVec Ideal S16896x1024 .f32) : FVec Ideal S16896x1024 .f32 :=
  addf (mulf (broadcastInDim S16896x1024 ![] bcast_S_S16896x1024 (constant S_ .f32 0x3FB504F3#32)) x) s

/-- the mean of each row, -/
def meanCol (z : FVec Ideal S16896x1024 .f32) : FVec Ideal S16896x1 .f32 :=
  Host.divf (broadcastInDim S16896x1 ![0] bcast_S16896_S16896x1_0
      (Host.reduceAdd z (constant (F := Ideal) S_ .f32 0x00000000#32) reducesTo_S16896x1024_S16896_d1 h_S_))
    (broadcastInDim S16896x1 ![] bcast_S_S16896x1 (constant S_ .f32 0x44800000#32))

/-- a column spread over the lanes, -/
def spread (v : FVec Ideal S16896x1 .f32) : FVec Ideal S16896x1024 .f32 :=
  broadcastInDim S16896x1024 ![0, 1] bcast_S16896x1_S16896x1024_0_1 v

/-- a row spread over the tokens, -/
def repeated (v : FVec Ideal S1024 .f32) : FVec Ideal S16896x1024 .f32 :=
  broadcastInDim S16896x1024 ![0, 1] bcast_S1x1024_S16896x1024_0_1 (broadcastInDim S1x1024 ![1] bcast_S1024_S1x1024_1 v)

/-- each row's distance from its mean, -/
def centred (z : FVec Ideal S16896x1024 .f32) : FVec Ideal S16896x1024 .f32 := subf z (spread (meanCol z))

/-- one over the root of each row's spread, -/
def inverse (z : FVec Ideal S16896x1024 .f32) : FVec Ideal S16896x1 .f32 :=
  Host.rsqrt (addf (meanCol (mulf (centred z) (centred z))) (broadcastInDim S16896x1 ![] bcast_S_S16896x1 (constant S_ .f32 0x3727C5AC#32)))

/-- and the norm. -/
def normed (z : FVec Ideal S16896x1024 .f32) (g b : FVec Ideal S1024 .f32) : FVec Ideal S16896x1024 .f32 :=
  addf (mulf (mulf (centred z) (spread (inverse z))) (repeated g)) (repeated b)

/-- The reference's result is made of these stages. -/
theorem res_eq (m : (ℓ : Loc nD τ sig) → Buf (Elt Ideal) ℓ) (c : Dev nD) :
    Value.res_main_v36 m c = normed (total (m (c.tc.loc main_arg0)) (mixed (m (c.tc.loc main_arg1))
      (second (gated (first (m (c.tc.loc main_arg2)) (m (c.tc.loc main_arg0))) (first (m (c.tc.loc main_arg3)) (m (c.tc.loc main_arg0))))
        (m (c.tc.loc main_arg4))))) (m (c.tc.loc main_arg5)) (m (c.tc.loc main_arg6)) := rfl

/-! ## The stages, entry by entry -/

/-- The word of zero is zero. -/
theorem zero_f32 : Ideal.ofBits .f32 0x00000000#32 = (0 : EReal) := Ideal.ofBits_zero_f32

/-- The word of one is one. -/
theorem one_f32 : Ideal.ofBits .f32 0x3F800000#32 = (1 : EReal) := Ideal.ofBits_one_f32

/-- A token times a column of an expert's matrix. -/
theorem first_apply (w : FVec Ideal S8x1024x2816 .f32) (x : FVec Ideal S16896x1024 .f32) (e : Fin 8) (t : Fin 16896) (f : Fin 2816) :
    first w x (ix3 e t f) = ∑ d : Fin 1024, x (ix2 t d) * w (ix3 e d f) := by
  unfold first
  refine (transpose_ix3_021_apply (m := 8) (a := 2816) (b := 16896) _ _ e t f).trans ?_
  show FloatOps.dotGeneral _ _ _ _ _ _ = _
  have hr : dot_S8x1024x2816_S16896x1024_S8x2816x16896_1_1_02_0_n_n.contr.rank = 1 := rfl
  rw [Ideal.dotGeneral_apply, ← Equiv.sum_comp (contrEquiv1 dot_S8x1024x2816_S16896x1024_S8x2816x16896_1_1_02_0_n_n 1024 hr rfl).symm]
  refine Finset.sum_congr rfl fun d _ => (mul_comm _ _).trans ?_
  have hd := contrEquiv1_symm_val dot_S8x1024x2816_S16896x1024_S8x2816x16896_1_1_02_0_n_n 1024 hr rfl d
  refine congrArg₂ (fun y z : EReal => y * z) (congrArg x ?_) (congrArg w ?_)
  · funext a; apply Fin.ext
    match a with
    | ⟨0, _⟩ => rfl
    | ⟨1, _⟩ => exact hd
  · funext a; apply Fin.ext
    match a with
    | ⟨0, _⟩ => rfl
    | ⟨1, _⟩ => exact hd
    | ⟨2, _⟩ => rfl

/-- A gated unit. -/
theorem gated_apply (h1 h3 : FVec Ideal S8x16896x2816 .f32) (i : S8x16896x2816.Idx) : gated h1 h3 i = silu (h1 i) * h3 i := by
  unfold gated silu
  refine (mulf_apply _ _ _).trans (congrArg (fun y : EReal => y * h3 i) ((mulf_apply _ _ _).trans (congrArg (fun y : EReal => h1 i * y) ?_)))
  refine (hostDivf_apply _ _ _).trans (congrArg₂ Ideal.div ?_ ((addf_apply _ _ _).trans (congrArg₂ (fun y z : EReal => y + z) ?_ rfl)))
  · exact (broadcastInDim_scalar_apply _ _ _).trans one_f32
  · exact (broadcastInDim_scalar_apply _ _ _).trans one_f32

/-- An expert's row. -/
theorem second_apply (h : FVec Ideal S8x16896x2816 .f32) (w : FVec Ideal S8x2816x1024 .f32) (e : Fin 8) (t : Fin 16896) (j : Fin 1024) :
    second h w (ix3 e t j) = ∑ f : Fin 2816, h (ix3 e t f) * w (ix3 e f j) := by
  show FloatOps.dotGeneral _ _ _ _ _ _ = _
  have hr : dot_S8x16896x2816_S8x2816x1024_S8x16896x1024_2_1_1_2_0_0.contr.rank = 1 := rfl
  rw [Ideal.dotGeneral_apply, ← Equiv.sum_comp (contrEquiv1 dot_S8x16896x2816_S8x2816x1024_S8x16896x1024_2_1_1_2_0_0 2816 hr rfl).symm]
  refine Finset.sum_congr rfl fun f _ => ?_
  have hf := contrEquiv1_symm_val dot_S8x16896x2816_S8x2816x1024_S8x16896x1024_2_1_1_2_0_0 2816 hr rfl f
  refine congrArg₂ (fun y z : EReal => y * z) (congrArg h ?_) (congrArg w ?_)
  · funext a; apply Fin.ext
    match a with
    | ⟨0, _⟩ => rfl
    | ⟨1, _⟩ => rfl
    | ⟨2, _⟩ => exact hf
  · funext a; apply Fin.ext
    match a with
    | ⟨0, _⟩ => rfl
    | ⟨1, _⟩ => exact hf
    | ⟨2, _⟩ => rfl

/-- The weighted sum over the experts. -/
theorem mixed_apply (c : FVec Ideal S8x16896x1 .f32) (y : FVec Ideal S8x16896x1024 .f32) (t : Fin 16896) (j : Fin 1024) :
    mixed c y (ix2 t j) = ∑ e : Fin 8, c (ix3 e t 0) * y (ix3 e t j) := by
  refine (Ideal.hostReduceAdd_r3_a0 (n0 := 8) (n1 := 16896) (n2 := 1024) reducesTo_S8x16896x1024_S16896x1024_d0 _ _ (ix2 t j)).trans ?_
  refine (congrArg (fun z : EReal => z + _) zero_f32).trans ((zero_add _).trans (Finset.sum_congr rfl fun e _ => ?_))
  refine (mulf_apply _ _ _).trans (congrArg (fun z : EReal => z * y (ix3 e t j)) ?_)
  refine broadcastInDim_apply _ _ _ _ (ix3 e t 0) fun a => ?_
  match a with
  | 0 => rfl
  | 1 => rfl
  | 2 => rfl

/-- The row to be normalized. -/
theorem total_apply (x s : FVec Ideal S16896x1024 .f32) (t : Fin 16896) (j : Fin 1024) :
    total x s (ix2 t j) = Ideal.ofBits .f32 0x3FB504F3#32 * x (ix2 t j) + s (ix2 t j) :=
  (addf_apply _ _ _).trans (congrArg (fun z : EReal => z + s (ix2 t j)) ((mulf_apply _ _ _).trans
    (congrArg (fun z : EReal => z * x (ix2 t j)) (broadcastInDim_scalar_apply _ _ _))))

/-- The mean of a row. -/
theorem meanCol_apply (z : FVec Ideal S16896x1024 .f32) (y : ℕ → EReal) (t : Fin 16896) (h : ∀ j : Fin 1024, z (ix2 t j) = y j) :
    meanCol z (ix2 t 0) = mean y := by
  refine (hostDivf_apply _ _ _).trans (congrArg₂ Ideal.div ?_ (broadcastInDim_scalar_apply _ _ _))
  refine (broadcastInDim_apply _ _ _ _ (ix1 t) fun a => by match a with | 0 => rfl).trans ?_
  refine (Ideal.hostReduceAdd_r2_a1 (n0 := 16896) (n1 := 1024) reducesTo_S16896x1024_S16896_d1 z _ (ix1 t)).trans ?_
  exact (congrArg (fun u : EReal => u + _) zero_f32).trans ((zero_add _).trans (Finset.sum_congr rfl fun j _ => h j))

/-- A spread column reads the column. -/
theorem spread_apply (v : FVec Ideal S16896x1 .f32) (t : Fin 16896) (j : Fin 1024) : spread v (ix2 t j) = v (ix2 t 0) :=
  broadcastInDim_apply _ _ _ _ (ix2 t 0) fun a => by match a with | 0 => rfl | 1 => rfl

/-- A repeated row reads the row. -/
theorem repeated_apply (v : FVec Ideal S1024 .f32) (t : Fin 16896) (j : Fin 1024) : repeated v (ix2 t j) = v (ix1 j) :=
  (broadcastInDim_apply _ _ _ _ (ix2 0 j) fun a => by match a with | 0 => rfl | 1 => rfl).trans
    (broadcastInDim_apply _ _ _ _ (ix1 j) fun a => by match a with | 0 => rfl)

/-- A centred row. -/
theorem centred_apply (z : FVec Ideal S16896x1024 .f32) (y : ℕ → EReal) (t : Fin 16896) (h : ∀ j : Fin 1024, z (ix2 t j) = y j) (j : Fin 1024) :
    centred z (ix2 t j) = y j - mean y :=
  (subf_apply _ _ _).trans (congrArg₂ (fun u v : EReal => u - v) (h j) ((spread_apply _ t j).trans (meanCol_apply z y t h)))

/-- A normalized row. -/
theorem normed_apply (z : FVec Ideal S16896x1024 .f32) (g b : FVec Ideal S1024 .f32) (y gs bs : ℕ → EReal) (t : Fin 16896) (j : Fin 1024)
    (h : ∀ j : Fin 1024, z (ix2 t j) = y j) (hg : g (ix1 j) = gs j) (hb : b (ix1 j) = bs j) :
    normed z g b (ix2 t j) = norm y gs bs j := by
  have hv := meanCol_apply (mulf (centred z) (centred z)) (fun k => (y k - mean y) * (y k - mean y)) t fun k =>
    (mulf_apply _ _ _).trans (congrArg₂ (fun u v : EReal => u * v) (centred_apply z y t h k) (centred_apply z y t h k))
  unfold normed
  refine (addf_apply _ _ _).trans (congrArg₂ (fun u v : EReal => u + v) ((mulf_apply _ _ _).trans (congrArg₂ (fun u v : EReal => u * v)
    ((mulf_apply _ _ _).trans (congrArg₂ (fun u v : EReal => u * v) (centred_apply z y t h j) ((spread_apply _ t j).trans ?_)))
    ((repeated_apply g t j).trans hg))) ((repeated_apply b t j).trans hb))
  refine congrArg Ideal.rsqrt ((addf_apply _ _ _).trans (congrArg₂ (fun u v : EReal => u + v) hv (broadcastInDim_scalar_apply _ _ _)))

/-- The reference's entry is the layer's. -/
theorem res_apply (m : (ℓ : Loc nD τ sig) → Buf (Elt Ideal) ℓ) (c : Dev nD) (t : Fin 16896) (j : Fin 1024) :
    (Value.res_main_v36 m c : Vec Ideal S16896x1024 .f32) (ix2 t j)
      = plain (at2 (n0 := 16896) (n1 := 1024) (m (c.tc.loc main_arg0))) (at3 (n0 := 8) (n1 := 1024) (n2 := 2816) (m (c.tc.loc main_arg2)))
          (at3 (n0 := 8) (n1 := 1024) (n2 := 2816) (m (c.tc.loc main_arg3))) (at3 (n0 := 8) (n1 := 2816) (n2 := 1024) (m (c.tc.loc main_arg4))) 8
          (fun e t => at3 (n0 := 8) (n1 := 16896) (n2 := 1) (m (c.tc.loc main_arg1)) e t 0)
          (at1 (n0 := 1024) (m (c.tc.loc main_arg5))) (at1 (n0 := 1024) (m (c.tc.loc main_arg6))) t j := by
  rw [res_eq]
  refine normed_apply _ _ _ _ _ _ t j (fun k => ?_) (at1_of _ j.isLt).symm (at1_of _ j.isLt).symm
  refine (total_apply _ _ t k).trans (congrArg₂ (fun u v : EReal => Ideal.ofBits .f32 0x3FB504F3#32 * u + v) (at2_of _ t.isLt k.isLt).symm ?_)
  refine (mixed_apply _ _ t k).trans (Eq.trans (Finset.sum_congr rfl fun e _ => ?_) (Finset.sum_range _).symm)
  refine congrArg₂ (fun u v : EReal => u * v) (at3_of _ e.isLt t.isLt (by norm_num)).symm ((second_apply _ _ e t k).trans ?_)
  unfold whole unit
  refine Finset.sum_congr rfl fun f _ => congrArg₂ (fun u v : EReal => u * v) ((gated_apply _ _ _).trans ?_) (at3_of _ e.isLt f.isLt k.isLt).symm
  refine congrArg₂ (fun u v : EReal => silu u * v) ((first_apply _ _ e t f).trans ?_) ((first_apply _ _ e t f).trans ?_)
  all_goals exact Finset.sum_congr rfl fun d _ => congrArg₂ (fun u v : EReal => u * v) (at2_of _ t.isLt d.isLt).symm (at3_of _ e.isLt d.isLt f.isLt).symm

end Cert.Reference2Ideal.Ref
-- ==== Proof.LayerEquation.lean ====
/-
  The mixture's precondition read, and the equation: where the experts' weights are numbers that are not negative, weighing
  each half of an expert's hidden units by itself adds up to the weighted whole, so the kernel's result is the reference's.
-/
module

public import proofs.«01_k».proof.Pre_weights_of_experts
public import proofs.«01_k».proof.Proof.Layer
public import proofs.«01_k».proof.Proof.LayerRef

@[expose] public section

noncomputable section

namespace Cert.Pre_weights_of_experts

open Idealize.ShloMosaic hiding ix1 ix2 ix3
open Idealize.ShloMosaic.ValueIdx

/-- The precondition's shape fact. -/
instance facts : Facts where
  bcast_S_S8x16896x1 := by decide

/-- An extended real from zero on and below infinity. -/
theorem weight_of_between {x : EReal}
    (h : (Ideal.cmp .oge x (Ideal.ofBits .f32 0x00000000#32)) &&& (Ideal.cmp .olt x (Ideal.ofBits .f32 0x7F800000#32)) = 1#1) : 0 ≤ x ∧ x ≠ ⊤ := by
  induction x with
  | coe r =>
    refine ⟨?_, EReal.coe_ne_top r⟩
    by_contra hr
    simp [Ideal.cmp, Ideal.ofBits_zero_f32, hr] at h
  | bot => simp [Ideal.cmp, Ideal.ofBits_zero_f32] at h
  | top => simp [Ideal.cmp, Ideal.ofBits, Ideal.ieee] at h

/-- **The precondition gives weights that are numbers and not negative.** -/
theorem weights (x : FVec Ideal S16896x1024 .f32) (k : FVec Ideal S8x16896x1 .f32) (w1 w3 : FVec Ideal S8x1024x2816 .f32)
    (w2 : FVec Ideal S8x2816x1024 .f32) (g b : FVec Ideal S1024 .f32) (h : fn x k w1 w3 w2 g b = fun _ => 1#1) {e t : ℕ} (he : e < 8) (ht : t < 16896) :
    0 ≤ Experts.at3 k e t 0 ∧ Experts.at3 k e t 0 ≠ ⊤ := by
  rw [Experts.at3_of k he ht (by norm_num)]
  exact weight_of_between (congrFun h (ix3 ⟨e, he⟩ ⟨t, ht⟩ 0))

end Cert.Pre_weights_of_experts

namespace Cert.LayerEquation

open Idealize.ShloMosaic hiding ix1 ix2 ix3
open Idealize.ShloMosaic.ValueIdx Idealize.ShloMosaic.TcCoe Cert.Experts

/-- **The kernel's result is the reference's**, from memories that agree on the arguments. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (hk : ∀ e < 8, ∀ t < 16896, 0 ≤ Cert.Kernel2Ideal.Layer.weight m c e t ∧ Cert.Kernel2Ideal.Layer.weight m c e t ≠ ⊤)
    (h0 : m' (c.tc.loc Cert.Reference2Ideal.main_arg0) = m (c.tc.loc Cert.Kernel2Ideal.main_arg0))
    (h1 : m' (c.tc.loc Cert.Reference2Ideal.main_arg1) = m (c.tc.loc Cert.Kernel2Ideal.main_arg1))
    (h2 : m' (c.tc.loc Cert.Reference2Ideal.main_arg2) = m (c.tc.loc Cert.Kernel2Ideal.main_arg2))
    (h3 : m' (c.tc.loc Cert.Reference2Ideal.main_arg3) = m (c.tc.loc Cert.Kernel2Ideal.main_arg3))
    (h4 : m' (c.tc.loc Cert.Reference2Ideal.main_arg4) = m (c.tc.loc Cert.Kernel2Ideal.main_arg4))
    (h5 : m' (c.tc.loc Cert.Reference2Ideal.main_arg5) = m (c.tc.loc Cert.Kernel2Ideal.main_arg5))
    (h6 : m' (c.tc.loc Cert.Reference2Ideal.main_arg6) = m (c.tc.loc Cert.Kernel2Ideal.main_arg6)) :
    (Cert.Reference2Ideal.Value.res_main_v36 m' c : Vec Ideal Cert.Reference2Ideal.S16896x1024 .f32) = Cert.Kernel2Ideal.Value.G7 m c := by
  funext i
  obtain ⟨t, j, rfl⟩ : ∃ (t : Fin 16896) (j : Fin 1024), i = ix2 t j := ⟨i 0, i 1, ValueIdx.eq_ix2 (n0 := 16896) (n1 := 1024) i⟩
  refine (Cert.Reference2Ideal.Ref.res_apply m' c t j).trans ?_
  refine Eq.trans ?_ (Cert.Kernel2Ideal.Layer.result_apply m c t j).symm
  rw [h0, h1, h2, h3, h4, h5, h6]
  exact (halved_eq _ _ _ _ 8 _ _ _ t j fun e he => hk e he t t.isLt).symm

end Cert.LayerEquation

end

end
-- ==== Proof.Products.lean ====
/-
  The product of two arrays, and a tile of it: the tile's rows of the one with the tile's columns of the other make that
  tile of the product.
-/
module

public import Idealize.ShloMosaic.Lib.MatmulPlain
public import Idealize.ShloMosaic.Lib.IdealHost
public import Idealize.ShloMosaic.Lib.Pipeline.Value
public import Idealize.ShloMosaic.Lib.StackMember
public import Idealize.ShloMosaic.Lib.ValueLayout
public import Idealize.ShloMosaic.PureOps.IdealRules

@[expose] public section

noncomputable section

namespace Cert.Products

open Idealize.ShloMosaic Idealize.ShloMosaic.ValueIdx

variable {M K N m n : ℕ}

/-- The offsets of a whole array. -/
theorem zeros : (![0, 0] : Fin 2 → Nat) = fun _ => 0 := funext fun a => by fin_cases a <;> rfl

/-- The product's entry at a row and a column. -/
def entry (x : (⟨2, ![M, K]⟩ : Shape).Idx → EReal) (w : (⟨2, ![K, N]⟩ : Shape).Idx → EReal) (r : Fin M) (j : Fin N) : EReal :=
  ∑ d : Fin K, x (ix2 r d) * w (ix2 d j)

/-- The product. -/
def times (x : (⟨2, ![M, K]⟩ : Shape).Idx → EReal) (w : (⟨2, ![K, N]⟩ : Shape).Idx → EReal) : (⟨2, ![M, N]⟩ : Shape).Idx → EReal :=
  fun i => entry x w (i 0) (i 1)

/-- A kernel's product, accumulated on zero. -/
theorem kernel_product {φ₁ φ₂ : FTy} (x : FVec Ideal ⟨2, ![M, K]⟩ φ₁) (w : FVec Ideal ⟨2, ![K, N]⟩ φ₂) (r : Fin M) (j : Fin N) :
    FloatOps.matmul (DotDims.plain M K N) none x w (constant ⟨2, ![M, N]⟩ .f32 0x00000000#32) (ix2 r j) = entry x w r j := by
  rw [Ideal.matmul_plain_apply, constant_apply]
  exact (congrArg (· + _) Ideal.ofBits_zero_f32).trans (zero_add _)

/-- The host's product. -/
theorem host_product (x : FVec Ideal ⟨2, ![M, K]⟩ .f32) (w : FVec Ideal ⟨2, ![K, N]⟩ .f32) (r : Fin M) (j : Fin N) :
    (Host.dotGeneral (DotDims.plain M K N) none x w : FVec Ideal ⟨2, ![M, N]⟩ .f32) (ix2 r j) = entry x w r j :=
  StackMember.dotGeneral_plain_apply none x w r j

/-- A tile's entry is the product's, where the tile's rows and columns are the product's. -/
theorem entry_tile (x : (⟨2, ![M, K]⟩ : Shape).Idx → EReal) (w : (⟨2, ![K, N]⟩ : Shape).Idx → EReal)
    (bx : (⟨2, ![m, K]⟩ : Shape).Idx → EReal) (bw : (⟨2, ![K, n]⟩ : Shape).Idx → EReal) (r : Fin m) (j : Fin n) (R : Fin M) (J : Fin N)
    (hx : ∀ d, bx (ix2 r d) = x (ix2 R d)) (hw : ∀ d, bw (ix2 d j) = w (ix2 d J)) : entry bx bw r j = entry x w R J :=
  Finset.sum_congr rfl fun d _ => congrArg₂ (fun y z : EReal => y * z) (hx d) (hw d)

end Cert.Products

end

end
-- ==== Proof.Project.lean ====
/-
  The first layer's projection: its kernel's tiles of 512 tokens by 512 columns make the product of the tokens and the
  matrix, which is what its reference computes.
-/
module

public import proofs.«01_k».proof.Proof.Products
public import proofs.«01_k».proof.Proof.Gen.Kernel3Ideal.Value
public import proofs.«01_k».proof.Proof.Gen.Reference3Ideal.Run

@[expose] public section

noncomputable section

namespace Cert.Kernel3Ideal.Project

open Idealize.ShloMosaic Idealize.ShloMosaic.ValueIdx Idealize.ShloMosaic.TcCoe Idealize.SL.Sem
open Cert.Kernel3Ideal Cert.Kernel3Ideal.Gen Cert.Products

variable (m : (ℓ : Loc nD τ sig) → Buf (Elt Ideal) ℓ) (c : Dev nD)

/-- The body's result is its two blocks' product. -/
theorem out_apply (x : Vec Ideal S512x1024 .f32) (w : Vec Ideal S1024x512 .bf16) (r : Fin 512) (j : Fin 512) :
    out0_2 x w (ix2 r j) = entry (M := 512) (K := 1024) (N := 512) x w r j := by
  unfold out0_2
  rw [View.canon_cons_unit_zero (S := S512x512) zeros, View.ld_unit_zero (S := S512x1024) zeros, View.ld_unit_zero (S := S1024x512) zeros]
  unfold k0_pay1
  simp only [shapeCast_self]
  exact kernel_product (φ₁ := .bf16) (φ₂ := .bf16) x w r j

/-- The matrix the call takes is the argument. -/
theorem V_v0 : (V m c main_v0 : Vec Ideal S1024x2048 .bf16) = m (c.tc.loc main_arg1) := by
  show StableHlo.after hostOps0 _ (Proc.devRef .tc main_v0) = _
  after_results
  rfl

/-- A point's tile: its rows and its columns. -/
theorem index0 (t : Fin cfg0.N) : win0_0.index t 0 = t.val % 33 ∧ win0_0.index t 1 = 0 := by
  revert t; decide +kernel
theorem index1 (t : Fin cfg0.N) : win0_1.index t 0 = 0 ∧ win0_1.index t 1 = t.val / 33 := by
  revert t; decide +kernel
theorem index2 (t : Fin cfg0.N) : win0_2.index t 0 = t.val % 33 ∧ win0_2.index t 1 = t.val / 33 := by
  revert t; decide +kernel

/-- The product of the arguments. -/
abbrev product : Vec Ideal S16896x2048 .f32 :=
  times (M := 16896) (K := 1024) (N := 2048) (m (c.tc.loc main_arg0)) (m (c.tc.loc main_arg1))

/-- The block written back at a point is that point's tile of the product. -/
theorem flushed_eq (t : Fin cfg0.N) : (dats m 0 c).flushed 2 t = ((cfg0.win 2).blk t).view.read (Elt Ideal) (product m c) := by
  funext i
  rw [View.read_apply, Value.flushed2 m c t]
  obtain ⟨r, j, rfl⟩ : ∃ (r : Fin 512) (j : Fin 512), i = ix2 r j := ⟨i 0, i 1, eq_ix2 (n0 := 512) (n1 := 512) i⟩
  refine (out_apply (iblk m c 0 t) (iblk m c 1 t) r j).trans (entry_tile _ _ _ _ _ _ _ _ (fun d => ?_) fun d => ?_)
  · unfold iblk
    rw [View.read_apply]
    refine (congrFun (V_main_arg0 m c) _).trans (congrArg (m (c.tc.loc main_arg0)) (funext fun a => Fin.ext ?_))
    match a with
    | 0 => show win0_0.index t 0 * 512 + 1 * r.val = win0_2.index t 0 * 512 + 1 * r.val; rw [(index0 t).1, (index2 t).1]
    | 1 => show win0_0.index t 1 * 1024 + 1 * d.val = d.val; rw [(index0 t).2]; omega
  · unfold iblk
    rw [View.read_apply]
    refine (congrFun (V_v0 m c) _).trans (congrArg (m (c.tc.loc main_arg1)) (funext fun a => Fin.ext ?_))
    match a with
    | 0 => show win0_1.index t 0 * 1024 + 1 * d.val = d.val; rw [(index1 t).1]; omega
    | 1 => show win0_1.index t 1 * 512 + 1 * j.val = win0_2.index t 1 * 512 + 1 * j.val; rw [(index1 t).2, (index2 t).2]

/-- The tiles cover the array, so it ends holding the product. -/
theorem final : (dats m 0 c).arrAt 2 cfg0.N = product m c :=
  (dats m 0 c).arrAt_eq_of_cover 2 _ (fun t _ => flushed_eq m c t) fun (i : S16896x2048.Idx) => by
    have h0 : (i 0).val < 16896 := (i 0).isLt
    have h1 : (i 1).val < 2048 := (i 1).isLt
    obtain ⟨t, ht⟩ : ∃ t : Fin cfg0.N, t.val = (i 1).val / 512 * 33 + (i 0).val / 512 :=
      ⟨⟨_, lt_of_lt_of_eq (b := 132) (by omega) (show cfg0.N = 132 from N_0).symm⟩, rfl⟩
    refine ⟨t, flush0_2 t, ?_⟩
    show i ∈ ((View.whole main_v1).slice (win0_2.rect t)).set
    rw [View.set_slice_whole, Rect.mem_set_unit]
    intro a
    match a with
    | ⟨0, _⟩ => show win0_2.index t 0 * 512 ≤ (i 0).val ∧ (i 0).val < win0_2.index t 0 * 512 + 512
                rw [(index2 t).1, ht]; omega
    | ⟨1, _⟩ => show win0_2.index t 1 * 512 ≤ (i 1).val ∧ (i 1).val < win0_2.index t 1 * 512 + 512
                rw [(index2 t).2, ht]; omega

/-- The reference's product is the product. -/
theorem reference_eq (x : FVec Ideal Cert.Reference3Ideal.S16896x1024 .f32) (w : FVec Ideal Cert.Reference3Ideal.S1024x2048 .f32) :
    (Host.dotGeneral Cert.Reference3Ideal.dot_S16896x1024_S1024x2048_S16896x2048_1_0_0_1_n_n none x w : FVec Ideal Cert.Reference3Ideal.S16896x2048 .f32)
      = times (M := 16896) (K := 1024) (N := 2048) x w := by
  funext i
  obtain ⟨r, j, rfl⟩ : ∃ (r : Fin 16896) (j : Fin 2048), i = ix2 r j := ⟨i 0, i 1, eq_ix2 (n0 := 16896) (n1 := 2048) i⟩
  exact host_product x w r j

end Cert.Kernel3Ideal.Project

end

end
-- ==== Proof.Project4.lean ====
/-
  The second layer's projection: its kernel's tiles make the product of the tokens and the matrix's first columns, twice,
  and its reference keeps those columns of the product with the whole matrix.
-/
module

public import proofs.«01_k».proof.Proof.Products
public import proofs.«01_k».proof.Proof.Gen.Kernel4Ideal.Value
public import proofs.«01_k».proof.Proof.Gen.Reference4Ideal.Run

@[expose] public section

noncomputable section

namespace Cert.Kernel4Ideal.Project

open Idealize.ShloMosaic Idealize.ShloMosaic.ValueIdx Idealize.ShloMosaic.TcCoe Idealize.SL.Sem
open Cert.Kernel4Ideal Cert.Kernel4Ideal.Gen Cert.Products

variable (m : (ℓ : Loc nD τ sig) → Buf (Elt Ideal) ℓ) (c : Dev nD)

/-- The body's two results are its two blocks' product. -/
theorem outs_apply (x : Vec Ideal S512x1024 .f32) (w : Vec Ideal S1024x512 .bf16) (r : Fin 512) (j : Fin 512) :
    out0_2 x w (ix2 r j) = entry (M := 512) (K := 1024) (N := 512) x w r j
      ∧ out0_3 x w (ix2 r j) = entry (M := 512) (K := 1024) (N := 512) x w r j := by
  unfold out0_2 out0_3
  rw [View.canon_cons_unit_zero (S := S512x512) zeros, View.canon_cons_unit_zero (S := S512x512) zeros, View.ld_unit_zero (S := S512x1024) zeros,
    View.ld_unit_zero (S := S1024x512) zeros]
  unfold k0_pay2 k0_pay1
  simp only [shapeCast_self]
  exact ⟨kernel_product (φ₁ := .bf16) (φ₂ := .bf16) x w r j, kernel_product (φ₁ := .bf16) (φ₂ := .bf16) x w r j⟩

/-- The matrix's columns before the gates'. -/
abbrev columns (w : FVec Ideal S1024x3088 .f32) : FVec Ideal S1024x3072 .f32 := extractStridedSlice S1024x3072 ![0, 0] w slices_S1024x3088_S1024x3072_0_0

/-- The matrix the call takes is those columns of the argument. -/
theorem V_v1 : (V m c main_v1 : Vec Ideal S1024x3072 .bf16) = columns (m (c.tc.loc main_arg1)) := by
  show StableHlo.after hostOps0 _ (Proc.devRef .tc main_v1) = _
  after_results
  rfl

/-- A point's tile: its rows and its columns. -/
theorem index0 (t : Fin cfg0.N) : win0_0.index t 0 = t.val % 33 ∧ win0_0.index t 1 = 0 := by
  revert t; decide +kernel
theorem index1 (t : Fin cfg0.N) : win0_1.index t 0 = 0 ∧ win0_1.index t 1 = t.val / 33 := by
  revert t; decide +kernel
theorem index2 (t : Fin cfg0.N) : win0_2.index t 0 = t.val % 33 ∧ win0_2.index t 1 = t.val / 33 := by
  revert t; decide +kernel
theorem index3 (t : Fin cfg0.N) : win0_3.index t 0 = t.val % 33 ∧ win0_3.index t 1 = t.val / 33 := by
  revert t; decide +kernel

/-- The product of the tokens and the matrix's columns. -/
abbrev product : S16896x3072.Idx → EReal :=
  times (M := 16896) (K := 1024) (N := 3072) (m (c.tc.loc main_arg0)) (columns (m (c.tc.loc main_arg1)))

/-- The product of a point's blocks is that point's tile of the product. -/
theorem tile (t : Fin cfg0.N) (r : Fin 512) (j : Fin 512) (R : Fin 16896) (J : Fin 3072) (hR : R.val = t.val % 33 * 512 + r.val)
    (hJ : J.val = t.val / 33 * 512 + j.val) :
    entry (M := 512) (K := 1024) (N := 512) (iblk m c 0 t) (iblk m c 1 t) r j = product m c (ix2 R J) := by
  refine entry_tile _ _ _ _ _ _ _ _ (fun d => ?_) fun d => ?_
  · unfold iblk
    rw [View.read_apply]
    refine (congrFun (V_main_arg0 m c) _).trans (congrArg (m (c.tc.loc main_arg0)) (funext fun a => Fin.ext ?_))
    match a with
    | 0 => show win0_0.index t 0 * 512 + 1 * r.val = R.val; rw [(index0 t).1, hR]; omega
    | 1 => show win0_0.index t 1 * 1024 + 1 * d.val = d.val; rw [(index0 t).2]; omega
  · unfold iblk
    rw [View.read_apply]
    refine (congrFun (V_v1 m c) _).trans (congrArg (columns (m (c.tc.loc main_arg1))) (funext fun a => Fin.ext ?_))
    match a with
    | 0 => show win0_1.index t 0 * 1024 + 1 * d.val = d.val; rw [(index1 t).1]; omega
    | 1 => show win0_1.index t 1 * 512 + 1 * j.val = J.val; rw [(index1 t).2, hJ]; omega

/-- The blocks written back at a point are that point's tile of the product. -/
theorem flushed_eq (t : Fin cfg0.N) : (dats m 0 c).flushed 2 t = ((cfg0.win 2).blk t).view.read (Elt Ideal) (product m c)
    ∧ (dats m 0 c).flushed 3 t = ((cfg0.win 3).blk t).view.read (Elt Ideal) (product m c) := by
  constructor
  · funext i
    rw [View.read_apply, Value.flushed2 m c t]
    obtain ⟨r, j, rfl⟩ : ∃ (r : Fin 512) (j : Fin 512), i = ix2 r j := ⟨i 0, i 1, eq_ix2 (n0 := 512) (n1 := 512) i⟩
    refine (outs_apply (iblk m c 0 t) (iblk m c 1 t) r j).1.trans (tile m c t r j _ _ ?_ ?_)
    · show win0_2.index t 0 * 512 + 1 * r.val = _; rw [(index2 t).1]; omega
    · show win0_2.index t 1 * 512 + 1 * j.val = _; rw [(index2 t).2]; omega
  · funext i
    rw [View.read_apply, Value.flushed3 m c t]
    obtain ⟨r, j, rfl⟩ : ∃ (r : Fin 512) (j : Fin 512), i = ix2 r j := ⟨i 0, i 1, eq_ix2 (n0 := 512) (n1 := 512) i⟩
    refine (outs_apply (iblk m c 0 t) (iblk m c 1 t) r j).2.trans (tile m c t r j _ _ ?_ ?_)
    · show win0_3.index t 0 * 512 + 1 * r.val = _; rw [(index3 t).1]; omega
    · show win0_3.index t 1 * 512 + 1 * j.val = _; rw [(index3 t).2]; omega

/-- A point whose tile holds a given entry. -/
theorem point (i : S16896x3072.Idx) : ∃ t : Fin cfg0.N, t.val % 33 = (i 0).val / 512 ∧ t.val / 33 = (i 1).val / 512 := by
  have h0 : (i 0).val < 16896 := (i 0).isLt
  have h1 : (i 1).val < 3072 := (i 1).isLt
  refine ⟨⟨(i 1).val / 512 * 33 + (i 0).val / 512, lt_of_lt_of_eq (b := 198) (by omega) (show cfg0.N = 198 from N_0).symm⟩, ?_, ?_⟩ <;> simp only <;> omega

/-- The tiles cover the two arrays, so both end holding the product. -/
theorem final2 : (dats m 0 c).arrAt 2 cfg0.N = product m c :=
  (dats m 0 c).arrAt_eq_of_cover 2 _ (fun t _ => (flushed_eq m c t).1) fun (i : S16896x3072.Idx) => by
    obtain ⟨t, hr, hj⟩ := point i
    refine ⟨t, flush0_2 t, ?_⟩
    show i ∈ ((View.whole main_v2_0).slice (win0_2.rect t)).set
    rw [View.set_slice_whole, Rect.mem_set_unit]
    intro a
    match a with
    | ⟨0, _⟩ => show win0_2.index t 0 * 512 ≤ (i 0).val ∧ (i 0).val < win0_2.index t 0 * 512 + 512
                rw [(index2 t).1, hr]; omega
    | ⟨1, _⟩ => show win0_2.index t 1 * 512 ≤ (i 1).val ∧ (i 1).val < win0_2.index t 1 * 512 + 512
                rw [(index2 t).2, hj]; omega
theorem final3 : (dats m 0 c).arrAt 3 cfg0.N = product m c :=
  (dats m 0 c).arrAt_eq_of_cover 3 _ (fun t _ => (flushed_eq m c t).2) fun (i : S16896x3072.Idx) => by
    obtain ⟨t, hr, hj⟩ := point i
    refine ⟨t, flush0_3 t, ?_⟩
    show i ∈ ((View.whole main_v2_1).slice (win0_3.rect t)).set
    rw [View.set_slice_whole, Rect.mem_set_unit]
    intro a
    match a with
    | ⟨0, _⟩ => show win0_3.index t 0 * 512 ≤ (i 0).val ∧ (i 0).val < win0_3.index t 0 * 512 + 512
                rw [(index3 t).1, hr]; omega
    | ⟨1, _⟩ => show win0_3.index t 1 * 512 ≤ (i 1).val ∧ (i 1).val < win0_3.index t 1 * 512 + 512
                rw [(index3 t).2, hj]; omega

/-- The reference's columns of the product are the product with the matrix's columns. -/
theorem reference_eq (x : FVec Ideal Cert.Reference4Ideal.S16896x1024 .f32) (w : FVec Ideal Cert.Reference4Ideal.S1024x3088 .f32) :
    (extractStridedSlice Cert.Reference4Ideal.S16896x3072 ![0, 0]
        (Host.dotGeneral Cert.Reference4Ideal.dot_S16896x1024_S1024x3088_S16896x3088_1_0_0_1_n_n none x w : FVec Ideal Cert.Reference4Ideal.S16896x3088 .f32)
        Cert.Reference4Ideal.Gen.slices_S16896x3088_S16896x3072_0_0 : FVec Ideal Cert.Reference4Ideal.S16896x3072 .f32)
      = times (M := 16896) (K := 1024) (N := 3072) x (columns w) := by
  funext i
  obtain ⟨r, j, rfl⟩ : ∃ (r : Fin 16896) (j : Fin 3072), i = ix2 r j := ⟨i 0, i 1, eq_ix2 (n0 := 16896) (n1 := 3072) i⟩
  have hj : j.val < 3088 := by omega
  refine (extractStridedSlice_apply (s := Cert.Reference4Ideal.S16896x3088) (t := Cert.Reference4Ideal.S16896x3072) ![0, 0] _ _ (ix2 r j)
    (ix2 r ⟨j.val, hj⟩) fun a => ?_).trans ((host_product x w r ⟨j.val, hj⟩).trans ?_)
  · match a with
    | ⟨0, _⟩ => exact (Nat.zero_add _).symm
    | ⟨1, _⟩ => exact (Nat.zero_add _).symm
  · refine entry_tile _ _ _ _ _ _ _ _ (fun d => rfl) fun d => Eq.symm ?_
    refine extractStridedSlice_apply (s := S1024x3088) (t := S1024x3072) ![0, 0] w _ (ix2 d j) (ix2 d ⟨j.val, hj⟩) fun a => ?_
    match a with
    | ⟨0, _⟩ => exact (Nat.zero_add _).symm
    | ⟨1, _⟩ => exact (Nat.zero_add _).symm

end Cert.Kernel4Ideal.Project

end

end
-- ==== Proof.Project5.lean ====
/-
  The memory's keys or values: its kernel's one tile is the product of the memory and the matrix, which is what its
  reference computes.
-/
module

public import proofs.«01_k».proof.Proof.Products
public import proofs.«01_k».proof.Proof.Gen.Kernel5Ideal.Value
public import proofs.«01_k».proof.Proof.Gen.Reference5Ideal.Run

@[expose] public section

noncomputable section

namespace Cert.Kernel5Ideal.Project

open Idealize.ShloMosaic Idealize.ShloMosaic.ValueIdx Idealize.ShloMosaic.TcCoe Idealize.SL.Sem
open Cert.Kernel5Ideal Cert.Kernel5Ideal.Gen Cert.Products

variable (m : (ℓ : Loc nD τ sig) → Buf (Elt Ideal) ℓ) (c : Dev nD)

/-- The body's result is its two blocks' product. -/
theorem out_apply (x : Vec Ideal S256x1024 .f32) (w : Vec Ideal S1024x1024 .bf16) (r : Fin 256) (j : Fin 1024) :
    out0_2 x w (ix2 r j) = entry (M := 256) (K := 1024) (N := 1024) x w r j := by
  unfold out0_2
  rw [View.canon_cons_unit_zero (S := S256x1024) zeros, View.ld_unit_zero (S := S256x1024) zeros, View.ld_unit_zero (S := S1024x1024) zeros]
  unfold k0_pay1
  simp only [shapeCast_self]
  exact kernel_product (φ₁ := .bf16) (φ₂ := .bf16) x w r j

/-- The matrix the call takes is the argument. -/
theorem V_v0 : (V m c main_v0 : Vec Ideal S1024x1024 .bf16) = m (c.tc.loc main_arg1) := by
  show StableHlo.after hostOps0 _ (Proc.devRef .tc main_v0) = _
  after_results
  rfl

/-- Every block is its whole array. -/
theorem index (t : Fin cfg0.N) (a : Fin 2) : win0_0.index t a = 0 ∧ win0_1.index t a = 0 ∧ win0_2.index t a = 0 := by
  revert t a; decide +kernel

/-- The product of the arguments. -/
abbrev product : S256x1024.Idx → EReal :=
  times (M := 256) (K := 1024) (N := 1024) (m (c.tc.loc main_arg0)) (m (c.tc.loc main_arg1))

/-- What is written back is the product. -/
theorem flushed_eq (t : Fin cfg0.N) : (dats m 0 c).flushed 2 t = ((cfg0.win 2).blk t).view.read (Elt Ideal) (product m c) := by
  have place (k n p : ℕ) (h : k = 0) : k * n + 1 * p = p := by rw [h]; omega
  funext i
  rw [View.read_apply, Value.flushed2 m c t]
  obtain ⟨r, j, rfl⟩ : ∃ (r : Fin 256) (j : Fin 1024), i = ix2 r j := ⟨i 0, i 1, eq_ix2 (n0 := 256) (n1 := 1024) i⟩
  refine (out_apply (iblk m c 0 t) (iblk m c 1 t) r j).trans (entry_tile _ _ _ _ _ _ _ _ (fun d => ?_) fun d => ?_)
  · unfold iblk
    rw [View.read_apply]
    refine (congrFun (V_main_arg0 m c) _).trans (congrArg (m (c.tc.loc main_arg0)) (funext fun a => Fin.ext ?_))
    match a with
    | 0 => exact (place _ 256 r.val (index t 0).1).trans (place _ 256 r.val (index t 0).2.2).symm
    | 1 => exact place _ 1024 d.val (index t 1).1
  · unfold iblk
    rw [View.read_apply]
    refine (congrFun (V_v0 m c) _).trans (congrArg (m (c.tc.loc main_arg1)) (funext fun a => Fin.ext ?_))
    match a with
    | 0 => exact place _ 1024 d.val (index t 0).2.1
    | 1 => exact (place _ 1024 j.val (index t 1).2.1).trans (place _ 1024 j.val (index t 1).2.2).symm

/-- The array ends holding the product. -/
theorem final : (dats m 0 c).arrAt 2 cfg0.N = product m c :=
  (dats m 0 c).arrAt_eq_of_cover 2 _ (fun t _ => flushed_eq m c t) fun (i : S256x1024.Idx) => by
    have t : Fin cfg0.N := ⟨0, lt_of_lt_of_eq (b := 1) Nat.zero_lt_one (show cfg0.N = 1 from N_0).symm⟩
    refine ⟨t, flush0_2 t, ?_⟩
    show i ∈ ((View.whole main_v1).slice (win0_2.rect t)).set
    rw [View.set_slice_whole, Rect.mem_set_unit]
    intro a
    match a with
    | ⟨0, _⟩ => show win0_2.index t 0 * 256 ≤ (i 0).val ∧ (i 0).val < win0_2.index t 0 * 256 + 256
                have h : (i 0).val < 256 := (i 0).isLt
                rw [(index t 0).2.2]; omega
    | ⟨1, _⟩ => show win0_2.index t 1 * 1024 ≤ (i 1).val ∧ (i 1).val < win0_2.index t 1 * 1024 + 1024
                have h : (i 1).val < 1024 := (i 1).isLt
                rw [(index t 1).2.2]; omega

/-- The reference's product is the product. -/
theorem reference_eq (x : FVec Ideal Cert.Reference5Ideal.S256x1024 .f32) (w : FVec Ideal Cert.Reference5Ideal.S1024x1024 .f32) :
    (Host.dotGeneral Cert.Reference5Ideal.dot_S256x1024_S1024x1024_S256x1024_1_0_0_1_n_n none x w : FVec Ideal Cert.Reference5Ideal.S256x1024 .f32)
      = times (M := 256) (K := 1024) (N := 1024) x w := by
  funext i
  obtain ⟨r, j, rfl⟩ : ∃ (r : Fin 256) (j : Fin 1024), i = ix2 r j := ⟨i 0, i 1, eq_ix2 (n0 := 256) (n1 := 1024) i⟩
  exact host_product x w r j

end Cert.Kernel5Ideal.Project

end

end
-- ==== Proof.Project6.lean ====
/-
  The second layer's gates: the logarithm of the logistic function of the tokens' product with the gates' matrix and their
  bias. Its kernel makes it by tiles of 512 tokens, its reference at once; the two differ in how they write a negation.
-/
module

public import proofs.«01_k».proof.Proof.Products
public import proofs.«01_k».proof.Proof.Gen.Kernel6Ideal.Value
public import proofs.«01_k».proof.Proof.Gen.Reference6Ideal.Run

@[expose] public section

noncomputable section

namespace Cert.Kernel6Ideal.Project

open Idealize.ShloMosaic Idealize.ShloMosaic.ValueIdx Idealize.ShloMosaic.TcCoe Idealize.SL.Sem
open Cert.Kernel6Ideal Cert.Kernel6Ideal.Gen Cert.Products

variable (m : (ℓ : Loc nD τ sig) → Buf (Elt Ideal) ℓ) (c : Dev nD)

/-- The logarithm of the logistic function, from its argument's negation. -/
def softplusNeg (y : EReal) : EReal :=
  -(Scalar.select (Ideal.cmp .une (y - 0) (y - 0)) (y + 0) (max y 0 + Ideal.log1p (Ideal.exp (-(max (y - 0) (-(y - 0)))))) : EReal)

/-- A gate, from its product and its bias. -/
def gate (p b : EReal) : EReal := softplusNeg (-(p + b))

/-- The kernel writes its negations as differences from zero. -/
theorem kernel_form (z o : EReal) (ho : o = 0) :
    o - (Scalar.select (Ideal.cmp .one ((o - z) - o) ((o - z) - o)) ((o - z) + o)
      (max (o - z) o + Ideal.log1p (Ideal.exp (o - (max ((o - z) - o) (-((o - z) - o)))))) : EReal) = softplusNeg (-z) := by
  subst ho
  simp only [softplusNeg, zero_sub]
  rfl

/-- The body's result: a tile of gates. -/
theorem out_apply (x : Vec Ideal S512x1024 .f32) (w : Vec Ideal S1024x128 .bf16) (b : Vec Ideal S1x128 .f32) (r : Fin 512) (j : Fin 128) :
    out0_3 x w b (ix2 r j) = gate (entry (M := 512) (K := 1024) (N := 128) x w r j) (b (ix2 0 j)) := by
  unfold out0_3
  rw [View.canon_cons_unit_zero (S := S512x128) zeros, View.ld_unit_zero (S := S512x1024) zeros, View.ld_unit_zero (S := S1024x128) zeros,
    View.ld_unit_zero (S := S1x128) zeros]
  unfold k0_pay1
  simp only [shapeCast_self]
  refine (kernel_form _ _ Ideal.ofBits_zero_f32).trans (congrArg (fun z : EReal => softplusNeg (-z)) ?_)
  exact congrArg₂ (fun y z : EReal => y + z) (kernel_product (φ₁ := .bf16) (φ₂ := .bf16) x w r j)
    (broadcastTo_1b_ab_apply b broadcasts_S1x128_S512x128 r j)

/-- The matrix the call takes is the argument. -/
theorem V_v0 : (V m c main_v0 : Vec Ideal S1024x128 .bf16) = m (c.tc.loc main_arg1) := by
  show StableHlo.after hostOps0 _ (Proc.devRef .tc main_v0) = _
  after_results
  rfl

/-- The bias the call takes is the argument as a row. -/
theorem V_v1 : (V m c main_v1 : Vec Ideal S1x128 .f32) = shapeCast S1x128 (m (c.tc.loc main_arg2) : Vec Ideal S128 .f32) shapeCasts_S128_S1x128 := by
  show StableHlo.after hostOps0 _ (Proc.devRef .tc main_v1) = _
  after_results
  rfl

/-- A point's tile: its rows, and every column. -/
theorem index0 (t : Fin cfg0.N) : win0_0.index t 0 = t.val ∧ win0_0.index t 1 = 0 := by
  revert t; decide +kernel
theorem index1 (t : Fin cfg0.N) : win0_1.index t 0 = 0 ∧ win0_1.index t 1 = 0 := by
  revert t; decide +kernel
theorem index2 (t : Fin cfg0.N) : win0_2.index t 0 = 0 ∧ win0_2.index t 1 = 0 := by
  revert t; decide +kernel
theorem index3 (t : Fin cfg0.N) : win0_3.index t 0 = t.val ∧ win0_3.index t 1 = 0 := by
  revert t; decide +kernel

/-- The gates of tokens, a matrix and a bias. -/
def gates (x : S16896x1024.Idx → EReal) (w : S1024x128.Idx → EReal) (b : S128.Idx → EReal) : S16896x128.Idx → EReal :=
  fun i => gate (entry (M := 16896) (K := 1024) (N := 128) x w (i 0) (i 1)) (b (ix1 (i 1)))

/-- The gates of the arguments. -/
abbrev result : S16896x128.Idx → EReal := gates (m (c.tc.loc main_arg0)) (m (c.tc.loc main_arg1)) (m (c.tc.loc main_arg2))

/-- The block written back at a point is that point's tile of the gates. -/
theorem flushed_eq (t : Fin cfg0.N) : (dats m 0 c).flushed 3 t = ((cfg0.win 3).blk t).view.read (Elt Ideal) (result m c) := by
  funext i
  rw [View.read_apply, Value.flushed3 m c t]
  obtain ⟨r, j, rfl⟩ : ∃ (r : Fin 512) (j : Fin 128), i = ix2 r j := ⟨i 0, i 1, eq_ix2 (n0 := 512) (n1 := 128) i⟩
  refine (out_apply (iblk m c 0 t) (iblk m c 1 t) (iblk m c 2 t) r j).trans (congrArg₂ gate (entry_tile _ _ _ _ _ _ _ _ (fun d => ?_) fun d => ?_) ?_)
  · unfold iblk
    rw [View.read_apply]
    refine (congrFun (V_main_arg0 m c) _).trans (congrArg (m (c.tc.loc main_arg0)) (funext fun a => Fin.ext ?_))
    match a with
    | 0 => show win0_0.index t 0 * 512 + 1 * r.val = win0_3.index t 0 * 512 + 1 * r.val; rw [(index0 t).1, (index3 t).1]
    | 1 => show win0_0.index t 1 * 1024 + 1 * d.val = d.val; rw [(index0 t).2]; omega
  · unfold iblk
    rw [View.read_apply]
    refine (congrFun (V_v0 m c) _).trans (congrArg (m (c.tc.loc main_arg1)) (funext fun a => Fin.ext ?_))
    match a with
    | 0 => show win0_1.index t 0 * 1024 + 1 * d.val = d.val; rw [(index1 t).1]; omega
    | 1 => show win0_1.index t 1 * 128 + 1 * j.val = win0_3.index t 1 * 128 + 1 * j.val; rw [(index1 t).2, (index3 t).2]
  · unfold iblk
    rw [View.read_apply]
    refine (congrFun (V_v1 m c) _).trans (Eq.trans (congrArg _ (funext fun a => Fin.ext ?_))
      ((shapeCast_a_1a_apply (a := 128) (m (c.tc.loc main_arg2)) _ (0 : Fin 1) j).trans
        (congrArg (m (c.tc.loc main_arg2)) (funext fun a => Fin.ext ?_))))
    · match a with
      | 0 => show win0_2.index t 0 * 1 + 1 * 0 = 0; rw [(index2 t).1]
      | 1 => show win0_2.index t 1 * 128 + 1 * j.val = j.val; rw [(index2 t).2]; omega
    · match a with
      | 0 => show j.val = win0_3.index t 1 * 128 + 1 * j.val; rw [(index3 t).2]; omega

/-- The tiles cover the array, so it ends holding the gates. -/
theorem final : (dats m 0 c).arrAt 3 cfg0.N = result m c :=
  (dats m 0 c).arrAt_eq_of_cover 3 _ (fun t _ => flushed_eq m c t) fun (i : S16896x128.Idx) => by
    have h0 : (i 0).val < 16896 := (i 0).isLt
    have h1 : (i 1).val < 128 := (i 1).isLt
    obtain ⟨t, ht⟩ : ∃ t : Fin cfg0.N, t.val = (i 0).val / 512 :=
      ⟨⟨_, lt_of_lt_of_eq (b := 33) (by omega) (show cfg0.N = 33 from N_0).symm⟩, rfl⟩
    refine ⟨t, flush0_3 t, ?_⟩
    show i ∈ ((View.whole main_v2).slice (win0_3.rect t)).set
    rw [View.set_slice_whole, Rect.mem_set_unit]
    intro a
    match a with
    | ⟨0, _⟩ => show win0_3.index t 0 * 512 ≤ (i 0).val ∧ (i 0).val < win0_3.index t 0 * 512 + 512
                rw [(index3 t).1, ht]; omega
    | ⟨1, _⟩ => show win0_3.index t 1 * 128 ≤ (i 1).val ∧ (i 1).val < win0_3.index t 1 * 128 + 128
                rw [(index3 t).2]; omega

/-- The reference's function of the gates' arguments, negated. -/
def hostSoftplusNeg (y z : FVec Ideal S16896x128 .f32) : FVec Ideal S16896x128 .f32 :=
  Host.negf (select (cmpf .une (subf y z) (subf y z)) (addf y z) (addf (maximumf y z) (Host.log1p (Host.exp (Host.negf (Host.absf (subf y z)))))))

/-- At an index it is that function of the entry. -/
theorem hostSoftplusNeg_apply (y z : FVec Ideal S16896x128 .f32) (i : S16896x128.Idx) (hz : z i = (0 : EReal)) :
    hostSoftplusNeg y z i = softplusNeg (y i) := by
  unfold softplusNeg
  rw [← hz]
  rfl

/-- The reference's result is the gates. -/
theorem reference_eq (x : FVec Ideal S16896x1024 .f32) (w : FVec Ideal S1024x128 .f32) (b : FVec Ideal S128 .f32) :
    hostSoftplusNeg (Host.negf (addf (Host.dotGeneral Cert.Reference6Ideal.dot_S16896x1024_S1024x128_S16896x128_1_0_0_1_n_n none x w)
        (broadcastInDim Cert.Reference6Ideal.S16896x128 ![0, 1] Cert.Reference6Ideal.Gen.bcast_S1x128_S16896x128_0_1
          (broadcastInDim Cert.Reference6Ideal.S1x128 ![1] Cert.Reference6Ideal.Gen.bcast_S128_S1x128_1 b))))
      (broadcastInDim Cert.Reference6Ideal.S16896x128 ![] Cert.Reference6Ideal.Gen.bcast_S_S16896x128 (constant Cert.Reference6Ideal.S_ .f32 0x00000000#32))
      = gates x w b := by
  funext i
  obtain ⟨r, j, rfl⟩ : ∃ (r : Fin 16896) (j : Fin 128), i = ix2 r j := ⟨i 0, i 1, eq_ix2 (n0 := 16896) (n1 := 128) i⟩
  refine (hostSoftplusNeg_apply _ _ _ ((broadcastInDim_scalar_apply _ _ _).trans Ideal.ofBits_zero_f32)).trans
    (congrArg (fun z : EReal => softplusNeg (-z)) (congrArg₂ (fun y z : EReal => y + z) (host_product x w r j) ?_))
  exact (broadcastInDim_apply _ _ _ _ (ix2 0 j) fun a => by match a with | 0 => rfl | 1 => rfl).trans
    (broadcastInDim_apply _ _ _ _ (ix1 j) fun a => by match a with | 0 => rfl)

end Cert.Kernel6Ideal.Project

end

end
-- ==== Proof.Project9.lean ====
/-
  The queries of the attention to the memory: the kernel's tiles, rounded on the way out, make the product of the tokens
  and the matrix.
-/
module

public import proofs.«01_k».proof.Proof.Products
public import proofs.«01_k».proof.Proof.Gen.Kernel9Ideal.Value
public import proofs.«01_k».proof.Proof.Gen.Reference9Ideal.Run

@[expose] public section

noncomputable section

namespace Cert.Kernel9Ideal.Project

open Idealize.ShloMosaic Idealize.ShloMosaic.ValueIdx Idealize.ShloMosaic.TcCoe Idealize.SL.Sem
open Cert.Kernel9Ideal Cert.Kernel9Ideal.Gen Cert.Products

variable (m : (ℓ : Loc nD τ sig) → Buf (Elt Ideal) ℓ) (c : Dev nD)

/-- The body's result is its two blocks' product. -/
theorem out_apply (x : Vec Ideal S512x1024 .f32) (w : Vec Ideal S1024x1024 .bf16) (r : Fin 512) (j : Fin 1024) :
    out0_2 x w (ix2 r j) = entry (M := 512) (K := 1024) (N := 1024) x w r j := by
  unfold out0_2
  rw [View.canon_cons_unit_zero (S := S512x1024) zeros, View.ld_unit_zero (S := S512x1024) zeros, View.ld_unit_zero (S := S1024x1024) zeros]
  unfold k0_pay1
  simp only [shapeCast_self]
  exact kernel_product (φ₁ := .bf16) (φ₂ := .bf16) x w r j

/-- The matrix the call takes is the argument. -/
theorem V_v0 : (V m c main_v0 : Vec Ideal S1024x1024 .bf16) = m (c.tc.loc main_arg1) := by
  show StableHlo.after hostOps0 _ (Proc.devRef .tc main_v0) = _
  after_results
  rfl

/-- A point's tile: its rows, and every column. -/
theorem index0 (t : Fin cfg0.N) : win0_0.index t 0 = t.val ∧ win0_0.index t 1 = 0 := by
  revert t; decide +kernel
theorem index1 (t : Fin cfg0.N) : win0_1.index t 0 = 0 ∧ win0_1.index t 1 = 0 := by
  revert t; decide +kernel
theorem index2 (t : Fin cfg0.N) : win0_2.index t 0 = t.val ∧ win0_2.index t 1 = 0 := by
  revert t; decide +kernel

/-- The product of the tokens and the matrix. -/
abbrev product : S16896x1024.Idx → EReal :=
  times (M := 16896) (K := 1024) (N := 1024) (m (c.tc.loc main_arg0)) (m (c.tc.loc main_arg1))

/-- The block written back at a point is that point's tile of the product. -/
theorem flushed_eq (t : Fin cfg0.N) : (dats m 0 c).flushed 2 t = ((cfg0.win 2).blk t).view.read (Elt Ideal) (product m c) := by
  funext i
  rw [View.read_apply, Value.flushed2 m c t]
  obtain ⟨r, j, rfl⟩ : ∃ (r : Fin 512) (j : Fin 1024), i = ix2 r j := ⟨i 0, i 1, eq_ix2 (n0 := 512) (n1 := 1024) i⟩
  refine (out_apply (iblk m c 0 t) (iblk m c 1 t) r j).trans (entry_tile _ _ _ _ _ _ _ _ (fun d => ?_) fun d => ?_)
  · unfold iblk
    rw [View.read_apply]
    refine (congrFun (V_main_arg0 m c) _).trans (congrArg (m (c.tc.loc main_arg0)) (funext fun a => Fin.ext ?_))
    match a with
    | 0 => show win0_0.index t 0 * 512 + 1 * r.val = win0_2.index t 0 * 512 + 1 * r.val; rw [(index0 t).1, (index2 t).1]
    | 1 => show win0_0.index t 1 * 1024 + 1 * d.val = d.val; rw [(index0 t).2]; omega
  · unfold iblk
    rw [View.read_apply]
    refine (congrFun (V_v0 m c) _).trans (congrArg (m (c.tc.loc main_arg1)) (funext fun a => Fin.ext ?_))
    match a with
    | 0 => show win0_1.index t 0 * 1024 + 1 * d.val = d.val; rw [(index1 t).1]; omega
    | 1 => show win0_1.index t 1 * 1024 + 1 * j.val = win0_2.index t 1 * 1024 + 1 * j.val; rw [(index1 t).2, (index2 t).2]

/-- The tiles cover the array, so it ends holding the product. -/
theorem final : (dats m 0 c).arrAt 2 cfg0.N = product m c :=
  (dats m 0 c).arrAt_eq_of_cover 2 _ (fun t _ => flushed_eq m c t) fun (i : S16896x1024.Idx) => by
    have h0 : (i 0).val < 16896 := (i 0).isLt
    have h1 : (i 1).val < 1024 := (i 1).isLt
    obtain ⟨t, ht⟩ : ∃ t : Fin cfg0.N, t.val = (i 0).val / 512 :=
      ⟨⟨(i 0).val / 512, lt_of_lt_of_eq (b := 33) (by omega) (show cfg0.N = 33 from N_0).symm⟩, rfl⟩
    refine ⟨t, flush0_2 t, ?_⟩
    show i ∈ ((View.whole main_v1).slice (win0_2.rect t)).set
    rw [View.set_slice_whole, Rect.mem_set_unit]
    intro a
    match a with
    | ⟨0, _⟩ => show win0_2.index t 0 * 512 ≤ (i 0).val ∧ (i 0).val < win0_2.index t 0 * 512 + 512
                rw [(index2 t).1, ht]; omega
    | ⟨1, _⟩ => show win0_2.index t 1 * 1024 ≤ (i 1).val ∧ (i 1).val < win0_2.index t 1 * 1024 + 1024
                rw [(index2 t).2]; omega

/-- The reference's product, rounded, is the product. -/
theorem reference_eq (x : FVec Ideal Cert.Reference9Ideal.S16896x1024 .f32) (w : FVec Ideal Cert.Reference9Ideal.S1024x1024 .f32) :
    (truncf .bf16 (Host.dotGeneral Cert.Reference9Ideal.dot_S16896x1024_S1024x1024_S16896x1024_1_0_0_1_n_n none x w
        : FVec Ideal Cert.Reference9Ideal.S16896x1024 .f32) Cert.Reference9Ideal.Gen.bitsLt_bf16_f32 : FVec Ideal Cert.Reference9Ideal.S16896x1024 .bf16)
      = times (M := 16896) (K := 1024) (N := 1024) x w := by
  funext i
  obtain ⟨r, j, rfl⟩ : ∃ (r : Fin 16896) (j : Fin 1024), i = ix2 r j := ⟨i 0, i 1, eq_ix2 (n0 := 16896) (n1 := 1024) i⟩
  exact host_product x w r j

end Cert.Kernel9Ideal.Project

end

end
-- ==== Proof.Residual.lean ====
/-
  The projection after an attention: the attention's rows times a matrix, the tokens' own rows added, and the sum
  normalized. The kernel does it tile by tile, its reference at once.
-/
module

public import proofs.«01_k».proof.Proof.Products
public import proofs.«01_k».proof.Proof.Tile
public import proofs.«01_k».proof.Proof.LayerRef
public import proofs.«01_k».proof.Proof.Gen.Kernel8Ideal.Value
public import proofs.«01_k».proof.Proof.Gen.Reference8Ideal.Run

@[expose] public section

noncomputable section

namespace Cert.Kernel8Ideal.Residual

open Idealize.ShloMosaic hiding ix1 ix2 ix3
open Idealize.ShloMosaic.ValueIdx Idealize.ShloMosaic.TcCoe Idealize.SL.Sem
open Cert.Kernel8Ideal Cert.Kernel8Ideal.Gen Cert.Products Cert.Experts

/-- The normalized row of a token, at a column, of the arguments. -/
def out (o : FVec Ideal S16896x1024 .bf16) (w : FVec Ideal S1024x1024 .f32) (x : FVec Ideal S16896x1024 .f32) (g b : FVec Ideal S1024 .f32)
    (t j : ℕ) : EReal :=
  norm (row (at2 (n0 := 16896) (n1 := 1024) x) (at2 (n0 := 16896) (n1 := 1024) (times (M := 16896) (K := 1024) (N := 1024) o w) t) t)
    (at1 (n0 := 1024) g) (at1 (n0 := 1024) b) j

/-- The array of them. -/
def result (o : FVec Ideal S16896x1024 .bf16) (w : FVec Ideal S1024x1024 .f32) (x : FVec Ideal S16896x1024 .f32) (g b : FVec Ideal S1024 .f32) :
    S16896x1024.Idx → EReal := fun i => out o w x g b (i 0).val (i 1).val

variable (m : (ℓ : Loc nD τ sig) → Buf (Elt Ideal) ℓ) (c : Dev nD)

/-- The blocks' product. -/
def tileProduct (o : Vec Ideal S512x1024 .bf16) (w : Vec Ideal S1024x1024 .bf16) : FVec Ideal S512x1024 .f32 :=
  matmul (φ₁ := .bf16) (φ₂ := .bf16) dot_S512x1024_S1024x1024_S512x1024_1_0_0_1_n_n none o w (constant S512x1024 .f32 0x00000000#32)

/-- The body normalizes the tokens' block and the blocks' product as the mixture's last point does its sum. -/
theorem out_eq (o : Vec Ideal S512x1024 .bf16) (w : Vec Ideal S1024x1024 .bf16) (x : Vec Ideal S512x1024 .f32) (g b : Vec Ideal S1x1024 .f32) :
    out0_5 o w x g b = Cert.Kernel2Ideal.Gen.k0_pay1 (F := Ideal) x (tileProduct o w) g b := by
  unfold out0_5
  rw [View.canon_cons_unit_zero (S := S512x1024) zeros, View.ld_unit_zero (S := S512x1024) zeros, View.ld_unit_zero (S := S512x1024) zeros,
    View.ld_unit_zero (S := S1024x1024) zeros, View.ld_unit_zero (S := S1x1024) zeros, View.ld_unit_zero (S := S1x1024) zeros]
  unfold k0_pay1 tileProduct
  simp only [shapeCast_self]
  unfold Cert.Kernel2Ideal.Gen.k0_pay1
  simp only [shapeCast_self]

/-- What the host makes of the arguments. -/
theorem V_v0 : (V m c main_v0 : Vec Ideal S1024x1024 .bf16) = m (c.tc.loc main_arg1) := by
  show StableHlo.after hostOps0 _ (Proc.devRef .tc main_v0) = _
  after_results
  rfl
theorem V_v1 : (V m c main_v1 : Vec Ideal S1x1024 .f32)
    = shapeCast S1x1024 (m (c.tc.loc main_arg3) : Vec Ideal S1024 .f32) shapeCasts_S1024_S1x1024 := by
  show StableHlo.after hostOps0 _ (Proc.devRef .tc main_v1) = _
  after_results
  rfl
theorem V_v2 : (V m c main_v2 : Vec Ideal S1x1024 .f32)
    = shapeCast S1x1024 (m (c.tc.loc main_arg4) : Vec Ideal S1024 .f32) shapeCasts_S1024_S1x1024 := by
  show StableHlo.after hostOps0 _ (Proc.devRef .tc main_v2) = _
  after_results
  rfl

/-- A point's blocks: its rows, the whole matrix, the whole scale and shift. -/
theorem index0 (t : Fin cfg0.N) : win0_0.index t 0 = t.val ∧ win0_0.index t 1 = 0 := by
  revert t; decide +kernel
theorem index1 (t : Fin cfg0.N) : win0_1.index t 0 = 0 ∧ win0_1.index t 1 = 0 := by
  revert t; decide +kernel
theorem index2 (t : Fin cfg0.N) : win0_2.index t 0 = t.val ∧ win0_2.index t 1 = 0 := by
  revert t; decide +kernel
theorem index3 (t : Fin cfg0.N) : win0_3.index t 0 = 0 ∧ win0_3.index t 1 = 0 := by
  revert t; decide +kernel
theorem index4 (t : Fin cfg0.N) : win0_4.index t 0 = 0 ∧ win0_4.index t 1 = 0 := by
  revert t; decide +kernel
theorem index5 (t : Fin cfg0.N) : win0_5.index t 0 = t.val ∧ win0_5.index t 1 = 0 := by
  revert t; decide +kernel

/-- A point's row is a token. -/
theorem token_lt (t : Fin cfg0.N) (r : Fin 512) : t.val * 512 + r.val < 16896 := by
  have h : t.val < 33 := lt_of_lt_of_eq t.isLt (show cfg0.N = 33 from N_0)
  have := r.isLt
  omega

/-- The product of a point's blocks is its rows of the product. -/
theorem product_apply (t : Fin cfg0.N) (r : Fin 512) (j : Fin 1024) :
    tileProduct (iblk m c 0 t) (iblk m c 1 t) (ix2 r j)
      = at2 (n0 := 16896) (n1 := 1024) (times (M := 16896) (K := 1024) (N := 1024) (m (c.tc.loc main_arg0)) (m (c.tc.loc main_arg1)))
          (t.val * 512 + r.val) j := by
  refine (kernel_product (M := 512) (K := 1024) (N := 1024) (φ₁ := .bf16) (φ₂ := .bf16) (iblk m c 0 t) (iblk m c 1 t) r j).trans (Eq.trans ?_ (at2_of _ (token_lt t r) j.isLt).symm)
  refine entry_tile (N := 1024) _ _ _ _ r j ⟨t.val * 512 + r.val, token_lt t r⟩ j (fun d => ?_) fun d => ?_
  · unfold iblk
    rw [View.read_apply]
    refine (congrFun (V_main_arg0 m c) _).trans (congrArg (m (c.tc.loc main_arg0)) (funext fun a => Fin.ext ?_))
    match a with
    | 0 => show win0_0.index t 0 * 512 + 1 * r.val = t.val * 512 + r.val; rw [(index0 t).1]; omega
    | 1 => show win0_0.index t 1 * 1024 + 1 * d.val = d.val; rw [(index0 t).2]; omega
  · unfold iblk
    rw [View.read_apply]
    refine (congrFun (V_v0 m c) _).trans (congrArg (m (c.tc.loc main_arg1)) (funext fun a => Fin.ext ?_))
    match a with
    | 0 => show win0_1.index t 0 * 1024 + 1 * d.val = d.val; rw [(index1 t).1]; omega
    | 1 => show win0_1.index t 1 * 1024 + 1 * j.val = j.val; rw [(index1 t).2]; omega

/-- The tokens' own rows, -/
theorem block2 (t : Fin cfg0.N) (r : Fin 512) (d : Fin 1024) :
    (iblk m c 2 t : Vec Ideal S512x1024 .f32) (ix2 r d) = at2 (n0 := 16896) (n1 := 1024) (m (c.tc.loc main_arg2)) (t.val * 512 + r.val) d := by
  refine Eq.trans ?_ (at2_of _ (token_lt t r) d.isLt).symm
  unfold iblk
  rw [View.read_apply]
  refine (congrFun (V_main_arg2 m c) _).trans (congrArg (m (c.tc.loc main_arg2)) (funext fun a => Fin.ext ?_))
  match a with
  | 0 => show win0_2.index t 0 * 512 + 1 * r.val = _; rw [(index2 t).1, one_mul]; rfl
  | 1 => show win0_2.index t 1 * 1024 + 1 * d.val = _; rw [(index2 t).2, one_mul, zero_mul, zero_add]; rfl

/-- the scale, -/
theorem block3 (t : Fin cfg0.N) (j : Fin 1024) : (iblk m c 3 t : Vec Ideal S1x1024 .f32) (ix2 0 j) = at1 (n0 := 1024) (m (c.tc.loc main_arg3)) j := by
  refine Eq.trans ?_ (at1_of _ j.isLt).symm
  unfold iblk
  rw [View.read_apply]
  refine (congrFun (V_v1 m c) _).trans (Eq.trans (congrArg _ (funext fun a => Fin.ext ?_))
    (shapeCast_a_1a_apply (a := 1024) (m (c.tc.loc main_arg3)) _ (0 : Fin 1) j))
  match a with
  | 0 => show win0_3.index t 0 * 1 + 1 * 0 = _; rw [(index3 t).1]; rfl
  | 1 => show win0_3.index t 1 * 1024 + 1 * j.val = _; rw [(index3 t).2, one_mul, zero_mul, zero_add]; rfl

/-- and the shift. -/
theorem block4 (t : Fin cfg0.N) (j : Fin 1024) : (iblk m c 4 t : Vec Ideal S1x1024 .f32) (ix2 0 j) = at1 (n0 := 1024) (m (c.tc.loc main_arg4)) j := by
  refine Eq.trans ?_ (at1_of _ j.isLt).symm
  unfold iblk
  rw [View.read_apply]
  refine (congrFun (V_v2 m c) _).trans (Eq.trans (congrArg _ (funext fun a => Fin.ext ?_))
    (shapeCast_a_1a_apply (a := 1024) (m (c.tc.loc main_arg4)) _ (0 : Fin 1) j))
  match a with
  | 0 => show win0_4.index t 0 * 1 + 1 * 0 = _; rw [(index4 t).1]; rfl
  | 1 => show win0_4.index t 1 * 1024 + 1 * j.val = _; rw [(index4 t).2, one_mul, zero_mul, zero_add]; rfl

/-- The array of the arguments in memory. -/
abbrev resultOf : S16896x1024.Idx → EReal :=
  result (m (c.tc.loc main_arg0)) (m (c.tc.loc main_arg1)) (m (c.tc.loc main_arg2)) (m (c.tc.loc main_arg3)) (m (c.tc.loc main_arg4))

/-- The block written back at a point is that point's rows. -/
theorem flushed_eq (t : Fin cfg0.N) : (dats m 0 c).flushed 5 t = ((cfg0.win 5).blk t).view.read (Elt Ideal) (resultOf m c) := by
  funext i
  rw [View.read_apply, Value.flushed5 m c t]
  obtain ⟨r, j, rfl⟩ : ∃ (r : Fin 512) (j : Fin 1024), i = ix2 r j := ⟨i 0, i 1, ValueIdx.eq_ix2 (n0 := 512) (n1 := 1024) i⟩
  refine (congrFun (out_eq (iblk m c 0 t) (iblk m c 1 t) (iblk m c 2 t) (iblk m c 3 t) (iblk m c 4 t)) (ix2 r j)).trans ?_
  refine (Cert.Kernel2Ideal.Tile.normed_apply (iblk m c 2 t) (tileProduct (iblk m c 0 t) (iblk m c 1 t)) (iblk m c 3 t) (iblk m c 4 t)
    (row (at2 (n0 := 16896) (n1 := 1024) (m (c.tc.loc main_arg2))) (at2 (n0 := 16896) (n1 := 1024)
      (times (M := 16896) (K := 1024) (N := 1024) (m (c.tc.loc main_arg0)) (m (c.tc.loc main_arg1))) (t.val * 512 + r.val)) (t.val * 512 + r.val))
    (at1 (n0 := 1024) (m (c.tc.loc main_arg3))) (at1 (n0 := 1024) (m (c.tc.loc main_arg4))) r j
    (fun k => congrArg₂ (fun y z : EReal => Ideal.ofBits .f32 0x3FB504F3#32 * y + z) (block2 m c t r k) (product_apply m c t r k))
    (block3 m c t j) (block4 m c t j)).trans ?_
  refine congrArg₂ (out (m (c.tc.loc main_arg0)) (m (c.tc.loc main_arg1)) (m (c.tc.loc main_arg2)) (m (c.tc.loc main_arg3)) (m (c.tc.loc main_arg4))) ?_ ?_
  · show _ = win0_5.index t 0 * 512 + 1 * r.val; rw [(index5 t).1, one_mul]
  · show _ = win0_5.index t 1 * 1024 + 1 * j.val; rw [(index5 t).2, one_mul, zero_mul, zero_add]

/-- The tiles cover the array, so it ends holding the rows. -/
theorem final : (dats m 0 c).arrAt 5 cfg0.N = resultOf m c :=
  (dats m 0 c).arrAt_eq_of_cover 5 _ (fun t _ => flushed_eq m c t) fun (i : S16896x1024.Idx) => by
    have h0 : (i 0).val < 16896 := (i 0).isLt
    have h1 : (i 1).val < 1024 := (i 1).isLt
    obtain ⟨t, ht⟩ : ∃ t : Fin cfg0.N, t.val = (i 0).val / 512 :=
      ⟨⟨(i 0).val / 512, lt_of_lt_of_eq (b := 33) (by omega) (show cfg0.N = 33 from N_0).symm⟩, rfl⟩
    refine ⟨t, flush0_5 t, ?_⟩
    show i ∈ ((View.whole main_v3).slice (win0_5.rect t)).set
    rw [View.set_slice_whole, Rect.mem_set_unit]
    intro a
    match a with
    | ⟨0, _⟩ => show win0_5.index t 0 * 512 ≤ (i 0).val ∧ (i 0).val < win0_5.index t 0 * 512 + 512
                rw [(index5 t).1, ht]; omega
    | ⟨1, _⟩ => show win0_5.index t 1 * 1024 ≤ (i 1).val ∧ (i 1).val < win0_5.index t 1 * 1024 + 1024
                rw [(index5 t).2]; omega

/-- The reference's stages give the same rows. -/
theorem reference_eq (o : FVec Ideal Cert.Reference8Ideal.S16896x1024 .bf16) (w : FVec Ideal Cert.Reference8Ideal.S1024x1024 .f32)
    (x : FVec Ideal Cert.Reference8Ideal.S16896x1024 .f32) (g b : FVec Ideal Cert.Reference8Ideal.S1024 .f32) :
    Cert.Reference2Ideal.Ref.normed (Cert.Reference2Ideal.Ref.total x
      (Host.dotGeneral Cert.Reference8Ideal.dot_S16896x1024_S1024x1024_S16896x1024_1_0_0_1_n_n none
        (extf .f32 o Cert.Reference8Ideal.Gen.bitsLt_bf16_f32 : FVec Ideal Cert.Reference8Ideal.S16896x1024 .f32) w)) g b = result o w x g b := by
  funext i
  obtain ⟨t, j, rfl⟩ : ∃ (t : Fin 16896) (j : Fin 1024), i = ix2 t j := ⟨i 0, i 1, ValueIdx.eq_ix2 (n0 := 16896) (n1 := 1024) i⟩
  show _ = out o w x g b t.val j.val
  refine Cert.Reference2Ideal.Ref.normed_apply _ _ _ _ _ _ t j (fun k => ?_) (at1_of _ j.isLt).symm (at1_of _ j.isLt).symm
  refine (Cert.Reference2Ideal.Ref.total_apply _ _ t k).trans (congrArg₂ (fun u v : EReal => Ideal.ofBits .f32 0x3FB504F3#32 * u + v)
    (at2_of _ t.isLt k.isLt).symm ?_)
  exact (host_product _ w t k).trans (at2_of (times (M := 16896) (K := 1024) (N := 1024) o w) t.isLt k.isLt).symm

end Cert.Kernel8Ideal.Residual

end

end
-- ==== Proof.Dense.lean ====
/-
  The dense gated units and the norm after them: one expert, whose weight is one for every token. The kernel takes the
  hidden units in two halves, one grid point each; its reference takes them whole.
-/
module

public import proofs.«01_k».proof.Proof.Products
public import proofs.«01_k».proof.Proof.Tile
public import proofs.«01_k».proof.Proof.LayerRef
public import proofs.«01_k».proof.Proof.Gen.Kernel7Ideal.Value
public import proofs.«01_k».proof.Proof.Gen.Reference7Ideal.Run

@[expose] public section

noncomputable section

namespace Cert.Kernel7Ideal.Dense

open Idealize.ShloMosaic hiding ix1 ix2 ix3
open Idealize.ShloMosaic.ValueIdx Idealize.ShloMosaic.TcCoe Idealize.ShloMosaic.Tactic Idealize.SL.Sem
open Cert.Kernel7Ideal Cert.Kernel7Ideal.Gen Cert.Experts

/-- The layer of the arguments: each token's row normalized. -/
def out (x : FVec Ideal S16896x1024 .f32) (w1 w3 : FVec Ideal S1x1024x2816 .f32) (w2 : FVec Ideal S1x2816x1024 .f32) (g b : FVec Ideal S1024 .f32)
    (t j : ℕ) : EReal :=
  norm (row (at2 (n0 := 16896) (n1 := 1024) x) (fun k => whole (at2 (n0 := 16896) (n1 := 1024) x) (at3 (n0 := 1) (n1 := 1024) (n2 := 2816) w1)
    (at3 (n0 := 1) (n1 := 1024) (n2 := 2816) w3) (at3 (n0 := 1) (n1 := 2816) (n2 := 1024) w2) t k 0) t)
    (at1 (n0 := 1024) g) (at1 (n0 := 1024) b) j

/-- The array of them. -/
def result (x : FVec Ideal S16896x1024 .f32) (w1 w3 : FVec Ideal S1x1024x2816 .f32) (w2 : FVec Ideal S1x2816x1024 .f32) (g b : FVec Ideal S1024 .f32) :
    S16896x1024.Idx → EReal := fun i => out x w1 w3 w2 g b (i 0).val (i 1).val

/-! ## The body is the mixture's -/

theorem pay1_eq : k0_pay1 (F := Ideal) = Cert.Kernel2Ideal.Gen.k0_pay1 (F := Ideal) := rfl
theorem pay3_eq : k0_pay3 (F := Ideal) = Cert.Kernel2Ideal.Gen.k0_pay3 (F := Ideal) := rfl

section Cases

variable (c : Dev nD) (i : grid0.Coords) (a3 : Memref sig .tc .vmem S512x1024 .f32) (h3 : a3.IsWhole)
  (a4 : Memref sig .tc .vmem S1x512x1 .f32) (h4 : a4.IsWhole) (a5 : Memref sig .tc .vmem S1x1024x1408 .bf16) (h5 : a5.IsWhole)
  (a6 : Memref sig .tc .vmem S1x1024x1408 .bf16) (h6 : a6.IsWhole) (a7 : Memref sig .tc .vmem S1x1408x1024 .bf16) (h7 : a7.IsWhole)
  (a8 : Memref sig .tc .vmem S1x1024 .f32) (h8 : a8.IsWhole) (a9 : Memref sig .tc .vmem S1x1024 .f32) (h9 : a9.IsWhole)
  (a10 : Memref sig .tc .vmem S512x1024 .f32) (h10 : a10.IsWhole) (a11 : Memref sig .tc .vmem S512x1024 .f32) (h11 : a11.IsWhole)
  (x0 : Vec Ideal S512x1024 .f32) (x1 : Vec Ideal S1x512x1 .f32) (x2 x3 : Vec Ideal S1x1024x1408 .bf16)
  (x4 : Vec Ideal S1x1408x1024 .bf16) (x5 x6 : Vec Ideal S1x1024 .f32) (xs : Vec Ideal S512x1024 .f32)

/-- The first point of a tile leaves the first half's sum, -/
theorem first_half (hc0 : cond0_0 i) (hc1 : ¬cond0_1 i) :
    sout0_A_0 c i a3 h3 a4 h4 a5 h5 a6 h6 a7 h7 a8 h8 a9 h9 a10 h10 a11 h11 hc0 hc1 x0 x1 x2 x3 x4 x5 x6
      = k0_pay3 x0 x2 x3 x4 (k0_pay2 (F := Ideal)) x1 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S512x1024) Cert.Kernel2Ideal.Tile.hz2, View.readCov_unit_zero (S := S512x1024) _ Cert.Kernel2Ideal.Tile.hz2]
  simp only [View.readAt_eq_ld, h3.read_unread, h4.read_unread, h5.read_unread, h6.read_unread, h7.read_unread,
    View.ld_unit_zero (S := S512x1024) Cert.Kernel2Ideal.Tile.hz2, View.ld_unit_zero (S := S1x512x1) Cert.Kernel2Ideal.Tile.hz3,
    View.ld_unit_zero (S := S1x1024x1408) Cert.Kernel2Ideal.Tile.hz3, View.ld_unit_zero (S := S1x1408x1024) Cert.Kernel2Ideal.Tile.hz3]

/-- and the second adds the other half and stores the sum normalized. -/
theorem second_half (hc0 : ¬cond0_0 i) (hc1 : cond0_1 i) :
    out0_B_7 c i a3 h3 a4 h4 a5 h5 a6 h6 a7 h7 a8 h8 a9 h9 a10 h10 a11 h11 hc0 hc1 x0 x1 x2 x3 x4 x5 x6 xs
      = k0_pay1 x0 (k0_pay3 x0 x2 x3 x4 xs x1) x5 x6 := by
  unfold out0_B_7
  rw [View.read_writes_eq_canon _ _ _ (cover0_B_7 c i a3 h3 a4 h4 a5 h5 a6 h6 a7 h7 a8 h8 a9 h9 a10 h10 a11 h11 hc0 hc1 x0 x1 x2 x3 x4 x5 x6 xs)]
  unfold kernelRun0_B
  dsimp only
  sl_unfold_words
  rw [View.canon_unit_zero Cert.Kernel2Ideal.Tile.hz2, View.readCov_unit_zero (S := S512x1024) _ Cert.Kernel2Ideal.Tile.hz2]
  simp only [View.readAt_eq_ld, h3.read_unread, h4.read_unread, h5.read_unread, h6.read_unread, h7.read_unread, h8.read_unread, h9.read_unread,
    h11.read_unread, View.ld_unit_zero (S := S512x1024) Cert.Kernel2Ideal.Tile.hz2, View.ld_unit_zero (S := S1x512x1) Cert.Kernel2Ideal.Tile.hz3,
    View.ld_unit_zero (S := S1x1024x1408) Cert.Kernel2Ideal.Tile.hz3, View.ld_unit_zero (S := S1x1408x1024) Cert.Kernel2Ideal.Tile.hz3,
    View.ld_unit_zero (S := S1x1024) Cert.Kernel2Ideal.Tile.hz2]

end Cases

variable (m : (ℓ : Loc nD τ sig) → Buf (Elt Ideal) ℓ) (c : Dev nD)

/-- The arguments read at natural numbers. -/
abbrev tokens : ℕ → ℕ → EReal := at2 (n0 := 16896) (n1 := 1024) (m (c.tc.loc main_arg0))
abbrev mat1 : ℕ → ℕ → ℕ → EReal := at3 (n0 := 1) (n1 := 1024) (n2 := 2816) (m (c.tc.loc main_arg1))
abbrev mat3 : ℕ → ℕ → ℕ → EReal := at3 (n0 := 1) (n1 := 1024) (n2 := 2816) (m (c.tc.loc main_arg2))
abbrev mat2 : ℕ → ℕ → ℕ → EReal := at3 (n0 := 1) (n1 := 2816) (n2 := 1024) (m (c.tc.loc main_arg3))
abbrev scale : ℕ → EReal := at1 (n0 := 1024) (m (c.tc.loc main_arg4))
abbrev shift : ℕ → EReal := at1 (n0 := 1024) (m (c.tc.loc main_arg5))

/-! ## What the host makes of the arguments -/

theorem V_v0 : (V m c main_v0 : Vec Ideal S1x16896x1 .f32)
    = broadcastInDim S1x16896x1 ![] bcast_S_S1x16896x1 (constant S_ .f32 0x3F800000#32 : FVec Ideal S_ .f32) := by
  show StableHlo.after hostOps0 _ (Proc.devRef .tc main_v0) = _
  after_results
theorem V_v1 : (V m c main_v1 : Vec Ideal S1x1024x2816 .bf16) = m (c.tc.loc main_arg1) := by
  show StableHlo.after hostOps0 _ (Proc.devRef .tc main_v1) = _
  after_results
  rfl
theorem V_v2 : (V m c main_v2 : Vec Ideal S1x1024x2816 .bf16) = m (c.tc.loc main_arg2) := by
  show StableHlo.after hostOps0 _ (Proc.devRef .tc main_v2) = _
  after_results
  rfl
theorem V_v3 : (V m c main_v3 : Vec Ideal S1x2816x1024 .bf16) = m (c.tc.loc main_arg3) := by
  show StableHlo.after hostOps0 _ (Proc.devRef .tc main_v3) = _
  after_results
  rfl
theorem V_v4 : (V m c main_v4 : Vec Ideal S1x1024 .f32)
    = shapeCast S1x1024 (m (c.tc.loc main_arg4) : Vec Ideal S1024 .f32) shapeCasts_S1024_S1x1024 := by
  show StableHlo.after hostOps0 _ (Proc.devRef .tc main_v4) = _
  after_results
  rfl
theorem V_v5 : (V m c main_v5 : Vec Ideal S1x1024 .f32)
    = shapeCast S1x1024 (m (c.tc.loc main_arg5) : Vec Ideal S1024 .f32) shapeCasts_S1024_S1x1024 := by
  show StableHlo.after hostOps0 _ (Proc.devRef .tc main_v5) = _
  after_results
  rfl

/-! ## The blocks of a point -/

theorem index0 (t : Fin cfg0.N) : win0_0.index t 0 = t.val / 2 ∧ win0_0.index t 1 = 0 := by
  revert t; decide +kernel
theorem index2 (t : Fin cfg0.N) : win0_2.index t 0 = 0 ∧ win0_2.index t 1 = 0 ∧ win0_2.index t 2 = t.val % 2 := by
  revert t; decide +kernel
theorem index3 (t : Fin cfg0.N) : win0_3.index t 0 = 0 ∧ win0_3.index t 1 = 0 ∧ win0_3.index t 2 = t.val % 2 := by
  revert t; decide +kernel
theorem index4 (t : Fin cfg0.N) : win0_4.index t 0 = 0 ∧ win0_4.index t 1 = t.val % 2 ∧ win0_4.index t 2 = 0 := by
  revert t; decide +kernel
theorem index5 (t : Fin cfg0.N) : win0_5.index t 0 = 0 ∧ win0_5.index t 1 = 0 := by
  revert t; decide +kernel
theorem index6 (t : Fin cfg0.N) : win0_6.index t 0 = 0 ∧ win0_6.index t 1 = 0 := by
  revert t; decide +kernel

/-- The token of row `r` of a point's tile. -/
abbrev token (n : ℕ) (r : Fin 512) : ℕ := n / 2 * 512 + r.val

theorem token_lt (t : Fin cfg0.N) (r : Fin 512) : token t.val r < 16896 := by
  have h : t.val < 66 := lt_of_lt_of_eq t.isLt (show cfg0.N = 66 from N_0)
  have := r.isLt
  unfold token
  omega

theorem block0 (t : Fin cfg0.N) (r : Fin 512) (d : Fin 1024) :
    (iblk m c 0 t : Vec Ideal S512x1024 .f32) (ix2 r d) = tokens m c (token t.val r) d := by
  refine Eq.trans ?_ (at2_of _ (token_lt t r) d.isLt).symm
  unfold iblk
  rw [View.read_apply]
  refine (congrFun (V_main_arg0 m c) _).trans (congrArg (m (c.tc.loc main_arg0)) (funext fun a => Fin.ext ?_))
  match a with
  | 0 => show win0_0.index t 0 * 512 + 1 * r.val = _; rw [(index0 t).1, one_mul]; rfl
  | 1 => show win0_0.index t 1 * 1024 + 1 * d.val = _; rw [(index0 t).2, one_mul, zero_mul, zero_add]; rfl

/-- Every weight is one. -/
theorem block1 (t : Fin cfg0.N) (r : Fin 512) : (iblk m c 1 t : Vec Ideal S1x512x1 .f32) (ix3 0 r 0) = (1 : EReal) := by
  unfold iblk
  rw [View.read_apply]
  exact (congrFun (V_v0 m c) _).trans ((broadcastInDim_scalar_apply _ _ _).trans Cert.Kernel2Ideal.Tile.one_f32)

theorem block2 (t : Fin cfg0.N) (d : Fin 1024) (f : Fin 1408) :
    (iblk m c 2 t : Vec Ideal S1x1024x1408 .bf16) (ix3 0 d f) = mat1 m c 0 d (t.val % 2 * 1408 + f) := by
  refine Eq.trans ?_ (at3_of _ (by omega) d.isLt (by have := f.isLt; omega)).symm
  unfold iblk
  rw [View.read_apply]
  refine (congrFun (V_v1 m c) _).trans (congrArg (m (c.tc.loc main_arg1)) (funext fun a => Fin.ext ?_))
  match a with
  | 0 => show win0_2.index t 0 * 1 + 1 * 0 = _; rw [(index2 t).1]; rfl
  | 1 => show win0_2.index t 1 * 1024 + 1 * d.val = _; rw [(index2 t).2.1, one_mul, zero_mul, zero_add]; rfl
  | 2 => show win0_2.index t 2 * 1408 + 1 * f.val = _; rw [(index2 t).2.2, one_mul]; rfl

theorem block3 (t : Fin cfg0.N) (d : Fin 1024) (f : Fin 1408) :
    (iblk m c 3 t : Vec Ideal S1x1024x1408 .bf16) (ix3 0 d f) = mat3 m c 0 d (t.val % 2 * 1408 + f) := by
  refine Eq.trans ?_ (at3_of _ (by omega) d.isLt (by have := f.isLt; omega)).symm
  unfold iblk
  rw [View.read_apply]
  refine (congrFun (V_v2 m c) _).trans (congrArg (m (c.tc.loc main_arg2)) (funext fun a => Fin.ext ?_))
  match a with
  | 0 => show win0_3.index t 0 * 1 + 1 * 0 = _; rw [(index3 t).1]; rfl
  | 1 => show win0_3.index t 1 * 1024 + 1 * d.val = _; rw [(index3 t).2.1, one_mul, zero_mul, zero_add]; rfl
  | 2 => show win0_3.index t 2 * 1408 + 1 * f.val = _; rw [(index3 t).2.2, one_mul]; rfl

theorem block4 (t : Fin cfg0.N) (f : Fin 1408) (j : Fin 1024) :
    (iblk m c 4 t : Vec Ideal S1x1408x1024 .bf16) (ix3 0 f j) = mat2 m c 0 (t.val % 2 * 1408 + f) j := by
  refine Eq.trans ?_ (at3_of _ (by omega) (by have := f.isLt; omega) j.isLt).symm
  unfold iblk
  rw [View.read_apply]
  refine (congrFun (V_v3 m c) _).trans (congrArg (m (c.tc.loc main_arg3)) (funext fun a => Fin.ext ?_))
  match a with
  | 0 => show win0_4.index t 0 * 1 + 1 * 0 = _; rw [(index4 t).1]; rfl
  | 1 => show win0_4.index t 1 * 1408 + 1 * f.val = _; rw [(index4 t).2.1, one_mul]; rfl
  | 2 => show win0_4.index t 2 * 1024 + 1 * j.val = _; rw [(index4 t).2.2, one_mul, zero_mul, zero_add]; rfl

theorem block5 (t : Fin cfg0.N) (j : Fin 1024) : (iblk m c 5 t : Vec Ideal S1x1024 .f32) (ix2 0 j) = scale m c j := by
  refine Eq.trans ?_ (at1_of _ j.isLt).symm
  unfold iblk
  rw [View.read_apply]
  refine (congrFun (V_v4 m c) _).trans (Eq.trans (congrArg _ (funext fun a => Fin.ext ?_))
    (shapeCast_a_1a_apply (a := 1024) (m (c.tc.loc main_arg4)) _ (0 : Fin 1) j))
  match a with
  | 0 => show win0_5.index t 0 * 1 + 1 * 0 = _; rw [(index5 t).1]; rfl
  | 1 => show win0_5.index t 1 * 1024 + 1 * j.val = _; rw [(index5 t).2, one_mul, zero_mul, zero_add]; rfl

theorem block6 (t : Fin cfg0.N) (j : Fin 1024) : (iblk m c 6 t : Vec Ideal S1x1024 .f32) (ix2 0 j) = shift m c j := by
  refine Eq.trans ?_ (at1_of _ j.isLt).symm
  unfold iblk
  rw [View.read_apply]
  refine (congrFun (V_v5 m c) _).trans (Eq.trans (congrArg _ (funext fun a => Fin.ext ?_))
    (shapeCast_a_1a_apply (a := 1024) (m (c.tc.loc main_arg5)) _ (0 : Fin 1) j))
  match a with
  | 0 => show win0_6.index t 0 * 1 + 1 * 0 = _; rw [(index6 t).1]; rfl
  | 1 => show win0_6.index t 1 * 1024 + 1 * j.val = _; rw [(index6 t).2, one_mul, zero_mul, zero_add]; rfl

/-! ## The two points of a tile -/

/-- A point adds its half to what it finds. -/
theorem point_adds (t : Fin cfg0.N) (acc : Vec Ideal S512x1024 .f32) (r : Fin 512) (j : Fin 1024) :
    k0_pay3 (F := Ideal) (iblk m c 0 t) (iblk m c 2 t) (iblk m c 3 t) (iblk m c 4 t) acc (iblk m c 1 t) (ix2 r j)
      = acc (ix2 r j) + half (tokens m c) (mat1 m c) (mat3 m c) (mat2 m c) (token t.val r) j 0 (t.val % 2) := by
  rw [pay3_eq]
  refine (Cert.Kernel2Ideal.Tile.added_apply _ _ _ _ _ _ r j).trans (congrArg (fun y : EReal => acc (ix2 r j) + y) ?_)
  refine (congrArg (fun y : EReal => y * _) (block1 m c t r)).trans ((one_mul _).trans ?_)
  unfold half unit
  refine Finset.sum_congr rfl fun f _ => ?_
  refine congrArg₂ (fun y z : EReal => y * z) (congrArg₂ (fun y z : EReal => silu y * z) ?_ ?_) (block4 m c t f j)
  · exact Finset.sum_congr rfl fun d _ => congrArg₂ (fun y z : EReal => y * z) (block0 m c t r d) (block2 m c t d f)
  · exact Finset.sum_congr rfl fun d _ => congrArg₂ (fun y z : EReal => y * z) (block0 m c t r d) (block3 m c t d f)

/-- After the first point the sum is the first half's. -/
theorem sum_first (t : Fin cfg0.N) (h0 : t.val % 2 = 0) (r : Fin 512) (j : Fin 1024) :
    (outsAt0 m c t.val t.isLt).2 (ix2 r j) = half (tokens m c) (mat1 m c) (mat3 m c) (mat2 m c) (token t.val r) j 0 0 := by
  rw [outsAt0_A m c t h0 (by omega)]
  dsimp only
  rw [first_half, point_adds, h0]
  exact (congrArg (fun y : EReal => y + _) Cert.Kernel2Ideal.Tile.zero_f32).trans (zero_add _)

/-- After the second the result block is the layer's rows. -/
theorem out_eq (t : Fin cfg0.N) (h1 : t.val % 2 = 1) (r : Fin 512) (j : Fin 1024) :
    (outsAt0 m c t.val t.isLt).1 (ix2 r j) = out (m (c.tc.loc main_arg0)) (m (c.tc.loc main_arg1)) (m (c.tc.loc main_arg2)) (m (c.tc.loc main_arg3))
      (m (c.tc.loc main_arg4)) (m (c.tc.loc main_arg5)) (token t.val r) j := by
  rw [outsAt0_B m c t (by omega) h1]
  dsimp only
  rw [second_half, pay1_eq]
  refine Cert.Kernel2Ideal.Tile.normed_apply _ _ _ _ _ (scale m c) (shift m c) r j (fun k => ?_) (block5 m c t j) (block6 m c t j)
  refine congrArg₂ (fun y z : EReal => Ideal.ofBits .f32 0x3FB504F3#32 * y + z) (block0 m c t r k) ?_
  refine (point_adds m c t _ r k).trans (Eq.trans ?_ (whole_eq (tokens m c) (mat1 m c) (mat3 m c) (mat2 m c) (token t.val r) k 0).symm)
  rw [h1]
  refine congrArg (fun y : EReal => y + half (tokens m c) (mat1 m c) (mat3 m c) (mat2 m c) (token t.val r) k 0 1) ?_
  refine (sum_first m c ⟨t.val - 1, lt_of_le_of_lt (Nat.sub_le _ _) t.isLt⟩ (by simp only; omega) r k).trans ?_
  refine congrArg (fun u => half (tokens m c) (mat1 m c) (mat3 m c) (mat2 m c) u k 0 0) ?_
  show (t.val - 1) / 2 * 512 + r.val = t.val / 2 * 512 + r.val
  omega

/-- The result array holds the layer's rows. -/
theorem final : Value.G7 m c = result (m (c.tc.loc main_arg0)) (m (c.tc.loc main_arg1)) (m (c.tc.loc main_arg2)) (m (c.tc.loc main_arg3))
    (m (c.tc.loc main_arg4)) (m (c.tc.loc main_arg5)) := by
  funext i
  obtain ⟨T, j, rfl⟩ : ∃ (T : Fin 16896) (j : Fin 1024), i = ix2 T j := ⟨i 0, i 1, ValueIdx.eq_ix2 (n0 := 16896) (n1 := 1024) i⟩
  have hT := T.isLt
  have hj := j.isLt
  have hr : Value.run7Of (ix2 T j) = T.val / 512 := by
    show 1 * (T.val / 512 - 0) + 1 * (j.val / 1024 - 0) = _
    omega
  have hp : Value.pt7Of (ix2 T j) < cfg0.N := by
    rw [show cfg0.N = 66 from N_0]
    show 2 * Value.run7Of (ix2 T j) + 1 < 66
    rw [hr]; omega
  unfold Value.G7
  rw [dif_pos hp, ← Value.outsAt0_sweep m c _ hp]
  have hl : Value.loc7Of (ix2 T j) = ix2 (⟨T.val % 512, Nat.mod_lt _ (by norm_num)⟩ : Fin 512) j := funext fun a => Fin.ext (by
    match a with
    | ⟨0, _⟩ => rfl
    | ⟨1, _⟩ => exact Nat.mod_eq_of_lt hj)
  rw [hl]
  refine (out_eq m c ⟨Value.pt7Of (ix2 T j), hp⟩ ?_ _ j).trans ?_
  · show (2 * Value.run7Of (ix2 T j) + 1) % 2 = 1
    omega
  · refine congrArg (fun u => out (m (c.tc.loc main_arg0)) (m (c.tc.loc main_arg1)) (m (c.tc.loc main_arg2)) (m (c.tc.loc main_arg3))
      (m (c.tc.loc main_arg4)) (m (c.tc.loc main_arg5)) u j) ?_
    show (2 * Value.run7Of (ix2 T j) + 1) / 2 * 512 + T.val % 512 = T.val
    rw [hr]; omega

end Cert.Kernel7Ideal.Dense

namespace Cert.Reference7Ideal.Ref

open Idealize.ShloMosaic hiding ix1 ix2 ix3
open Idealize.ShloMosaic.ValueIdx Idealize.ShloMosaic.TcCoe
open Cert.Reference7Ideal Cert.Reference7Ideal.Gen Cert.Experts

/-! ## The reference's own stages -/

/-- The tokens times one of the first two matrices, -/
def first (x : FVec Ideal S16896x1024 .f32) (w : FVec Ideal S1x1024x2816 .f32) : FVec Ideal S16896x2816 .f32 :=
  Host.dotGeneral dot_S16896x1024_S1024x2816_S16896x2816_1_0_0_1_n_n none x (shapeCast S1024x2816 w shapeCasts_S1x1024x2816_S1024x2816)

/-- the gated units, -/
def gated (h1 h3 : FVec Ideal S16896x2816 .f32) : FVec Ideal S16896x2816 .f32 :=
  mulf (mulf h1 (Host.divf (broadcastInDim S16896x2816 ![] bcast_S_S16896x2816 (constant S_ .f32 0x3F800000#32))
    (addf (broadcastInDim S16896x2816 ![] bcast_S_S16896x2816 (constant S_ .f32 0x3F800000#32)) (Host.exp (Host.negf h1))))) h3

/-- and their product with the third. -/
def second (h : FVec Ideal S16896x2816 .f32) (w : FVec Ideal S1x2816x1024 .f32) : FVec Ideal S16896x1024 .f32 :=
  Host.dotGeneral dot_S16896x2816_S2816x1024_S16896x1024_1_0_0_1_n_n none h (shapeCast S2816x1024 w shapeCasts_S1x2816x1024_S2816x1024)

/-- The reference's result is made of these stages and the norm. -/
theorem res_eq (m : (ℓ : Loc nD τ sig) → Buf (Elt Ideal) ℓ) (c : Dev nD) :
    Value.res_main_v34 m c = Cert.Reference2Ideal.Ref.normed (Cert.Reference2Ideal.Ref.total (m (c.tc.loc main_arg0))
      (second (gated (first (m (c.tc.loc main_arg0)) (m (c.tc.loc main_arg1))) (first (m (c.tc.loc main_arg0)) (m (c.tc.loc main_arg2))))
        (m (c.tc.loc main_arg3)))) (m (c.tc.loc main_arg4)) (m (c.tc.loc main_arg5)) := rfl

/-- A token times a column. -/
theorem first_apply (x : FVec Ideal S16896x1024 .f32) (w : FVec Ideal S1x1024x2816 .f32) (t : Fin 16896) (f : Fin 2816) :
    first x w (ix2 t f) = ∑ d : Fin 1024, x (ix2 t d) * w (ix3 0 d f) :=
  (Cert.Products.host_product x _ t f).trans (Finset.sum_congr rfl fun d _ => congrArg (fun y : EReal => x (ix2 t d) * y)
    (shapeCast_1ab_ab_apply (a := 1024) (b := 2816) w _ d f))

/-- A gated unit. -/
theorem gated_apply (h1 h3 : FVec Ideal S16896x2816 .f32) (i : S16896x2816.Idx) : gated h1 h3 i = silu (h1 i) * h3 i := by
  unfold gated silu
  refine (mulf_apply _ _ _).trans (congrArg (fun y : EReal => y * h3 i) ((mulf_apply _ _ _).trans (congrArg (fun y : EReal => h1 i * y) ?_)))
  refine (hostDivf_apply _ _ _).trans (congrArg₂ Ideal.div ?_ ((addf_apply _ _ _).trans (congrArg₂ (fun y z : EReal => y + z) ?_ rfl)))
  · exact (broadcastInDim_scalar_apply _ _ _).trans Cert.Reference2Ideal.Ref.one_f32
  · exact (broadcastInDim_scalar_apply _ _ _).trans Cert.Reference2Ideal.Ref.one_f32

/-- The units' row. -/
theorem second_apply (h : FVec Ideal S16896x2816 .f32) (w : FVec Ideal S1x2816x1024 .f32) (t : Fin 16896) (j : Fin 1024) :
    second h w (ix2 t j) = ∑ f : Fin 2816, h (ix2 t f) * w (ix3 0 f j) :=
  (Cert.Products.host_product h _ t j).trans (Finset.sum_congr rfl fun f _ => congrArg (fun y : EReal => h (ix2 t f) * y)
    (shapeCast_1ab_ab_apply (a := 2816) (b := 1024) w _ f j))

/-- The stages give the layer's rows. -/
theorem stages_eq (x : FVec Ideal S16896x1024 .f32) (w1 w3 : FVec Ideal S1x1024x2816 .f32) (w2 : FVec Ideal S1x2816x1024 .f32)
    (g b : FVec Ideal S1024 .f32) :
    Cert.Reference2Ideal.Ref.normed (Cert.Reference2Ideal.Ref.total x (second (gated (first x w1) (first x w3)) w2)) g b
      = Cert.Kernel7Ideal.Dense.result x w1 w3 w2 g b := by
  funext i
  obtain ⟨t, j, rfl⟩ : ∃ (t : Fin 16896) (j : Fin 1024), i = ix2 t j := ⟨i 0, i 1, ValueIdx.eq_ix2 (n0 := 16896) (n1 := 1024) i⟩
  show _ = Cert.Kernel7Ideal.Dense.out x w1 w3 w2 g b t.val j.val
  refine Cert.Reference2Ideal.Ref.normed_apply _ _ _ _ _ _ t j (fun k => ?_) (at1_of _ j.isLt).symm (at1_of _ j.isLt).symm
  refine (Cert.Reference2Ideal.Ref.total_apply _ _ t k).trans (congrArg₂ (fun u v : EReal => Ideal.ofBits .f32 0x3FB504F3#32 * u + v)
    (at2_of _ t.isLt k.isLt).symm ((second_apply _ _ t k).trans ?_))
  unfold whole unit
  refine Finset.sum_congr rfl fun f _ => congrArg₂ (fun u v : EReal => u * v) ((gated_apply _ _ _).trans ?_)
    (at3_of _ (by norm_num) f.isLt k.isLt).symm
  refine congrArg₂ (fun u v : EReal => silu u * v) ((first_apply _ _ t f).trans ?_) ((first_apply _ _ t f).trans ?_)
  · exact Finset.sum_congr rfl fun d _ => congrArg₂ (fun u v : EReal => u * v) (at2_of x t.isLt d.isLt).symm (at3_of w1 (by norm_num) d.isLt f.isLt).symm
  · exact Finset.sum_congr rfl fun d _ => congrArg₂ (fun u v : EReal => u * v) (at2_of x t.isLt d.isLt).symm (at3_of w3 (by norm_num) d.isLt f.isLt).symm

end Cert.Reference7Ideal.Ref

end

end
-- ==== Proof.lean ====
/- The claims assembled: the kernel's and the reference's runs, the named mask, and the equation of their results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Finite
public import proofs.«01_k».proof.Proof.Cross
public import proofs.«01_k».proof.Proof.CrossRef
public import proofs.«01_k».proof.Proof.FiniteQueries
public import proofs.«01_k».proof.Proof.CrossSample
public import proofs.«01_k».proof.Proof.CrossSampleRef
public import proofs.«01_k».proof.Proof.Cumulate
public import proofs.«01_k».proof.Proof.CumulatePrompt
public import proofs.«01_k».proof.Proof.CumulateSample
public import proofs.«01_k».proof.Proof.CumulateRef
public import proofs.«01_k».proof.Proof.LayerEquation
public import proofs.«01_k».proof.Proof.Project
public import proofs.«01_k».proof.Proof.Project4
public import proofs.«01_k».proof.Proof.Project5
public import proofs.«01_k».proof.Proof.Project6
public import proofs.«01_k».proof.Proof.Project9
public import proofs.«01_k».proof.Proof.Residual
public import proofs.«01_k».proof.Proof.Dense
public import Idealize.ShloMosaic.Adequacy
public import Idealize.ShloMosaic.Init

@[expose] public section

noncomputable section

namespace Cert.Proof

open Idealize.ShloMosaic Idealize.ShloMosaic.TcCoe Idealize.SL.Sem

/-- The attention kernel runs, over the reals too, from any memory. -/
theorem fa_frame : quiescent_KernelIdeal (hKernelIdeal := Cert.KernelIdeal.Gen.facts) := fun m ρ _ => Cert.KernelIdeal.Gen.frame m ρ

/-- The attention's reference runs from any memory. -/
theorem fa_reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)) ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the reals the attention kernel's result is its reference's, where queries, keys and gates are finite. -/
theorem fa_algebraic : algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m ρ m' ρ' hpre hagree
  have H (c : Dev Cert.KernelIdeal.nD) : Cert.Equation.Finite (m (c.tc.loc Cert.KernelIdeal.main_arg0)) (m (c.tc.loc Cert.KernelIdeal.main_arg1)) :=
    Cert.Pre_finite_scores.finite _ _ (hpre c).1 (hpre c).2
  refine ⟨fun c => Cert.KernelIdeal.Array.result (m (c.tc.loc Cert.KernelIdeal.main_arg0)) (m (c.tc.loc Cert.KernelIdeal.main_arg1)), ?_, ?_⟩
  · exact (θ_run Cert.KernelIdeal.defs _ _).mono
      (fun _ h c => ⟨(h c).1.trans (Cert.KernelIdeal.Array.final m c (Cert.Equation.scores_ne_top (H c))), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    funext i
    obtain ⟨q, C, rfl⟩ : ∃ (q : Fin 16384) (C : Fin 1024), i = ValueIdx.ix2 q C := ⟨i 0, i 1, ValueIdx.eq_ix2 (n0 := 16384) (n1 := 1024) i⟩
    refine (Cert.ReferenceIdeal.Ref.res_apply m' c q C).trans ?_
    rw [(hagree c).1, (hagree c).2]
    exact (Cert.Equation.result_eq (H c) q C).symm

/-- The named mask is the one rewrite. -/
theorem fa_preserves : preserves_Kernel_KernelIdeal := IdealRules.named_const.statement Cert.KernelIdeal.κ "mask" .f32 0xF149F2CA#32 ⊥ rfl

/-- The experts' kernel runs, over the reals too, from any memory. -/
theorem moe_frame : quiescent_Kernel2Ideal (hKernel2Ideal := Cert.Kernel2Ideal.Gen.facts) := fun m ρ _ => Cert.Kernel2Ideal.Gen.frame m ρ

/-- The experts' reference runs from any memory. -/
theorem moe_reference_frame : quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Over the reals the experts' kernel's result is its reference's, where the experts' weights are finite and not negative. -/
theorem moe_algebraic : algebraic_Kernel2Ideal_Reference2Ideal_pre_weights_of_experts (hKernel2Ideal := Cert.Kernel2Ideal.Gen.facts)
    (hReference2Ideal := Cert.Reference2Ideal.Gen.facts) (hPre_weights_of_experts := Cert.Pre_weights_of_experts.facts) := by
  intro m ρ m' ρ' hpre hagree
  refine ⟨fun c => Cert.Kernel2Ideal.Value.G7 m c, Cert.Kernel2Ideal.Value.run (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6⟩ := hagree c
  exact Cert.LayerEquation.result_eq m m' c (fun e he t ht => Cert.Pre_weights_of_experts.weights _ _ _ _ _ _ _ (hpre c) he ht) h0 h1 h2 h3 h4 h5 h6

/-- The first layer's projection: its reference runs from any memory. -/
theorem in_ab_reference_frame : quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Over the reals the first layer's projection is its reference's. -/
theorem in_ab_algebraic : algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Project.product m c, ?_, ?_⟩
  · exact (θ_run Cert.Kernel3Ideal.defs _ _).mono (fun _ h c => ⟨(h c).1.trans (Cert.Kernel3Ideal.Project.final m c), (h c).2⟩)
      (Cert.Kernel3Ideal.Value.run_blocks m ρ)
  · refine (θ_run Cert.Reference3Ideal.defs _ _).mono (fun _ h c => ⟨(h c).1.trans ?_, (h c).2⟩) (Cert.Reference3Ideal.Value.run (F := Ideal) m' ρ')
    rw [(hagree c).1, (hagree c).2]
    exact Cert.Kernel3Ideal.Project.reference_eq _ _

/-- The second layer's projection: its reference runs from any memory. -/
theorem in_c_reference_frame : quiescent_Reference4Ideal (hReference4Ideal := Cert.Reference4Ideal.Gen.facts) := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- Over the reals the two copies of the second layer's projection are its reference's. -/
theorem in_c_algebraic : algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Project.product m c, fun c => Cert.Kernel4Ideal.Project.product m c, ?_, ?_⟩
  · exact (θ_run Cert.Kernel4Ideal.defs _ _).mono (fun _ h c => ⟨(h c).1.trans (Cert.Kernel4Ideal.Project.final2 m c),
      (h c).2.1.trans (Cert.Kernel4Ideal.Project.final3 m c), (h c).2.2⟩) (Cert.Kernel4Ideal.Value.run_blocks m ρ)
  · refine (θ_run Cert.Reference4Ideal.defs _ _).mono (fun _ h c => ⟨(h c).1.trans ?_, (h c).2.1.trans ?_, (h c).2.2⟩)
      (Cert.Reference4Ideal.Value.run (F := Ideal) m' ρ')
    all_goals
      rw [(hagree c).1, (hagree c).2]
      exact Cert.Kernel4Ideal.Project.reference_eq _ _

/-- The memory's keys or values: their reference runs from any memory. -/
theorem mem_reference_frame : quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- Over the reals the memory's keys or values are their reference's. -/
theorem mem_algebraic : algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel5Ideal.Project.product m c, ?_, ?_⟩
  · exact (θ_run Cert.Kernel5Ideal.defs _ _).mono (fun _ h c => ⟨(h c).1.trans (Cert.Kernel5Ideal.Project.final m c), (h c).2⟩)
      (Cert.Kernel5Ideal.Value.run_blocks m ρ)
  · refine (θ_run Cert.Reference5Ideal.defs _ _).mono (fun _ h c => ⟨(h c).1.trans ?_, (h c).2⟩) (Cert.Reference5Ideal.Value.run (F := Ideal) m' ρ')
    rw [(hagree c).1, (hagree c).2]
    exact Cert.Kernel5Ideal.Project.reference_eq _ _

/-- The second layer's gates: their reference runs from any memory. -/
theorem gates_reference_frame : quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- Over the reals the second layer's gates are their reference's. -/
theorem gates_algebraic : algebraic_Kernel6Ideal_Reference6Ideal (hKernel6Ideal := Cert.Kernel6Ideal.Gen.facts)
    (hReference6Ideal := Cert.Reference6Ideal.Gen.facts) := by
  intro m ρ m' ρ' _ hagree
  refine ⟨fun c => Cert.Kernel6Ideal.Project.result m c, ?_, ?_⟩
  · exact (θ_run Cert.Kernel6Ideal.defs _ _).mono (fun _ h c => ⟨(h c).1.trans (Cert.Kernel6Ideal.Project.final m c), (h c).2⟩)
      (Cert.Kernel6Ideal.Value.run_blocks m ρ)
  · refine (θ_run Cert.Reference6Ideal.defs _ _).mono (fun _ h c => ⟨(h c).1.trans ?_, (h c).2⟩) (Cert.Reference6Ideal.Value.run (F := Ideal) m' ρ')
    rw [(hagree c).1, (hagree c).2.1, (hagree c).2.2]
    exact Cert.Kernel6Ideal.Project.reference_eq _ _ _

/-- The dense gated units and their norm: its reference runs from any memory. -/
theorem dense_reference_frame : quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- Over the reals the dense gated units, normalized, are their reference's. -/
theorem dense_algebraic : algebraic_Kernel7Ideal_Reference7Ideal (hKernel7Ideal := Cert.Kernel7Ideal.Gen.facts)
    (hReference7Ideal := Cert.Reference7Ideal.Gen.facts) := by
  intro m ρ m' ρ' _ hagree
  refine ⟨fun c => Cert.Kernel7Ideal.Dense.result (m (c.tc.loc Cert.Kernel7Ideal.main_arg0)) (m (c.tc.loc Cert.Kernel7Ideal.main_arg1))
    (m (c.tc.loc Cert.Kernel7Ideal.main_arg2)) (m (c.tc.loc Cert.Kernel7Ideal.main_arg3)) (m (c.tc.loc Cert.Kernel7Ideal.main_arg4))
    (m (c.tc.loc Cert.Kernel7Ideal.main_arg5)), ?_, ?_⟩
  · exact (θ_run Cert.Kernel7Ideal.defs _ _).mono (fun _ h c => ⟨(h c).1.trans (Cert.Kernel7Ideal.Dense.final m c), (h c).2⟩)
      (Cert.Kernel7Ideal.Value.run m ρ)
  · refine (θ_run Cert.Reference7Ideal.defs _ _).mono (fun _ h c => ⟨(h c).1.trans ?_, (h c).2⟩) (Cert.Reference7Ideal.Value.run (F := Ideal) m' ρ')
    refine (Cert.Reference7Ideal.Ref.res_eq m' c).trans ?_
    obtain ⟨h0, h1, h2, h3, h4, h5⟩ := hagree c
    rw [h0, h1, h2, h3, h4, h5]
    exact Cert.Reference7Ideal.Ref.stages_eq _ _ _ _ _ _

/-- The projection after an attention, and its norm: its reference runs from any memory. -/
theorem out_reference_frame : quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- Over the reals the projection after an attention, normalized, is its reference's. -/
theorem out_algebraic : algebraic_Kernel8Ideal_Reference8Ideal (hKernel8Ideal := Cert.Kernel8Ideal.Gen.facts)
    (hReference8Ideal := Cert.Reference8Ideal.Gen.facts) := by
  intro m ρ m' ρ' _ hagree
  refine ⟨fun c => Cert.Kernel8Ideal.Residual.resultOf m c, ?_, ?_⟩
  · exact (θ_run Cert.Kernel8Ideal.defs _ _).mono (fun _ h c => ⟨(h c).1.trans (Cert.Kernel8Ideal.Residual.final m c), (h c).2⟩)
      (Cert.Kernel8Ideal.Value.run_blocks m ρ)
  · refine (θ_run Cert.Reference8Ideal.defs _ _).mono (fun _ h c => ⟨(h c).1.trans ?_, (h c).2⟩) (Cert.Reference8Ideal.Value.run (F := Ideal) m' ρ')
    obtain ⟨h0, h1, h2, h3, h4⟩ := hagree c
    rw [h0, h1, h2, h3, h4]
    exact Cert.Kernel8Ideal.Residual.reference_eq _ _ _ _ _

/-- The queries of the attention to the memory: its reference runs from any memory. -/
theorem queries_reference_frame : quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- Over the reals the queries of the attention to the memory are their reference's. -/
theorem queries_algebraic : algebraic_Kernel9Ideal_Reference9Ideal (hKernel9Ideal := Cert.Kernel9Ideal.Gen.facts)
    (hReference9Ideal := Cert.Reference9Ideal.Gen.facts) := by
  intro m ρ m' ρ' _ hagree
  refine ⟨fun c => Cert.Kernel9Ideal.Project.product m c, ?_, ?_⟩
  · exact (θ_run Cert.Kernel9Ideal.defs _ _).mono (fun _ h c => ⟨(h c).1.trans (Cert.Kernel9Ideal.Project.final m c), (h c).2⟩)
      (Cert.Kernel9Ideal.Value.run_blocks m ρ)
  · refine (θ_run Cert.Reference9Ideal.defs _ _).mono (fun _ h c => ⟨(h c).1.trans ?_, (h c).2⟩) (Cert.Reference9Ideal.Value.run (F := Ideal) m' ρ')
    rw [(hagree c).1, (hagree c).2]
    exact Cert.Kernel9Ideal.Project.reference_eq _ _

/-- The attention to the memory: its reference runs from any memory. -/
theorem memory_reference_frame : quiescent_Reference10Ideal (hReference10Ideal := Cert.Reference10Ideal.Gen.facts) := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- Over the reals the attention to the memory is its reference's, where the queries and the memory's keys are finite. -/
theorem memory_algebraic : algebraic_Kernel10Ideal_Reference10Ideal_pre_finite_queries (hKernel10Ideal := Cert.Kernel10Ideal.Gen.facts)
    (hReference10Ideal := Cert.Reference10Ideal.Gen.facts) (hPre_finite_queries := Cert.Pre_finite_queries.facts) := by
  intro m ρ m' ρ' hpre hagree
  refine ⟨fun c => Cert.Kernel10Ideal.Cross.attention (m (c.tc.loc Cert.Kernel10Ideal.main_arg0)) (m (c.tc.loc Cert.Kernel10Ideal.main_arg1))
    (m (c.tc.loc Cert.Kernel10Ideal.main_arg2)), ?_, ?_⟩
  · exact (θ_run Cert.Kernel10Ideal.defs _ _).mono (fun _ h c => ⟨(h c).1.trans (Cert.Kernel10Ideal.Cross.final m c), (h c).2⟩)
      (Cert.Kernel10Ideal.Value.run_blocks m ρ)
  · refine (θ_run Cert.Reference10Ideal.defs _ _).mono (fun _ h c => ⟨(h c).1.trans ?_, (h c).2⟩)
      (Cert.Reference10Ideal.Value.run (F := Ideal) m' ρ')
    obtain ⟨h0, h1, h2⟩ := hagree c
    rw [h0, h1, h2]
    exact Cert.Reference10Ideal.Cross.result_eq _ _ _ (Cert.Pre_finite_queries.queries _ _ _ (hpre c).1)
      (Cert.Pre_finite_queries.keys _ _ _ (hpre c).2)

/-- The sample's attention to its memories: its reference runs from any memory. -/
theorem sample_reference_frame : quiescent_Reference11Ideal (hReference11Ideal := Cert.Reference11Ideal.Gen.facts) := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- Over the reals the sample's attention to its memories is its reference's, where the queries and the memories' keys are finite. -/
theorem sample_algebraic : algebraic_Kernel11Ideal_Reference11Ideal_pre_finite_sample_queries (hKernel11Ideal := Cert.Kernel11Ideal.Gen.facts)
    (hReference11Ideal := Cert.Reference11Ideal.Gen.facts) (hPre_finite_sample_queries := Cert.Pre_finite_sample_queries.facts) := by
  intro m ρ m' ρ' hpre hagree
  refine ⟨fun c => Cert.Kernel11Ideal.Cross.attention (m (c.tc.loc Cert.Kernel11Ideal.main_arg0)) (m (c.tc.loc Cert.Kernel11Ideal.main_arg1))
    (m (c.tc.loc Cert.Kernel11Ideal.main_arg2)), ?_, ?_⟩
  · exact (θ_run Cert.Kernel11Ideal.defs _ _).mono (fun _ h c => ⟨(h c).1.trans (Cert.Kernel11Ideal.Cross.final m c), (h c).2⟩)
      (Cert.Kernel11Ideal.Value.run_blocks m ρ)
  · refine (θ_run Cert.Reference11Ideal.defs _ _).mono (fun _ h c => ⟨(h c).1.trans ?_, (h c).2⟩)
      (Cert.Reference11Ideal.Value.run (F := Ideal) m' ρ')
    obtain ⟨h0, h1, h2⟩ := hagree c
    rw [h0, h1, h2]
    exact Cert.Reference11Ideal.Cross.result_eq _ _ _ (Cert.Pre_finite_sample_queries.queries _ _ _ (hpre c).1)
      (Cert.Pre_finite_sample_queries.keys _ _ _ (hpre c).2)

/-- The prompt's cumulated gates: their reference runs from any memory. -/
theorem cumulated_reference_frame : quiescent_Reference12Ideal (hReference12Ideal := Cert.Reference12Ideal.Gen.facts) := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- Over the reals the prompt's cumulated gates are their reference's, whatever the gates. -/
theorem cumulated_algebraic : algebraic_Kernel12Ideal_Reference12Ideal (hKernel12Ideal := Cert.Kernel12Ideal.Gen.facts)
    (hReference12Ideal := Cert.Reference12Ideal.Gen.facts) := by
  intro m ρ m' ρ' _ hagree
  refine ⟨fun c => Cert.Cumulate.sums Cert.Kernel12Ideal.Cumulate.rows (B := 1) (m (c.tc.loc Cert.Kernel12Ideal.main_arg0)), ?_, ?_⟩
  · exact (θ_run Cert.Kernel12Ideal.defs _ _).mono (fun _ h c => ⟨(h c).1.trans (Cert.Kernel12Ideal.Cumulate.final m c), (h c).2⟩)
      (Cert.Kernel12Ideal.Value.run_blocks m ρ)
  · refine (θ_run Cert.Reference12Ideal.defs _ _).mono (fun _ h c => ⟨(h c).1.trans ?_, (h c).2⟩)
      (Cert.Reference12Ideal.Value.run (F := Ideal) m' ρ')
    rw [hagree c]
    exact Cert.Reference12Ideal.Cumulate.result_eq _

/-- The sample's cumulated gates: their reference runs from any memory. -/
theorem sample_cumulated_reference_frame : quiescent_Reference13Ideal (hReference13Ideal := Cert.Reference13Ideal.Gen.facts) := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- Over the reals the sample's cumulated gates are their reference's, whatever the gates. -/
theorem sample_cumulated_algebraic : algebraic_Kernel13Ideal_Reference13Ideal (hKernel13Ideal := Cert.Kernel13Ideal.Gen.facts)
    (hReference13Ideal := Cert.Reference13Ideal.Gen.facts) := by
  intro m ρ m' ρ' _ hagree
  refine ⟨fun c => Cert.Cumulate.sums Cert.Kernel13Ideal.Cumulate.rows (B := 32) (m (c.tc.loc Cert.Kernel13Ideal.main_arg0)), ?_, ?_⟩
  · exact (θ_run Cert.Kernel13Ideal.defs _ _).mono (fun _ h c => ⟨(h c).1.trans (Cert.Kernel13Ideal.Cumulate.final m c), (h c).2⟩)
      (Cert.Kernel13Ideal.Value.run_blocks m ρ)
  · refine (θ_run Cert.Reference13Ideal.defs _ _).mono (fun _ h c => ⟨(h c).1.trans ?_, (h c).2⟩)
      (Cert.Reference13Ideal.Value.run (F := Ideal) m' ρ')
    rw [hagree c]
    exact Cert.Reference13Ideal.Cumulate.result_eq _

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts, Cert.Kernel10Ideal.Gen.facts,
    Cert.Reference10Ideal.Gen.facts, Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite_scores.facts, Cert.Pre_weights_of_experts.facts, Cert.Pre_finite_queries.facts, Cert.Pre_finite_sample_queries.facts,
    fun m ρ _ => Cert.Kernel.Gen.frame m ρ, fa_frame, fun m ρ _ => Cert.KernelIdeal.Gen.frame m ρ, fun m ρ _ => fa_reference_frame m ρ,
    fun m ρ _ => fa_reference_frame m ρ, fun m ρ _ => Cert.Kernel2.Gen.frame m ρ, moe_frame,
    fun m ρ _ => Cert.Kernel2Ideal.Gen.frame m ρ, moe_reference_frame, fun m ρ _ => moe_reference_frame m ρ trivial,
    fun m ρ _ => Cert.Kernel3.Gen.frame m ρ, fun m ρ _ => Cert.Kernel3Ideal.Gen.frame m ρ, in_ab_reference_frame,
    fun m ρ _ => Cert.Kernel4.Gen.frame m ρ, fun m ρ _ => Cert.Kernel4Ideal.Gen.frame m ρ, in_c_reference_frame,
    fun m ρ _ => Cert.Kernel5.Gen.frame m ρ, fun m ρ _ => Cert.Kernel5Ideal.Gen.frame m ρ, mem_reference_frame,
    fun m ρ _ => Cert.Kernel6.Gen.frame m ρ, fun m ρ _ => Cert.Kernel6Ideal.Gen.frame m ρ, gates_reference_frame,
    fun m ρ _ => Cert.Kernel7.Gen.frame m ρ, fun m ρ _ => Cert.Kernel7Ideal.Gen.frame m ρ, dense_reference_frame,
    fun m ρ _ => Cert.Kernel8.Gen.frame m ρ, fun m ρ _ => Cert.Kernel8Ideal.Gen.frame m ρ, out_reference_frame,
    fun m ρ _ => Cert.Kernel9.Gen.frame m ρ, fun m ρ _ => Cert.Kernel9Ideal.Gen.frame m ρ, queries_reference_frame,
    fun m ρ _ => Cert.Kernel10.Gen.frame m ρ, fun m ρ _ => Cert.Kernel10Ideal.Gen.frame m ρ,
    fun m ρ _ => Cert.Kernel10Ideal.Gen.frame m ρ, memory_reference_frame, fun m ρ _ => memory_reference_frame m ρ trivial,
    fun m ρ _ => Cert.Kernel11.Gen.frame m ρ, fun m ρ _ => Cert.Kernel11Ideal.Gen.frame m ρ,
    fun m ρ _ => Cert.Kernel11Ideal.Gen.frame m ρ, sample_reference_frame, fun m ρ _ => sample_reference_frame m ρ trivial,
    fun m ρ _ => Cert.Kernel12.Gen.frame m ρ, fun m ρ _ => Cert.Kernel12Ideal.Gen.frame m ρ, cumulated_reference_frame,
    fun m ρ _ => Cert.Kernel13.Gen.frame m ρ, fun m ρ _ => Cert.Kernel13Ideal.Gen.frame m ρ, sample_cumulated_reference_frame,
    fa_preserves, fa_algebraic, trivial, moe_algebraic, trivial, in_ab_algebraic, trivial, in_c_algebraic, trivial, mem_algebraic, trivial,
    gates_algebraic, trivial, dense_algebraic, trivial, out_algebraic, trivial, queries_algebraic, trivial, memory_algebraic,
    trivial, sample_algebraic, trivial, cumulated_algebraic,
    trivial, sample_cumulated_algebraic⟩

end Cert.Proof

end
